-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GlaKernel (m : (ℓ : Loc Cert.GlaKernel.nD Cert.GlaKernel.τ Cert.GlaKernel.sig) → Buf (Elt Bits) ℓ) : Prop :=
  True

def Pre_GlaKernelIdeal (m : (ℓ : Loc Cert.GlaKernelIdeal.nD Cert.GlaKernelIdeal.τ Cert.GlaKernelIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def Pre_MobaKernel (m : (ℓ : Loc Cert.MobaKernel.nD Cert.MobaKernel.τ Cert.MobaKernel.sig) → Buf (Elt Bits) ℓ) : Prop :=
  True

def Pre_MobaKernelIdeal (m : (ℓ : Loc Cert.MobaKernelIdeal.nD Cert.MobaKernelIdeal.τ Cert.MobaKernelIdeal.sig) → Buf (Elt Ideal) ℓ) : Prop :=
  True

def Pre_MobaKernelIdeal_finite_keys [hPre_finite_keys : Cert.Pre_finite_keys.Facts] (m : (ℓ : Loc Cert.MobaKernelIdeal.nD Cert.MobaKernelIdeal.τ Cert.MobaKernelIdeal.sig) → Buf (Elt Ideal) ℓ) : Prop :=
  ∀ c : Dev Cert.MobaKernelIdeal.nD,
    (Cert.Pre_finite_keys.fn (F := Ideal) (m ((c.tc : Thread Cert.MobaKernelIdeal.nD Cert.MobaKernelIdeal.τ).loc Cert.MobaKernelIdeal.main_arg0)) (m ((c.tc : Thread Cert.MobaKernelIdeal.nD Cert.MobaKernelIdeal.τ).loc Cert.MobaKernelIdeal.main_arg1)) (m ((c.tc : Thread Cert.MobaKernelIdeal.nD Cert.MobaKernelIdeal.τ).loc Cert.MobaKernelIdeal.main_arg2)) (m ((c.tc : Thread Cert.MobaKernelIdeal.nD Cert.MobaKernelIdeal.τ).loc Cert.MobaKernelIdeal.main_arg3))).1 = (fun _ => 1#1)
    ∧ (Cert.Pre_finite_keys.fn (F := Ideal) (m ((c.tc : Thread Cert.MobaKernelIdeal.nD Cert.MobaKernelIdeal.τ).loc Cert.MobaKernelIdeal.main_arg0)) (m ((c.tc : Thread Cert.MobaKernelIdeal.nD Cert.MobaKernelIdeal.τ).loc Cert.MobaKernelIdeal.main_arg1)) (m ((c.tc : Thread Cert.MobaKernelIdeal.nD Cert.MobaKernelIdeal.τ).loc Cert.MobaKernelIdeal.main_arg2)) (m ((c.tc : Thread Cert.MobaKernelIdeal.nD Cert.MobaKernelIdeal.τ).loc Cert.MobaKernelIdeal.main_arg3))).2.1 = (fun _ => 1#1)
    ∧ (Cert.Pre_finite_keys.fn (F := Ideal) (m ((c.tc : Thread Cert.MobaKernelIdeal.nD Cert.MobaKernelIdeal.τ).loc Cert.MobaKernelIdeal.main_arg0)) (m ((c.tc : Thread Cert.MobaKernelIdeal.nD Cert.MobaKernelIdeal.τ).loc Cert.MobaKernelIdeal.main_arg1)) (m ((c.tc : Thread Cert.MobaKernelIdeal.nD Cert.MobaKernelIdeal.τ).loc Cert.MobaKernelIdeal.main_arg2)) (m ((c.tc : Thread Cert.MobaKernelIdeal.nD Cert.MobaKernelIdeal.τ).loc Cert.MobaKernelIdeal.main_arg3))).2.2 = (fun _ => 1#1)

def Pre_MobaReferenceIdeal (m : (ℓ : Loc Cert.MobaReferenceIdeal.nD Cert.MobaReferenceIdeal.τ Cert.MobaReferenceIdeal.sig) → Buf (Elt Ideal) ℓ) : Prop :=
  True

def Pre_MobaReferenceIdeal_finite_keys [hPre_finite_keys : Cert.Pre_finite_keys.Facts] (m : (ℓ : Loc Cert.MobaReferenceIdeal.nD Cert.MobaReferenceIdeal.τ Cert.MobaReferenceIdeal.sig) → Buf (Elt Ideal) ℓ) : Prop :=
  ∀ c : Dev Cert.MobaReferenceIdeal.nD,
    (Cert.Pre_finite_keys.fn (F := Ideal) (m ((c.tc : Thread Cert.MobaReferenceIdeal.nD Cert.MobaReferenceIdeal.τ).loc Cert.MobaReferenceIdeal.main_arg0)) (m ((c.tc : Thread Cert.MobaReferenceIdeal.nD Cert.MobaReferenceIdeal.τ).loc Cert.MobaReferenceIdeal.main_arg1)) (m ((c.tc : Thread Cert.MobaReferenceIdeal.nD Cert.MobaReferenceIdeal.τ).loc Cert.MobaReferenceIdeal.main_arg2)) (m ((c.tc : Thread Cert.MobaReferenceIdeal.nD Cert.MobaReferenceIdeal.τ).loc Cert.MobaReferenceIdeal.main_arg3))).1 = (fun _ => 1#1)
    ∧ (Cert.Pre_finite_keys.fn (F := Ideal) (m ((c.tc : Thread Cert.MobaReferenceIdeal.nD Cert.MobaReferenceIdeal.τ).loc Cert.MobaReferenceIdeal.main_arg0)) (m ((c.tc : Thread Cert.MobaReferenceIdeal.nD Cert.MobaReferenceIdeal.τ).loc Cert.MobaReferenceIdeal.main_arg1)) (m ((c.tc : Thread Cert.MobaReferenceIdeal.nD Cert.MobaReferenceIdeal.τ).loc Cert.MobaReferenceIdeal.main_arg2)) (m ((c.tc : Thread Cert.MobaReferenceIdeal.nD Cert.MobaReferenceIdeal.τ).loc Cert.MobaReferenceIdeal.main_arg3))).2.1 = (fun _ => 1#1)
    ∧ (Cert.Pre_finite_keys.fn (F := Ideal) (m ((c.tc : Thread Cert.MobaReferenceIdeal.nD Cert.MobaReferenceIdeal.τ).loc Cert.MobaReferenceIdeal.main_arg0)) (m ((c.tc : Thread Cert.MobaReferenceIdeal.nD Cert.MobaReferenceIdeal.τ).loc Cert.MobaReferenceIdeal.main_arg1)) (m ((c.tc : Thread Cert.MobaReferenceIdeal.nD Cert.MobaReferenceIdeal.τ).loc Cert.MobaReferenceIdeal.main_arg2)) (m ((c.tc : Thread Cert.MobaReferenceIdeal.nD Cert.MobaReferenceIdeal.τ).loc Cert.MobaReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_GlaKernel [hGlaKernel : Cert.GlaKernel.Facts] : Prop :=
  ∀ (m : (ℓ : Loc Cert.GlaKernel.nD Cert.GlaKernel.τ Cert.GlaKernel.sig) → Buf (Elt Bits) ℓ) (g : Dev Cert.GlaKernel.nD → PrngReg), Pre_GlaKernel m →
    θ_run (Cert.GlaKernel.defs (F := Bits)) (onTc (τ := Cert.GlaKernel.τ) (Cert.GlaKernel.main (F := Bits))) ⟨m, fun _ => 0, g⟩ (fun r => (∀ c : Dev Cert.GlaKernel.nD,
      r.2.mem ((c.tc : Thread Cert.GlaKernel.nD Cert.GlaKernel.τ).loc Cert.GlaKernel.main_arg0) = m ((c.tc : Thread Cert.GlaKernel.nD Cert.GlaKernel.τ).loc Cert.GlaKernel.main_arg0)
      ∧ r.2.mem ((c.tc : Thread Cert.GlaKernel.nD Cert.GlaKernel.τ).loc Cert.GlaKernel.main_arg1) = m ((c.tc : Thread Cert.GlaKernel.nD Cert.GlaKernel.τ).loc Cert.GlaKernel.main_arg1)
      ∧ r.2.mem ((c.tc : Thread Cert.GlaKernel.nD Cert.GlaKernel.τ).loc Cert.GlaKernel.main_arg2) = m ((c.tc : Thread Cert.GlaKernel.nD Cert.GlaKernel.τ).loc Cert.GlaKernel.main_arg2)
      ∧ r.2.mem ((c.tc : Thread Cert.GlaKernel.nD Cert.GlaKernel.τ).loc Cert.GlaKernel.main_arg3) = m ((c.tc : Thread Cert.GlaKernel.nD Cert.GlaKernel.τ).loc Cert.GlaKernel.main_arg3)
      ∧ r.2.mem ((c.tc : Thread Cert.GlaKernel.nD Cert.GlaKernel.τ).loc Cert.GlaKernel.main_arg4) = m ((c.tc : Thread Cert.GlaKernel.nD Cert.GlaKernel.τ).loc Cert.GlaKernel.main_arg4))
      ∧ r.2.sem = fun _ => 0)

def quiescent_GlaKernelIdeal [hGlaKernelIdeal : Cert.GlaKernelIdeal.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg), Pre_GlaKernelIdeal m →
    θ_run (Cert.GlaKernelIdeal.defs (F := Ideal)) (onTc (τ := Cert.GlaKernelIdeal.τ) (Cert.GlaKernelIdeal.main (F := Ideal))) ⟨m, fun _ => 0, g⟩ (fun r => (∀ c : Dev Cert.GlaKernelIdeal.nD,
      r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
      ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
      ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
      ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
      ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4))
      ∧ r.2.sem = fun _ => 0)

def quiescent_MobaKernel [hMobaKernel : Cert.MobaKernel.Facts] : Prop :=
  ∀ (m : (ℓ : Loc Cert.MobaKernel.nD Cert.MobaKernel.τ Cert.MobaKernel.sig) → Buf (Elt Bits) ℓ) (g : Dev Cert.MobaKernel.nD → PrngReg), Pre_MobaKernel m →
    θ_run (Cert.MobaKernel.defs (F := Bits)) (onTc (τ := Cert.MobaKernel.τ) (Cert.MobaKernel.main (F := Bits))) ⟨m, fun _ => 0, g⟩ (fun r => (∀ c : Dev Cert.MobaKernel.nD,
      r.2.mem ((c.tc : Thread Cert.MobaKernel.nD Cert.MobaKernel.τ).loc Cert.MobaKernel.main_arg0) = m ((c.tc : Thread Cert.MobaKernel.nD Cert.MobaKernel.τ).loc Cert.MobaKernel.main_arg0)
      ∧ r.2.mem ((c.tc : Thread Cert.MobaKernel.nD Cert.MobaKernel.τ).loc Cert.MobaKernel.main_arg1) = m ((c.tc : Thread Cert.MobaKernel.nD Cert.MobaKernel.τ).loc Cert.MobaKernel.main_arg1)
      ∧ r.2.mem ((c.tc : Thread Cert.MobaKernel.nD Cert.MobaKernel.τ).loc Cert.MobaKernel.main_arg2) = m ((c.tc : Thread Cert.MobaKernel.nD Cert.MobaKernel.τ).loc Cert.MobaKernel.main_arg2)
      ∧ r.2.mem ((c.tc : Thread Cert.MobaKernel.nD Cert.MobaKernel.τ).loc Cert.MobaKernel.main_arg3) = m ((c.tc : Thread Cert.MobaKernel.nD Cert.MobaKernel.τ).loc Cert.MobaKernel.main_arg3))
      ∧ r.2.sem = fun _ => 0)

def quiescent_MobaKernelIdeal [hMobaKernelIdeal : Cert.MobaKernelIdeal.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg), Pre_MobaKernelIdeal m →
    θ_run (Cert.MobaKernelIdeal.defs (F := Ideal)) (onTc (τ := Cert.MobaKernelIdeal.τ) (Cert.MobaKernelIdeal.main (F := Ideal))) ⟨m, fun _ => 0, g⟩ (fun r => (∀ c : Dev Cert.MobaKernelIdeal.nD,
      r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
      ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
      ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
      ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ r.2.sem = fun _ => 0)

def quiescent_MobaKernelIdeal_pre_finite_keys [hMobaKernelIdeal : Cert.MobaKernelIdeal.Facts] [hPre_finite_keys : Cert.Pre_finite_keys.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg), Pre_MobaKernelIdeal_finite_keys m →
    θ_run (Cert.MobaKernelIdeal.defs (F := Ideal)) (onTc (τ := Cert.MobaKernelIdeal.τ) (Cert.MobaKernelIdeal.main (F := Ideal))) ⟨m, fun _ => 0, g⟩ (fun r => (∀ c : Dev Cert.MobaKernelIdeal.nD,
      r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
      ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
      ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
      ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ r.2.sem = fun _ => 0)

def quiescent_MobaReferenceIdeal [hMobaReferenceIdeal : Cert.MobaReferenceIdeal.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0)

def quiescent_MobaReferenceIdeal_pre_finite_keys [hMobaReferenceIdeal : Cert.MobaReferenceIdeal.Facts] [hPre_finite_keys : Cert.Pre_finite_keys.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal_finite_keys m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v2_0)) (v1 : (c : Dev Cert.MemKernelIdeal.nD) → Buf (Elt Ideal) ((c.tc : Thread Cert.MemKernelIdeal.nD Cert.MemKernelIdeal.τ).loc Cert.MemKernelIdeal.main_v2_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v2_0) = v0 c
          ∧ r.2.mem ((c.tc : Thread Cert.MemKernelIdeal.nD Cert.MemKernelIdeal.τ).loc Cert.MemKernelIdeal.main_v2_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v41) = v0 c
          ∧ r.2.mem ((c.tc : Thread Cert.MemReferenceIdeal.nD Cert.MemReferenceIdeal.τ).loc Cert.MemReferenceIdeal.main_v42) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v11_0)) (v1 : (c : Dev Cert.ProjKernelIdeal.nD) → Buf (Elt Ideal) ((c.tc : Thread Cert.ProjKernelIdeal.nD Cert.ProjKernelIdeal.τ).loc Cert.ProjKernelIdeal.main_v11_1)) (v2 : (c : Dev Cert.ProjKernelIdeal.nD) → Buf (Elt Ideal) ((c.tc : Thread Cert.ProjKernelIdeal.nD Cert.ProjKernelIdeal.τ).loc Cert.ProjKernelIdeal.main_v11_2)) (v3 : (c : Dev Cert.ProjKernelIdeal.nD) → Buf (Elt Ideal) ((c.tc : Thread Cert.ProjKernelIdeal.nD Cert.ProjKernelIdeal.τ).loc Cert.ProjKernelIdeal.main_v11_3)) (v4 : (c : Dev Cert.ProjKernelIdeal.nD) → Buf (Elt Ideal) ((c.tc : Thread Cert.ProjKernelIdeal.nD Cert.ProjKernelIdeal.τ).loc Cert.ProjKernelIdeal.main_v11_4)) (v5 : (c : Dev Cert.ProjKernelIdeal.nD) → Buf (Elt Ideal) ((c.tc : Thread Cert.ProjKernelIdeal.nD Cert.ProjKernelIdeal.τ).loc Cert.ProjKernelIdeal.main_v11_5)) (v6 : (c : Dev Cert.ProjKernelIdeal.nD) → Buf (Elt Ideal) ((c.tc : Thread Cert.ProjKernelIdeal.nD Cert.ProjKernelIdeal.τ).loc Cert.ProjKernelIdeal.main_v11_6)) (v7 : (c : Dev Cert.ProjKernelIdeal.nD) → Buf (Elt Ideal) ((c.tc : Thread Cert.ProjKernelIdeal.nD Cert.ProjKernelIdeal.τ).loc Cert.ProjKernelIdeal.main_v11_7)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v11_0) = v0 c
          ∧ r.2.mem ((c.tc : Thread Cert.ProjKernelIdeal.nD Cert.ProjKernelIdeal.τ).loc Cert.ProjKernelIdeal.main_v11_1) = v1 c
          ∧ r.2.mem ((c.tc : Thread Cert.ProjKernelIdeal.nD Cert.ProjKernelIdeal.τ).loc Cert.ProjKernelIdeal.main_v11_2) = v2 c
          ∧ r.2.mem ((c.tc : Thread Cert.ProjKernelIdeal.nD Cert.ProjKernelIdeal.τ).loc Cert.ProjKernelIdeal.main_v11_3) = v3 c
          ∧ r.2.mem ((c.tc : Thread Cert.ProjKernelIdeal.nD Cert.ProjKernelIdeal.τ).loc Cert.ProjKernelIdeal.main_v11_4) = v4 c
          ∧ r.2.mem ((c.tc : Thread Cert.ProjKernelIdeal.nD Cert.ProjKernelIdeal.τ).loc Cert.ProjKernelIdeal.main_v11_5) = v5 c
          ∧ r.2.mem ((c.tc : Thread Cert.ProjKernelIdeal.nD Cert.ProjKernelIdeal.τ).loc Cert.ProjKernelIdeal.main_v11_6) = v6 c
          ∧ r.2.mem ((c.tc : Thread Cert.ProjKernelIdeal.nD Cert.ProjKernelIdeal.τ).loc Cert.ProjKernelIdeal.main_v11_7) = v7 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v43) = v0 c
          ∧ r.2.mem ((c.tc : Thread Cert.ProjReferenceIdeal.nD Cert.ProjReferenceIdeal.τ).loc Cert.ProjReferenceIdeal.main_v44) = v1 c
          ∧ r.2.mem ((c.tc : Thread Cert.ProjReferenceIdeal.nD Cert.ProjReferenceIdeal.τ).loc Cert.ProjReferenceIdeal.main_v45) = v2 c
          ∧ r.2.mem ((c.tc : Thread Cert.ProjReferenceIdeal.nD Cert.ProjReferenceIdeal.τ).loc Cert.ProjReferenceIdeal.main_v33) = v3 c
          ∧ r.2.mem ((c.tc : Thread Cert.ProjReferenceIdeal.nD Cert.ProjReferenceIdeal.τ).loc Cert.ProjReferenceIdeal.main_v21) = v4 c
          ∧ r.2.mem ((c.tc : Thread Cert.ProjReferenceIdeal.nD Cert.ProjReferenceIdeal.τ).loc Cert.ProjReferenceIdeal.main_v22) = v5 c
          ∧ r.2.mem ((c.tc : Thread Cert.ProjReferenceIdeal.nD Cert.ProjReferenceIdeal.τ).loc Cert.ProjReferenceIdeal.main_v46) = v6 c
          ∧ r.2.mem ((c.tc : Thread Cert.ProjReferenceIdeal.nD Cert.ProjReferenceIdeal.τ).loc Cert.ProjReferenceIdeal.main_v40) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_GlaKernel_GlaKernelIdeal : Prop :=
  True

def algebraic_GlaKernelIdeal_GlaReferenceIdeal [hGlaKernelIdeal : Cert.GlaKernelIdeal.Facts] [hGlaReferenceIdeal : Cert.GlaReferenceIdeal.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaKernelIdeal m →
    (∀ c : Dev Cert.GlaKernelIdeal.nD,
      m' ((c.tc : Thread Cert.GlaReferenceIdeal.nD Cert.GlaReferenceIdeal.τ).loc Cert.GlaReferenceIdeal.main_arg0) = m ((c.tc : Thread Cert.GlaKernelIdeal.nD Cert.GlaKernelIdeal.τ).loc Cert.GlaKernelIdeal.main_arg0)
      ∧ m' ((c.tc : Thread Cert.GlaReferenceIdeal.nD Cert.GlaReferenceIdeal.τ).loc Cert.GlaReferenceIdeal.main_arg1) = m ((c.tc : Thread Cert.GlaKernelIdeal.nD Cert.GlaKernelIdeal.τ).loc Cert.GlaKernelIdeal.main_arg1)
      ∧ m' ((c.tc : Thread Cert.GlaReferenceIdeal.nD Cert.GlaReferenceIdeal.τ).loc Cert.GlaReferenceIdeal.main_arg2) = m ((c.tc : Thread Cert.GlaKernelIdeal.nD Cert.GlaKernelIdeal.τ).loc Cert.GlaKernelIdeal.main_arg2)
      ∧ m' ((c.tc : Thread Cert.GlaReferenceIdeal.nD Cert.GlaReferenceIdeal.τ).loc Cert.GlaReferenceIdeal.main_arg3) = m ((c.tc : Thread Cert.GlaKernelIdeal.nD Cert.GlaKernelIdeal.τ).loc Cert.GlaKernelIdeal.main_arg3)
      ∧ m' ((c.tc : Thread Cert.GlaReferenceIdeal.nD Cert.GlaReferenceIdeal.τ).loc Cert.GlaReferenceIdeal.main_arg4) = m ((c.tc : Thread Cert.GlaKernelIdeal.nD Cert.GlaKernelIdeal.τ).loc Cert.GlaKernelIdeal.main_arg4)) →
    ∃ (v0 : (c : Dev Cert.GlaKernelIdeal.nD) → Buf (Elt Ideal) ((c.tc : Thread Cert.GlaKernelIdeal.nD Cert.GlaKernelIdeal.τ).loc Cert.GlaKernelIdeal.main_v1)),
      θ_run (Cert.GlaKernelIdeal.defs (F := Ideal)) (onTc (τ := Cert.GlaKernelIdeal.τ) (Cert.GlaKernelIdeal.main (F := Ideal))) ⟨m, fun _ => 0, g⟩ (fun r => ∀ c : Dev Cert.GlaKernelIdeal.nD,
          r.2.mem ((c.tc : Thread Cert.GlaKernelIdeal.nD Cert.GlaKernelIdeal.τ).loc Cert.GlaKernelIdeal.main_v1) = v0 c
          ∧ r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
          ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
          ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
          ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
          ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v67) = v0 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4))

def preserves_MobaKernel_MobaKernelIdeal : Prop :=
  True

def algebraic_MobaKernelIdeal_MobaReferenceIdeal_pre_finite_keys [hMobaKernelIdeal : Cert.MobaKernelIdeal.Facts] [hMobaReferenceIdeal : Cert.MobaReferenceIdeal.Facts] [hPre_finite_keys : Cert.Pre_finite_keys.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg)
    (m' : (ℓ : Loc Cert.MobaReferenceIdeal.nD Cert.MobaReferenceIdeal.τ Cert.MobaReferenceIdeal.sig) → Buf (Elt Ideal) ℓ) (g' : Dev Cert.MobaReferenceIdeal.nD → PrngReg), Pre_MobaKernelIdeal_finite_keys m →
    (∀ c : Dev Cert.MobaKernelIdeal.nD,
      m' ((c.tc : Thread Cert.MobaReferenceIdeal.nD Cert.MobaReferenceIdeal.τ).loc Cert.MobaReferenceIdeal.main_arg0) = m ((c.tc : Thread Cert.MobaKernelIdeal.nD Cert.MobaKernelIdeal.τ).loc Cert.MobaKernelIdeal.main_arg0)
      ∧ m' ((c.tc : Thread Cert.MobaReferenceIdeal.nD Cert.MobaReferenceIdeal.τ).loc Cert.MobaReferenceIdeal.main_arg1) = m ((c.tc : Thread Cert.MobaKernelIdeal.nD Cert.MobaKernelIdeal.τ).loc Cert.MobaKernelIdeal.main_arg1)
      ∧ m' ((c.tc : Thread Cert.MobaReferenceIdeal.nD Cert.MobaReferenceIdeal.τ).loc Cert.MobaReferenceIdeal.main_arg2) = m ((c.tc : Thread Cert.MobaKernelIdeal.nD Cert.MobaKernelIdeal.τ).loc Cert.MobaKernelIdeal.main_arg2)
      ∧ m' ((c.tc : Thread Cert.MobaReferenceIdeal.nD Cert.MobaReferenceIdeal.τ).loc Cert.MobaReferenceIdeal.main_arg3) = m ((c.tc : Thread Cert.MobaKernelIdeal.nD Cert.MobaKernelIdeal.τ).loc Cert.MobaKernelIdeal.main_arg3)) →
    ∃ (v0 : (c : Dev Cert.MobaKernelIdeal.nD) → Buf (Elt Ideal) ((c.tc : Thread Cert.MobaKernelIdeal.nD Cert.MobaKernelIdeal.τ).loc Cert.MobaKernelIdeal.main_v0)),
      θ_run (Cert.MobaKernelIdeal.defs (F := Ideal)) (onTc (τ := Cert.MobaKernelIdeal.τ) (Cert.MobaKernelIdeal.main (F := Ideal))) ⟨m, fun _ => 0, g⟩ (fun r => ∀ c : Dev Cert.MobaKernelIdeal.nD,
          r.2.mem ((c.tc : Thread Cert.MobaKernelIdeal.nD Cert.MobaKernelIdeal.τ).loc Cert.MobaKernelIdeal.main_v0) = v0 c
          ∧ r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
          ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
          ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
          ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ θ_run (Cert.MobaReferenceIdeal.defs (F := Ideal)) (onTc (τ := Cert.MobaReferenceIdeal.τ) (Cert.MobaReferenceIdeal.main (F := Ideal))) ⟨m', fun _ => 0, g'⟩ (fun r => ∀ c : Dev Cert.MobaReferenceIdeal.nD,
          r.2.mem ((c.tc : Thread Cert.MobaReferenceIdeal.nD Cert.MobaReferenceIdeal.τ).loc Cert.MobaReferenceIdeal.main_v75) = v0 c
          ∧ r.2.mem ((c.tc : Thread Cert.MobaReferenceIdeal.nD Cert.MobaReferenceIdeal.τ).loc Cert.MobaReferenceIdeal.main_arg0) = m' ((c.tc : Thread Cert.MobaReferenceIdeal.nD Cert.MobaReferenceIdeal.τ).loc Cert.MobaReferenceIdeal.main_arg0)
          ∧ r.2.mem ((c.tc : Thread Cert.MobaReferenceIdeal.nD Cert.MobaReferenceIdeal.τ).loc Cert.MobaReferenceIdeal.main_arg1) = m' ((c.tc : Thread Cert.MobaReferenceIdeal.nD Cert.MobaReferenceIdeal.τ).loc Cert.MobaReferenceIdeal.main_arg1)
          ∧ r.2.mem ((c.tc : Thread Cert.MobaReferenceIdeal.nD Cert.MobaReferenceIdeal.τ).loc Cert.MobaReferenceIdeal.main_arg2) = m' ((c.tc : Thread Cert.MobaReferenceIdeal.nD Cert.MobaReferenceIdeal.τ).loc Cert.MobaReferenceIdeal.main_arg2)
          ∧ r.2.mem ((c.tc : Thread Cert.MobaReferenceIdeal.nD Cert.MobaReferenceIdeal.τ).loc Cert.MobaReferenceIdeal.main_arg3) = m' ((c.tc : Thread Cert.MobaReferenceIdeal.nD Cert.MobaReferenceIdeal.τ).loc Cert.MobaReferenceIdeal.main_arg3))

def Claim : Prop :=
  ∃ (hKernel : Cert.Kernel.Facts) (hKernelIdeal : Cert.KernelIdeal.Facts) (hReferenceIdeal : Cert.ReferenceIdeal.Facts) (hMemKernel : Cert.MemKernel.Facts) (hMemKernelIdeal : Cert.MemKernelIdeal.Facts) (hMemReferenceIdeal : Cert.MemReferenceIdeal.Facts) (hProjKernel : Cert.ProjKernel.Facts) (hProjKernelIdeal : Cert.ProjKernelIdeal.Facts) (hProjReferenceIdeal : Cert.ProjReferenceIdeal.Facts) (hGlaKernel : Cert.GlaKernel.Facts) (hGlaKernelIdeal : Cert.GlaKernelIdeal.Facts) (hGlaReferenceIdeal : Cert.GlaReferenceIdeal.Facts) (hMobaKernel : Cert.MobaKernel.Facts) (hMobaKernelIdeal : Cert.MobaKernelIdeal.Facts) (hMobaReferenceIdeal : Cert.MobaReferenceIdeal.Facts) (hPre_finite_scores : Cert.Pre_finite_scores.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GlaKernel (hGlaKernel := hGlaKernel)
    ∧ quiescent_GlaKernelIdeal (hGlaKernelIdeal := hGlaKernelIdeal)
    ∧ quiescent_GlaReferenceIdeal (hGlaReferenceIdeal := hGlaReferenceIdeal)
    ∧ quiescent_MobaKernel (hMobaKernel := hMobaKernel)
    ∧ quiescent_MobaKernelIdeal (hMobaKernelIdeal := hMobaKernelIdeal)
    ∧ quiescent_MobaKernelIdeal_pre_finite_keys (hMobaKernelIdeal := hMobaKernelIdeal) (hPre_finite_keys := hPre_finite_keys)
    ∧ quiescent_MobaReferenceIdeal (hMobaReferenceIdeal := hMobaReferenceIdeal)
    ∧ quiescent_MobaReferenceIdeal_pre_finite_keys (hMobaReferenceIdeal := hMobaReferenceIdeal) (hPre_finite_keys := hPre_finite_keys)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_MemKernel_MemKernelIdeal
    ∧ algebraic_MemKernelIdeal_MemReferenceIdeal (hMemKernelIdeal := hMemKernelIdeal) (hMemReferenceIdeal := hMemReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_GlaKernel_GlaKernelIdeal
    ∧ algebraic_GlaKernelIdeal_GlaReferenceIdeal (hGlaKernelIdeal := hGlaKernelIdeal) (hGlaReferenceIdeal := hGlaReferenceIdeal)
    ∧ preserves_MobaKernel_MobaKernelIdeal
    ∧ algebraic_MobaKernelIdeal_MobaReferenceIdeal_pre_finite_keys (hMobaKernelIdeal := hMobaKernelIdeal) (hMobaReferenceIdeal := hMobaReferenceIdeal) (hPre_finite_keys := hPre_finite_keys)
-- ==== Pre_finite_keys.lean ====
abbrev S8x4096x512 : Shape := ⟨3, ![8, 4096, 512]⟩
abbrev S8x16x512 : Shape := ⟨3, ![8, 16, 512]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  bcast_S_S8x16x512 : S_.BroadcastsInDim S8x16x512 (![] : Fin 0 → Fin S8x16x512.rank)

variable [Facts]

def fn {F : FTy → Type} [FloatOps F] (main_arg0 : FVec F S8x4096x512 .bf16) (main_arg1 : FVec F S8x4096x512 .bf16) (main_arg2 : FVec F S8x4096x512 .bf16) (main_arg3 : FVec F S8x16x512 .f32) : IVec S8x4096x512 1 × IVec S8x4096x512 1 × IVec S8x16x512 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4096x512 .f32 := (extf .f32 · bitsLt_bf16_f32) main_arg1
  let main_v5 : FVec F S8x4096x512 .f32 := Host.absf main_v4
  let main_cst_0 : FVec F S_ .f32 := constant S_ .f32 0x7F800000#32
  let main_v6 : FVec F S8x4096x512 .f32 := broadcastInDim S8x4096x512 ![] bcast_S_S8x4096x512 main_cst_0
  let main_v7 : IVec S8x4096x512 1 := cmpf .olt main_v5 main_v6
  let main_v8 : FVec F S8x16x512 .f32 := Host.absf main_arg3
  let main_cst_1 : FVec F S_ .f32 := constant S_ .f32 0x7F800000#32
  let main_v9 : FVec F S8x16x512 .f32 := broadcastInDim S8x16x512 ![] bcast_S_S8x16x512 main_cst_1
  let main_v10 : IVec S8x16x512 1 := cmpf .olt main_v8 main_v9
  (main_v3, main_v7, main_v10)
-- ==== Pre_finite_scores.lean ====
abbrev S8x4096x1024 : Shape := ⟨3, ![8, 4096, 1024]⟩
abbrev S8x4096x512 : Shape := ⟨3, ![8, 4096, 512]⟩
abbrev S8x256x512 : Shape := ⟨3, ![8, 256, 512]⟩
abbrev S1024 : Shape := ⟨1, ![1024]⟩
abbrev S1024x10256 : Shape := ⟨2, ![1024, 10256]⟩
abbrev S31x512 : Shape := ⟨2, ![31, 512]⟩
abbrev S512 : Shape := ⟨1, ![512]⟩
abbrev S4x512x1024 : Shape := ⟨3, ![4, 512, 1024]⟩
abbrev S1024x1024 : Shape := ⟨2, ![1024, 1024]⟩
abbrev S1024x512 : Shape := ⟨2, ![1024, 512]⟩
abbrev S1024x256 : Shape := ⟨2, ![1024, 256]⟩
abbrev S1024x16 : Shape := ⟨2, ![1024, 16]⟩
abbrev S1024x4096 : Shape := ⟨2, ![1024, 4096]⟩
abbrev S_ : Shape := ⟨0, ![]⟩

class Facts : Prop where
  slices_S1024x10256_S1024x512_0_0 : S1024x10256.Slices ![0, 0] S1024x512
  slices_S1024x10256_S1024x512_0_512 : S1024x10256.Slices ![0, 512] S1024x512
  slices_S1024x10256_S1024x512_0_1024 : S1024x10256.Slices ![0, 1024] S1024x512
  slices_S1024x10256_S1024x512_0_1536 : S1024x10256.Slices ![0, 1536] S1024x512
  slices_S1024x10256_S1024x512_0_2048 : S1024x10256.Slices ![0, 2048] S1024x512
  slices_S1024x10256_S1024x512_0_2560 : S1024x10256.Slices ![0, 2560] S1024x512
  slices_S1024x10256_S1024x512_0_3072 : S1024x10256.Slices ![0, 3072] S1024x512
  slices_S1024x10256_S1024x256_0_3584 : S1024x10256.Slices ![0, 3584] S1024x256
  slices_S1024x10256_S1024x256_0_3840 : S1024x10256.Slices ![0, 3840] S1024x256
  slices_S1024x10256_S1024x512_0_4096 : S1024x10256.Slices ![0, 4096] S1024x512
  slices_S1024x10256_S1024x16_0_4608 : S1024x10256.Slices ![0, 4608] S1024x16
  slices_S1024x10256_S1024x512_0_4624 : S1024x10256.Slices ![0, 4624] S1024x512
  slices_S1024x10256_S1024x512_0_5136 : S1024x10256.Slices ![0, 5136] S1024x512
  slices_S1024x10256_S1024x512_0_5648 : S1024x10256.Slices ![0, 5648] S1024x512
  slices_S1024x10256_S1024x4096_0_6160 : S1024x10256.Slices ![0, 6160] S1024x4096
  bcast_S_S1024 : S_.BroadcastsInDim S1024 (![] : Fin 0 → Fin S1024.rank)
  bcast_S_S1024x512 : S_.BroadcastsInDim S1024x512 (![] : Fin 0 → Fin S1024x512.rank)
  bitsLt_bf16_f32 : FTy.bits .bf16 < FTy.bits .f32
  bcast_S_S8x256x512 : S_.BroadcastsInDim S8x256x512 (![] : Fin 0 → Fin S8x256x512.rank)

variable [Facts]

def fn_part1 {F : FTy → Type} [FloatOps F] (main_v17 : IVec S1024 1) (main_v20 : IVec S1024x512 1) (main_v21 : FVec F S8x256x512 .f32) : IVec S1024 1 × IVec S1024x512 1 × IVec S8x256x512 1 :=
  let main_v22 : FVec F S8x256x512 .f32 := Host.absf main_v21
  let main_cst_1 : FVec F S_ .f32 := constant S_ .f32 0x7F800000#32
  let main_v23 : FVec F S8x256x512 .f32 := broadcastInDim S8x256x512 ![] bcast_S_S8x256x512 main_cst_1
  let main_v24 : IVec S8x256x512 1 := cmpf .olt main_v22 main_v23
  (main_v17, main_v20, main_v24)

def fn {F : FTy → Type} [FloatOps F] (main_arg0 : FVec F S8x4096x1024 .f32) (main_arg1 : FVec F S8x4096x512 .bf16) (main_arg2 : FVec F S8x4096x512 .bf16) (main_arg3 : FVec F S8x256x512 .bf16) (main_arg4 : FVec F S8x256x512 .bf16) (main_arg5 : FVec F S1024 .f32) (main_arg6 : FVec F S1024x10256 .f32) (main_arg7 : FVec F S31x512 .f32) (main_arg8 : FVec F S512 .f32) (main_arg9 : FVec F S512 .f32) (main_arg10 : FVec F S512 .f32) (main_arg11 : FVec F S4x512x1024 .f32) (main_arg12 : FVec F S1024x1024 .f32) (main_arg13 : FVec F S1024 .f32) : IVec S1024 1 × IVec S1024x512 1 × IVec S8x256x512 1 :=
  let main_v0 : FVec F S1024x512 .f32 := (extractStridedSlice S1024x512 ![0, 0] · slices_S1024x10256_S1024x512_0_0) main_arg6
  let main_v1 : FVec F S1024x512 .f32 := (extractStridedSlice S1024x512 ![0, 512] · slices_S1024x10256_S1024x512_0_512) main_arg6
  let main_v2 : FVec F S1024x512 .f32 := (extractStridedSlice S1024x512 ![0, 1024] · slices_S1024x10256_S1024x512_0_1024) main_arg6
  let main_v3 : FVec F S1024x512 .f32 := (extractStridedSlice S1024x512 ![0, 1536] · slices_S1024x10256_S1024x512_0_1536) main_arg6
  let main_v4 : FVec F S1024x512 .f32 := (extractStridedSlice S1024x512 ![0, 2048] · slices_S1024x10256_S1024x512_0_2048) main_arg6
  let main_v5 : FVec F S1024x512 .f32 := (extractStridedSlice S1024x512 ![0, 2560] · slices_S1024x10256_S1024x512_0_2560) main_arg6
  let main_v6 : FVec F S1024x512 .f32 := (extractStridedSlice S1024x512 ![0, 3072] · slices_S1024x10256_S1024x512_0_3072) main_arg6
  let main_v7 : FVec F S1024x256 .f32 := (extractStridedSlice S1024x256 ![0, 3584] · slices_S1024x10256_S1024x256_0_3584) main_arg6
  let main_v8 : FVec F S1024x256 .f32 := (extractStridedSlice S1024x256 ![0, 3840] · slices_S1024x10256_S1024x256_0_3840) main_arg6
  let main_v9 : FVec F S1024x512 .f32 := (extractStridedSlice S1024x512 ![0, 4096] · slices_S1024x10256_S1024x512_0_4096) main_arg6
  let main_v10 : FVec F S1024x16 .f32 := (extractStridedSlice S1024x16 ![0, 4608] · slices_S1024x10256_S1024x16_0_4608) main_arg6
  let main_v11 : FVec F S1024x512 .f32 := (extractStridedSlice S1024x512 ![0, 4624] · slices_S1024x10256_S1024x512_0_4624) main_arg6
  let main_v12 : FVec F S1024x512 .f32 := (extractStridedSlice S1024x512 ![0, 5136] · slices_S1024x10256_S1024x512_0_5136) main_arg6
  let main_v13 : FVec F S1024x512 .f32 := (extractStridedSlice S1024x512 ![0, 5648] · slices_S1024x10256_S1024x512_0_5648) main_arg6
  let main_v14 : FVec F S1024x4096 .f32 := (extractStridedSlice S1024x4096 ![0, 6160] · slices_S1024x10256_S1024x4096_0_6160) main_arg6
  let main_v15 : FVec F S1024 .f32 := Host.absf main_arg5
  let main_cst : FVec F S_ .f32 := constant S_ .f32 0x7F800000#32
  let main_v16 : FVec F S1024 .f32 := broadcastInDim S1024 ![] bcast_S_S1024 main_cst
  let main_v17 : IVec S1024 1 := cmpf .olt main_v15 main_v16
  let main_v18 : FVec F S1024x512 .f32 := Host.absf main_v12
  let main_cst_0 : FVec F S_ .f32 := constant S_ .f32 0x7F800000#32
  let main_v19 : FVec F S1024x512 .f32 := broadcastInDim S1024x512 ![] bcast_S_S1024x512 main_cst_0
  let main_v20 : IVec S1024x512 1 := cmpf .olt main_v18 main_v19
  let main_v21 : FVec F S8x256x512 .f32 := (extf .f32 · bitsLt_bf16_f32) main_arg3
  fn_part1 (F := F) main_v17 main_v20 main_v21
-- ==== Kernel.lean ====
abbrev S8x4096x1024 : Shape := ⟨3, ![8, 4096, 1024]⟩
abbrev S8x4096x512 : Shape := ⟨3, ![8, 4096, 512]⟩
abbrev S8x256x512 : Shape := ⟨3, ![8, 256, 512]⟩
abbrev S1024 : Shape := ⟨1, ![1024]⟩
abbrev S1024x10256 : Shape := ⟨2, ![1024, 10256]⟩
abbrev S31x512 : Shape := ⟨2, ![31, 512]⟩
abbrev S512 : Shape := ⟨1, ![512]⟩
abbrev S4x512x1024 : Shape := ⟨3, ![4, 512, 1024]⟩
abbrev S1024x1024 : Shape := ⟨2, ![1024, 1024]⟩
abbrev S1024x1536 : Shape := ⟨2, ![1024, 1536]⟩
abbrev S1024x512 : Shape := ⟨2, ![1024, 512]⟩
abbrev S1024x5632 : Shape := ⟨2, ![1024, 5632]⟩
abbrev S1024x7680 : Shape := ⟨2, ![1024, 7680]⟩
abbrev S1x1024 : Shape := ⟨2, ![1, 1024]⟩
abbrev S1x512 : Shape := ⟨2, ![1, 512]⟩
abbrev S1x256x1024 : Shape := ⟨3, ![1, 256, 1024]⟩
abbrev S1x256x512 : Shape := ⟨3, ![1, 256, 512]⟩
abbrev S288x512 : Shape := ⟨2, ![288, 512]⟩
abbrev S256x1024 : Shape := ⟨2, ![256, 1024]⟩
abbrev S256 : Shape := ⟨1, ![256]⟩
abbrev S256x1 : Shape := ⟨2, ![256, 1]⟩
abbrev S32x512 : Shape := ⟨2, ![32, 512]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩
abbrev S1x512x1024 : Shape := ⟨3, ![1, 512, 1024]⟩
abbrev S512x1024 : Shape := ⟨2, ![512, 1024]⟩

abbrev nBuf : Space → Nat
  | .hbm => 27
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x256x512, .bf16⟩
  | .hbm, ⟨4, _⟩ => ⟨S8x256x512, .bf16⟩
  | .hbm, ⟨5, _⟩ => ⟨S1024, .f32⟩
  | .hbm, ⟨6, _⟩ => ⟨S1024x10256, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x512x1024, .f32⟩
  | .hbm, ⟨12, _⟩ => ⟨S1024x1024, .f32⟩
  | .hbm, ⟨13, _⟩ => ⟨S1024, .f32⟩
  | .hbm, ⟨14, _⟩ => ⟨S1024x1536, .f32⟩
  | .hbm, ⟨15, _⟩ => ⟨S1024x512, .f32⟩
  | .hbm, ⟨16, _⟩ => ⟨S1024x5632, .f32⟩
  | .hbm, ⟨17, _⟩ => ⟨S1024x7680, .f32⟩
  | .hbm, ⟨18, _⟩ => ⟨S1024x7680, .bf16⟩
  | .hbm, ⟨19, _⟩ => ⟨S4x512x1024, .bf16⟩
  | .hbm, ⟨20, _⟩ => ⟨S1024x1024, .bf16⟩
  | .hbm, ⟨21, _⟩ => ⟨S1x1024, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x1024, .f32⟩
  | .hbm, ⟨26, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x1024, .f32⟩
  | .local _ .vmem, ⟨11, _⟩ => ⟨S1024x7680, .bf16⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S4x512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x256x1024, .f32⟩
  | .local _ .vmem, ⟨20, _⟩ => ⟨S1x256x1024, .f32⟩
  | .local _ .vmem, ⟨21, _⟩ => ⟨S288x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x7680 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x4096x1024 : Shape := ⟨3, ![8, 4096, 1024]⟩
abbrev S8x4096x512 : Shape := ⟨3, ![8, 4096, 512]⟩
abbrev S8x256x512 : Shape := ⟨3, ![8, 256, 512]⟩
abbrev S1024 : Shape := ⟨1, ![1024]⟩
abbrev S1024x10256 : Shape := ⟨2, ![1024, 10256]⟩
abbrev S31x512 : Shape := ⟨2, ![31, 512]⟩
abbrev S512 : Shape := ⟨1, ![512]⟩
abbrev S4x512x1024 : Shape := ⟨3, ![4, 512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x10256 : Shape := ⟨3, ![8, 4096, 10256]⟩
abbrev S8x4096x256 : Shape := ⟨3, ![8, 4096, 256]⟩
abbrev S8x4096x16 : Shape := ⟨3, ![8, 4096, 16]⟩
abbrev S8x4096x4096 : Shape := ⟨3, ![8, 4096, 4096]⟩
abbrev S8x4126x512 : Shape := ⟨3, ![8, 4126, 512]⟩
abbrev S1x512 : Shape := ⟨2, ![1, 512]⟩
abbrev S1x1x512 : Shape := ⟨3, ![1, 1, 512]⟩
abbrev S8x4096x4x128 : Shape := ⟨4, ![8, 4096, 4, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S8x4096x1x512 : Shape := ⟨4, ![8, 4096, 1, 512]⟩
abbrev S8x4096x4x512 : Shape := ⟨4, ![8, 4096, 4, 512]⟩
abbrev S4x1024x8x4096 : Shape := ⟨4, ![4, 1024, 8, 4096]⟩
abbrev S8x4096x4x1024 : Shape := ⟨4, ![8, 4096, 4, 1024]⟩

abbrev nBuf : Space → Nat
  | .hbm => 423
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S8x256x512, .bf16⟩
  | 4 => ⟨S8x256x512, .bf16⟩
  | 5 => ⟨S1024, .f32⟩
  | 6 => ⟨S1024x10256, .f32⟩
  | 7 => ⟨S31x512, .f32⟩
  | 8 => ⟨S512, .f32⟩
  | 9 => ⟨S512, .f32⟩
  | 10 => ⟨S512, .f32⟩
  | 11 => ⟨S4x512x1024, .f32⟩
  | 12 => ⟨S1024x1024, .f32⟩
  | 13 => ⟨S1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x10256, .f32⟩
  | 31 => ⟨S8x4096x512, .f32⟩
  | 32 => ⟨S8x4096x512, .f32⟩
  | 33 => ⟨S8x4096x512, .f32⟩
  | 34 => ⟨S8x4096x512, .f32⟩
  | 35 => ⟨S8x4096x512, .f32⟩
  | 36 => ⟨S8x4096x512, .f32⟩
  | 37 => ⟨S8x4096x512, .f32⟩
  | 38 => ⟨S8x4096x256, .f32⟩
  | 39 => ⟨S8x4096x256, .f32⟩
  | 40 => ⟨S8x4096x512, .f32⟩
  | 41 => ⟨S8x4096x16, .f32⟩
  | 42 => ⟨S8x4096x512, .f32⟩
  | 43 => ⟨S8x4096x512, .f32⟩
  | 44 => ⟨S8x4096x512, .f32⟩
  | 45 => ⟨S8x4096x4096, .f32⟩
  | 46 => ⟨S8x4096x512, .f32⟩
  | 47 => ⟨S8x4096x512, .f32⟩
  | 48 => ⟨S_, .f32⟩
  | 49 => ⟨S8x4096x512, .f32⟩
  | 50 => ⟨S8x4096x512, .f32⟩
  | 51 => ⟨S_, .f32⟩
  | 52 => ⟨S8x4096x512, .f32⟩
  | 53 => ⟨S8x4096x512, .f32⟩
  | 54 => ⟨S8x4096x512, .f32⟩
  | 55 => ⟨S_, .i32⟩
  | 56 => ⟨S_, .f32⟩
  | 57 => ⟨S8x4126x512, .f32⟩
  | 58 => ⟨S8x4096x512, .f32⟩
  | 59 => ⟨S1x512, .f32⟩
  | 60 => ⟨S512, .f32⟩
  | 61 => ⟨S1x1x512, .f32⟩
  | 62 => ⟨S8x4096x512, .f32⟩
  | 63 => ⟨S8x4096x512, .f32⟩
  | 64 => ⟨S_, .f32⟩
  | 65 => ⟨S8x4096x512, .f32⟩
  | 66 => ⟨S8x4096x512, .f32⟩
  | 67 => ⟨S8x4096x512, .f32⟩
  | 68 => ⟨S1x512, .f32⟩
  | 69 => ⟨S512, .f32⟩
  | 70 => ⟨S1x1x512, .f32⟩
  | 71 => ⟨S8x4096x512, .f32⟩
  | 72 => ⟨S8x4096x512, .f32⟩
  | 73 => ⟨S8x4096x512, .f32⟩
  | 74 => ⟨S8x4096x512, .f32⟩
  | 75 => ⟨S1x512, .f32⟩
  | 76 => ⟨S512, .f32⟩
  | 77 => ⟨S1x1x512, .f32⟩
  | 78 => ⟨S8x4096x512, .f32⟩
  | 79 => ⟨S8x4096x512, .f32⟩
  | 80 => ⟨S8x4096x512, .f32⟩
  | 81 => ⟨S8x4096x512, .f32⟩
  | 82 => ⟨S1x512, .f32⟩
  | 83 => ⟨S512, .f32⟩
  | 84 => ⟨S1x1x512, .f32⟩
  | 85 => ⟨S8x4096x512, .f32⟩
  | 86 => ⟨S8x4096x512, .f32⟩
  | 87 => ⟨S8x4096x512, .f32⟩
  | 88 => ⟨S8x4096x512, .f32⟩
  | 89 => ⟨S1x512, .f32⟩
  | 90 => ⟨S512, .f32⟩
  | 91 => ⟨S1x1x512, .f32⟩
  | 92 => ⟨S8x4096x512, .f32⟩
  | 93 => ⟨S8x4096x512, .f32⟩
  | 94 => ⟨S8x4096x512, .f32⟩
  | 95 => ⟨S8x4096x512, .f32⟩
  | 96 => ⟨S1x512, .f32⟩
  | 97 => ⟨S512, .f32⟩
  | 98 => ⟨S1x1x512, .f32⟩
  | 99 => ⟨S8x4096x512, .f32⟩
  | 100 => ⟨S8x4096x512, .f32⟩
  | 101 => ⟨S8x4096x512, .f32⟩
  | 102 => ⟨S8x4096x512, .f32⟩
  | 103 => ⟨S1x512, .f32⟩
  | 104 => ⟨S512, .f32⟩
  | 105 => ⟨S1x1x512, .f32⟩
  | 106 => ⟨S8x4096x512, .f32⟩
  | 107 => ⟨S8x4096x512, .f32⟩
  | 108 => ⟨S8x4096x512, .f32⟩
  | 109 => ⟨S8x4096x512, .f32⟩
  | 110 => ⟨S1x512, .f32⟩
  | 111 => ⟨S512, .f32⟩
  | 112 => ⟨S1x1x512, .f32⟩
  | 113 => ⟨S8x4096x512, .f32⟩
  | 114 => ⟨S8x4096x512, .f32⟩
  | 115 => ⟨S8x4096x512, .f32⟩
  | 116 => ⟨S8x4096x512, .f32⟩
  | 117 => ⟨S1x512, .f32⟩
  | 118 => ⟨S512, .f32⟩
  | 119 => ⟨S1x1x512, .f32⟩
  | 120 => ⟨S8x4096x512, .f32⟩
  | 121 => ⟨S8x4096x512, .f32⟩
  | 122 => ⟨S8x4096x512, .f32⟩
  | 123 => ⟨S8x4096x512, .f32⟩
  | 124 => ⟨S1x512, .f32⟩
  | 125 => ⟨S512, .f32⟩
  | 126 => ⟨S1x1x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S1x512, .f32⟩
  | 4 => ⟨S512, .f32⟩
  | 5 => ⟨S1x1x512, .f32⟩
  | 6 => ⟨S8x4096x512, .f32⟩
  | 7 => ⟨S8x4096x512, .f32⟩
  | 8 => ⟨S8x4096x512, .f32⟩
  | 9 => ⟨S8x4096x512, .f32⟩
  | 10 => ⟨S1x512, .f32⟩
  | 11 => ⟨S512, .f32⟩
  | 12 => ⟨S1x1x512, .f32⟩
  | 13 => ⟨S8x4096x512, .f32⟩
  | 14 => ⟨S8x4096x512, .f32⟩
  | 15 => ⟨S8x4096x512, .f32⟩
  | 16 => ⟨S8x4096x512, .f32⟩
  | 17 => ⟨S1x512, .f32⟩
  | 18 => ⟨S512, .f32⟩
  | 19 => ⟨S1x1x512, .f32⟩
  | 20 => ⟨S8x4096x512, .f32⟩
  | 21 => ⟨S8x4096x512, .f32⟩
  | 22 => ⟨S8x4096x512, .f32⟩
  | 23 => ⟨S8x4096x512, .f32⟩
  | 24 => ⟨S1x512, .f32⟩
  | 25 => ⟨S512, .f32⟩
  | 26 => ⟨S1x1x512, .f32⟩
  | 27 => ⟨S8x4096x512, .f32⟩
  | 28 => ⟨S8x4096x512, .f32⟩
  | 29 => ⟨S8x4096x512, .f32⟩
  | 30 => ⟨S8x4096x512, .f32⟩
  | 31 => ⟨S1x512, .f32⟩
  | 32 => ⟨S512, .f32⟩
  | 33 => ⟨S1x1x512, .f32⟩
  | 34 => ⟨S8x4096x512, .f32⟩
  | 35 => ⟨S8x4096x512, .f32⟩
  | 36 => ⟨S8x4096x512, .f32⟩
  | 37 => ⟨S8x4096x512, .f32⟩
  | 38 => ⟨S1x512, .f32⟩
  | 39 => ⟨S512, .f32⟩
  | 40 => ⟨S1x1x512, .f32⟩
  | 41 => ⟨S8x4096x512, .f32⟩
  | 42 => ⟨S8x4096x512, .f32⟩
  | 43 => ⟨S8x4096x512, .f32⟩
  | 44 => ⟨S8x4096x512, .f32⟩
  | 45 => ⟨S1x512, .f32⟩
  | 46 => ⟨S512, .f32⟩
  | 47 => ⟨S1x1x512, .f32⟩
  | 48 => ⟨S8x4096x512, .f32⟩
  | 49 => ⟨S8x4096x512, .f32⟩
  | 50 => ⟨S8x4096x512, .f32⟩
  | 51 => ⟨S8x4096x512, .f32⟩
  | 52 => ⟨S1x512, .f32⟩
  | 53 => ⟨S512, .f32⟩
  | 54 => ⟨S1x1x512, .f32⟩
  | 55 => ⟨S8x4096x512, .f32⟩
  | 56 => ⟨S8x4096x512, .f32⟩
  | 57 => ⟨S8x4096x512, .f32⟩
  | 58 => ⟨S8x4096x512, .f32⟩
  | 59 => ⟨S1x512, .f32⟩
  | 60 => ⟨S512, .f32⟩
  | 61 => ⟨S1x1x512, .f32⟩
  | 62 => ⟨S8x4096x512, .f32⟩
  | 63 => ⟨S8x4096x512, .f32⟩
  | 64 => ⟨S8x4096x512, .f32⟩
  | 65 => ⟨S8x4096x512, .f32⟩
  | 66 => ⟨S1x512, .f32⟩
  | 67 => ⟨S512, .f32⟩
  | 68 => ⟨S1x1x512, .f32⟩
  | 69 => ⟨S8x4096x512, .f32⟩
  | 70 => ⟨S8x4096x512, .f32⟩
  | 71 => ⟨S8x4096x512, .f32⟩
  | 72 => ⟨S8x4096x512, .f32⟩
  | 73 => ⟨S1x512, .f32⟩
  | 74 => ⟨S512, .f32⟩
  | 75 => ⟨S1x1x512, .f32⟩
  | 76 => ⟨S8x4096x512, .f32⟩
  | 77 => ⟨S8x4096x512, .f32⟩
  | 78 => ⟨S8x4096x512, .f32⟩
  | 79 => ⟨S8x4096x512, .f32⟩
  | 80 => ⟨S1x512, .f32⟩
  | 81 => ⟨S512, .f32⟩
  | 82 => ⟨S1x1x512, .f32⟩
  | 83 => ⟨S8x4096x512, .f32⟩
  | 84 => ⟨S8x4096x512, .f32⟩
  | 85 => ⟨S8x4096x512, .f32⟩
  | 86 => ⟨S8x4096x512, .f32⟩
  | 87 => ⟨S1x512, .f32⟩
  | 88 => ⟨S512, .f32⟩
  | 89 => ⟨S1x1x512, .f32⟩
  | 90 => ⟨S8x4096x512, .f32⟩
  | 91 => ⟨S8x4096x512, .f32⟩
  | 92 => ⟨S8x4096x512, .f32⟩
  | 93 => ⟨S8x4096x512, .f32⟩
  | 94 => ⟨S1x512, .f32⟩
  | 95 => ⟨S512, .f32⟩
  | 96 => ⟨S1x1x512, .f32⟩
  | 97 => ⟨S8x4096x512, .f32⟩
  | 98 => ⟨S8x4096x512, .f32⟩
  | 99 => ⟨S8x4096x512, .f32⟩
  | 100 => ⟨S8x4096x512, .f32⟩
  | 101 => ⟨S1x512, .f32⟩
  | 102 => ⟨S512, .f32⟩
  | 103 => ⟨S1x1x512, .f32⟩
  | 104 => ⟨S8x4096x512, .f32⟩
  | 105 => ⟨S8x4096x512, .f32⟩
  | 106 => ⟨S8x4096x512, .f32⟩
  | 107 => ⟨S8x4096x512, .f32⟩
  | 108 => ⟨S1x512, .f32⟩
  | 109 => ⟨S512, .f32⟩
  | 110 => ⟨S1x1x512, .f32⟩
  | 111 => ⟨S8x4096x512, .f32⟩
  | 112 => ⟨S8x4096x512, .f32⟩
  | 113 => ⟨S8x4096x512, .f32⟩
  | 114 => ⟨S8x4096x512, .f32⟩
  | 115 => ⟨S1x512, .f32⟩
  | 116 => ⟨S512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S1x512, .f32⟩
  | 123 => ⟨S512, .f32⟩
  | 124 => ⟨S1x1x512, .f32⟩
  | 125 => ⟨S8x4096x512, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S1x512, .f32⟩
  | 2 => ⟨S512, .f32⟩
  | 3 => ⟨S1x1x512, .f32⟩
  | 4 => ⟨S8x4096x512, .f32⟩
  | 5 => ⟨S8x4096x512, .f32⟩
  | 6 => ⟨S8x4096x512, .f32⟩
  | 7 => ⟨S8x4096x512, .f32⟩
  | 8 => ⟨S1x512, .f32⟩
  | 9 => ⟨S512, .f32⟩
  | 10 => ⟨S1x1x512, .f32⟩
  | 11 => ⟨S8x4096x512, .f32⟩
  | 12 => ⟨S8x4096x512, .f32⟩
  | 13 => ⟨S8x4096x512, .f32⟩
  | 14 => ⟨S8x4096x512, .f32⟩
  | 15 => ⟨S1x512, .f32⟩
  | 16 => ⟨S512, .f32⟩
  | 17 => ⟨S1x1x512, .f32⟩
  | 18 => ⟨S8x4096x512, .f32⟩
  | 19 => ⟨S8x4096x512, .f32⟩
  | 20 => ⟨S8x4096x512, .f32⟩
  | 21 => ⟨S1x1x512, .f32⟩
  | 22 => ⟨S8x4096x512, .f32⟩
  | 23 => ⟨S8x4096x512, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S8x4096x512, .f32⟩
  | 31 => ⟨S8x4096x512, .f32⟩
  | 32 => ⟨S8x4096x512, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S8x4096x512, .f32⟩
  | 40 => ⟨S8x4096x512, .f32⟩
  | 41 => ⟨S_, .f32⟩
  | 42 => ⟨S8x4096x1, .f32⟩
  | 43 => ⟨S8x4096x1, .f32⟩
  | 44 => ⟨S8x4096x1, .f32⟩
  | 45 => ⟨S8x4096x512, .f32⟩
  | 46 => ⟨S8x4096x512, .f32⟩
  | 47 => ⟨S1x1x512, .f32⟩
  | 48 => ⟨S8x4096x512, .f32⟩
  | 49 => ⟨S8x4096x512, .f32⟩
  | 50 => ⟨S1x1x512, .f32⟩
  | 51 => ⟨S8x4096x512, .f32⟩
  | 52 => ⟨S8x4096x512, .f32⟩
  | 53 => ⟨S8x4096x512, .f32⟩
  | 54 => ⟨S8x4096x512, .f32⟩
  | 55 => ⟨S_, .f32⟩
  | 56 => ⟨S8x4096x512, .f32⟩
  | 57 => ⟨S8x4096x512, .f32⟩
  | 58 => ⟨S_, .f32⟩
  | 59 => ⟨S8x4096x512, .f32⟩
  | 60 => ⟨S8x4096x512, .f32⟩
  | 61 => ⟨S8x4096x512, .f32⟩
  | 62 => ⟨S8x4096x512, .f32⟩
  | 63 => ⟨S8x4096x512, .f32⟩
  | 64 => ⟨S_, .f32⟩
  | 65 => ⟨S8x4096x512, .f32⟩
  | 66 => ⟨S8x4096x512, .f32⟩
  | 67 => ⟨S_, .f32⟩
  | 68 => ⟨S8x4096x512, .f32⟩
  | 69 => ⟨S8x4096x512, .f32⟩
  | 70 => ⟨S8x4096x512, .f32⟩
  | 71 => ⟨S8x4096x512, .f32⟩
  | 72 => ⟨S8x4096x512, .f32⟩
  | 73 => ⟨S8x4096x512, .f32⟩
  | 74 => ⟨S8x4096x512, .f32⟩
  | 75 => ⟨S_, .f32⟩
  | 76 => ⟨S8x4096x512, .f32⟩
  | 77 => ⟨S8x4096x512, .f32⟩
  | 78 => ⟨S_, .f32⟩
  | 79 => ⟨S8x4096x512, .f32⟩
  | 80 => ⟨S8x4096x512, .f32⟩
  | 81 => ⟨S8x4096x512, .f32⟩
  | 82 => ⟨S8x4096x512, .f32⟩
  | 83 => ⟨S8x4096x512, .f32⟩
  | 84 => ⟨S8x4096x512, .f32⟩
  | 85 => ⟨S8x4096x512, .f32⟩
  | 86 => ⟨S_, .f32⟩
  | 87 => ⟨S8x4096x512, .f32⟩
  | 88 => ⟨S8x4096x512, .f32⟩
  | 89 => ⟨S_, .f32⟩
  | 90 => ⟨S8x4096x512, .f32⟩
  | 91 => ⟨S8x4096x512, .f32⟩
  | 92 => ⟨S8x4096x512, .f32⟩
  | 93 => ⟨S8x4096x512, .f32⟩
  | 94 => ⟨S8x4096x4x128, .f32⟩
  | 95 => ⟨S_, .f32⟩
  | 96 => ⟨S8x4096x4x128, .f32⟩
  | 97 => ⟨S8x4096x4x128, .f32⟩
  | 98 => ⟨S8x256x512, .f32⟩
  | 99 => ⟨S8x256x4x128, .f32⟩
  | 100 => ⟨S8x256x512, .f32⟩
  | 101 => ⟨S8x256x4x128, .f32⟩
  | 102 => ⟨S8x4x4096x256, .f32⟩
  | 103 => ⟨S_, .f32⟩
  | 104 => ⟨S8x4x4096, .f32⟩
  | 105 => ⟨S_, .f32⟩
  | 106 => ⟨S8x4x4096, .f32⟩
  | 107 => ⟨S8x4x4096, .f32⟩
  | 108 => ⟨S8x4x4096x1, .f32⟩
  | 109 => ⟨S8x4x4096x256, .f32⟩
  | 110 => ⟨S8x4x4096x256, .f32⟩
  | 111 => ⟨S8x4x4096x256, .f32⟩
  | 112 => ⟨S_, .f32⟩
  | 113 => ⟨S8x4x4096, .f32⟩
  | 114 => ⟨S8x4x4096x1, .f32⟩
  | 115 => ⟨S8x4x4096x256, .f32⟩
  | 116 => ⟨S8x4x4096x256, .f32⟩
  | 117 => ⟨S8x4x128x4096, .f32⟩
  | 118 => ⟨S8x4096x4x128, .f32⟩
  | 119 => ⟨S8x4096x512, .f32⟩
  | 120 => ⟨S8x4096x512, .f32⟩
  | 121 => ⟨S8x4096x512, .f32⟩
  | 122 => ⟨S_, .f32⟩
  | 123 => ⟨S8x4096x512, .f32⟩
  | 124 => ⟨S8x4096x512, .f32⟩
  | 125 => ⟨S_, .f32⟩
  | 126 => ⟨S8x4096x512, .f32⟩
  | 127 => ⟨S8x4096x512, .f32⟩
  | _ => ⟨S8x4096x1024, .f32⟩

abbrev hbmTy0_3 (i : Nat) : BufTy := match i % 128 with
  | 0 => ⟨S8x4096x512, .f32⟩
  | 1 => ⟨S8x4096x512, .f32⟩
  | 2 => ⟨S8x4096x1x512, .f32⟩
  | 3 => ⟨S8x4096x1x512, .f32⟩
  | 4 => ⟨S8x4096x1x512, .f32⟩
  | 5 => ⟨S8x4096x1x512, .f32⟩
  | 6 => ⟨S8x4096x4x512, .f32⟩
  | 7 => ⟨S4x1024x8x4096, .f32⟩
  | 8 => ⟨S8x4096x4x1024, .f32⟩
  | 9 => ⟨S8x4096x4x1024, .f32⟩
  | 10 => ⟨S8x4096x4x1024, .f32⟩
  | 11 => ⟨S8x4096x4x1024, .f32⟩
  | 12 => ⟨S_, .f32⟩
  | 13 => ⟨S8x4096x4x1024, .f32⟩
  | 14 => ⟨S8x4096x4x1024, .f32⟩
  | 15 => ⟨S_, .f32⟩
  | 16 => ⟨S8x4096x4x1024, .f32⟩
  | 17 => ⟨S8x4096x4x1024, .f32⟩
  | 18 => ⟨S8x4096x4x1024, .f32⟩
  | 19 => ⟨S_, .f32⟩
  | 20 => ⟨S8x4096x1024, .f32⟩
  | 21 => ⟨S8x4096x1024, .f32⟩
  | 22 => ⟨S8x4096x1024, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S_, .f32⟩
  | 31 => ⟨S8x4096x1, .f32⟩
  | 32 => ⟨S8x4096x1, .f32⟩
  | 33 => ⟨S8x4096x1, .f32⟩
  | 34 => ⟨S8x4096x1024, .f32⟩
  | 35 => ⟨S8x4096x1024, .f32⟩
  | 36 => ⟨S1x1x1024, .f32⟩
  | 37 => ⟨S8x4096x1024, .f32⟩
  | 38 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_cst_5 : Ref sig .tc := ⟨.hbm, 280, rfl⟩
abbrev main_v258 : Ref sig .tc := ⟨.hbm, 281, rfl⟩
abbrev main_v259 : Ref sig .tc := ⟨.hbm, 282, rfl⟩
abbrev main_cst_6 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_cst_7 : Ref sig .tc := ⟨.hbm, 289, rfl⟩
abbrev main_v265 : Ref sig .tc := ⟨.hbm, 290, rfl⟩
abbrev main_v266 : Ref sig .tc := ⟨.hbm, 291, rfl⟩
abbrev main_cst_8 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_cst_9 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_call1_v0 : Ref sig .tc := ⟨.hbm, 309, rfl⟩
abbrev main_call1_v1 : Ref sig .tc := ⟨.hbm, 310, rfl⟩
abbrev main_call1_cst : Ref sig .tc := ⟨.hbm, 311, rfl⟩
abbrev main_call1_v2 : Ref sig .tc := ⟨.hbm, 312, rfl⟩
abbrev main_call1_v3 : Ref sig .tc := ⟨.hbm, 313, rfl⟩
abbrev main_call1_cst_0 : Ref sig .tc := ⟨.hbm, 314, rfl⟩
abbrev main_call1_v4 : Ref sig .tc := ⟨.hbm, 315, rfl⟩
abbrev main_call1_v5 : Ref sig .tc := ⟨.hbm, 316, rfl⟩
abbrev main_v282 : Ref sig .tc := ⟨.hbm, 317, rfl⟩
abbrev main_call2_v0 : Ref sig .tc := ⟨.hbm, 318, rfl⟩
abbrev main_call2_v1 : Ref sig .tc := ⟨.hbm, 319, rfl⟩
abbrev main_call2_cst : Ref sig .tc := ⟨.hbm, 320, rfl⟩
abbrev main_call2_v2 : Ref sig .tc := ⟨.hbm, 321, rfl⟩
abbrev main_call2_v3 : Ref sig .tc := ⟨.hbm, 322, rfl⟩
abbrev main_call2_cst_0 : Ref sig .tc := ⟨.hbm, 323, rfl⟩
abbrev main_call2_v4 : Ref sig .tc := ⟨.hbm, 324, rfl⟩
abbrev main_call2_v5 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_call3_v0 : Ref sig .tc := ⟨.hbm, 329, rfl⟩
abbrev main_call3_v1 : Ref sig .tc := ⟨.hbm, 330, rfl⟩
abbrev main_call3_cst : Ref sig .tc := ⟨.hbm, 331, rfl⟩
abbrev main_call3_v2 : Ref sig .tc := ⟨.hbm, 332, rfl⟩
abbrev main_call3_v3 : Ref sig .tc := ⟨.hbm, 333, rfl⟩
abbrev main_call3_cst_0 : Ref sig .tc := ⟨.hbm, 334, rfl⟩
abbrev main_call3_v4 : Ref sig .tc := ⟨.hbm, 335, rfl⟩
abbrev main_call3_v5 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_call4_v0 : Ref sig .tc := ⟨.hbm, 340, rfl⟩
abbrev main_call4_v1 : Ref sig .tc := ⟨.hbm, 341, rfl⟩
abbrev main_call4_cst : Ref sig .tc := ⟨.hbm, 342, rfl⟩
abbrev main_call4_v2 : Ref sig .tc := ⟨.hbm, 343, rfl⟩
abbrev main_call4_v3 : Ref sig .tc := ⟨.hbm, 344, rfl⟩
abbrev main_call4_cst_0 : Ref sig .tc := ⟨.hbm, 345, rfl⟩
abbrev main_call4_v4 : Ref sig .tc := ⟨.hbm, 346, rfl⟩
abbrev main_call4_v5 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_cst_10 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_cst_11 : Ref sig .tc := ⟨.hbm, 359, rfl⟩
abbrev main_v299 : Ref sig .tc := ⟨.hbm, 360, rfl⟩
abbrev main_cst_12 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_cst_13 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_call5_v0 : Ref sig .tc := ⟨.hbm, 376, rfl⟩
abbrev main_call5_v1 : Ref sig .tc := ⟨.hbm, 377, rfl⟩
abbrev main_call5_cst : Ref sig .tc := ⟨.hbm, 378, rfl⟩
abbrev main_call5_v2 : Ref sig .tc := ⟨.hbm, 379, rfl⟩
abbrev main_call5_v3 : Ref sig .tc := ⟨.hbm, 380, rfl⟩
abbrev main_call5_cst_0 : Ref sig .tc := ⟨.hbm, 381, rfl⟩
abbrev main_call5_v4 : Ref sig .tc := ⟨.hbm, 382, rfl⟩
abbrev main_call5_v5 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_cst_14 : Ref sig .tc := ⟨.hbm, 396, rfl⟩
abbrev main_v325 : Ref sig .tc := ⟨.hbm, 397, rfl⟩
abbrev main_v326 : Ref sig .tc := ⟨.hbm, 398, rfl⟩
abbrev main_cst_15 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_cst_16 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_cst_17 : Ref sig .tc := ⟨.hbm, 408, rfl⟩
abbrev main_v334 : Ref sig .tc := ⟨.hbm, 409, rfl⟩
abbrev main_v335 : Ref sig .tc := ⟨.hbm, 410, rfl⟩
abbrev main_cst_18 : Ref sig .tc := ⟨.hbm, 411, rfl⟩
abbrev main_v336 : Ref sig .tc := ⟨.hbm, 412, rfl⟩
abbrev main_v337 : Ref sig .tc := ⟨.hbm, 413, rfl⟩
abbrev main_cst_19 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩

abbrev nD : Nat := 1
abbrev τ : Topo := Topo.v7x

variable {F : FTy → Type} [FloatOps F]
-- ==== MemKernel.lean ====
abbrev S8x256x1024 : Shape := ⟨3, ![8, 256, 1024]⟩
abbrev S2x1024 : Shape := ⟨2, ![2, 1024]⟩
abbrev S2x1024x1024 : Shape := ⟨3, ![2, 1024, 1024]⟩
abbrev S2x1x1024 : Shape := ⟨3, ![2, 1, 1024]⟩
abbrev S2x8x256x512 : Shape := ⟨4, ![2, 8, 256, 512]⟩
abbrev S1x256x1024 : Shape := ⟨3, ![1, 256, 1024]⟩
abbrev S1x1x1024 : Shape := ⟨3, ![1, 1, 1024]⟩
abbrev S1x1024x1024 : Shape := ⟨3, ![1, 1024, 1024]⟩
abbrev S1x1x256x512 : Shape := ⟨4, ![1, 1, 256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩
abbrev S256x512 : Shape := ⟨2, ![256, 512]⟩

abbrev nBuf : Space → Nat
  | .hbm => 7
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x1024, .f32⟩
  | .hbm, ⟨3, _⟩ => ⟨S2x1024x1024, .bf16⟩
  | .hbm, ⟨4, _⟩ => ⟨S2x1x1024, .f32⟩
  | .hbm, ⟨5, _⟩ => ⟨S2x8x256x512, .bf16⟩
  | .hbm, ⟨6, _⟩ => ⟨S2x8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1x256x512, .bf16⟩
  | .local _ .vmem, ⟨7, _⟩ => ⟨S1x1x256x512, .bf16⟩
  | .local _ .vmem, ⟨8, _⟩ => ⟨S1x1x256x512, .bf16⟩
  | .local _ .vmem, ⟨9, _⟩ => ⟨S1x1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemReferenceIdeal.lean ====
abbrev S8x256x1024 : Shape := ⟨3, ![8, 256, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x8x256x1024 : Shape := ⟨4, ![1, 8, 256, 1024]⟩
abbrev S2x8x256x1024 : Shape := ⟨4, ![2, 8, 256, 1024]⟩
abbrev S2x8x256x512 : Shape := ⟨4, ![2, 8, 256, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x1024, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x1024, .f32⟩
  | .hbm, ⟨22, _⟩ => ⟨S1024x1024, .f32⟩
  | .hbm, ⟨23, _⟩ => ⟨S8x256x1024, .f32⟩
  | .hbm, ⟨24, _⟩ => ⟨S1x1024, .f32⟩
  | .hbm, ⟨25, _⟩ => ⟨S1024, .f32⟩
  | .hbm, ⟨26, _⟩ => ⟨S8x256x1024, .f32⟩
  | .hbm, ⟨27, _⟩ => ⟨S_, .f32⟩
  | .hbm, ⟨28, _⟩ => ⟨S8x256, .f32⟩
  | .hbm, ⟨29, _⟩ => ⟨S8x256x1, .f32⟩
  | .hbm, ⟨30, _⟩ => ⟨S_, .f32⟩
  | .hbm, ⟨31, _⟩ => ⟨S8x256x1, .f32⟩
  | .hbm, ⟨32, _⟩ => ⟨S8x256x1, .f32⟩
  | .hbm, ⟨33, _⟩ => ⟨S_, .f32⟩
  | .hbm, ⟨34, _⟩ => ⟨S8x256x1, .f32⟩
  | .hbm, ⟨35, _⟩ => ⟨S8x256x1, .f32⟩
  | .hbm, ⟨36, _⟩ => ⟨S8x256x1, .f32⟩
  | .hbm, ⟨37, _⟩ => ⟨S8x256x1024, .f32⟩
  | .hbm, ⟨38, _⟩ => ⟨S8x256x1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S1x1024x1024, .f32⟩
  | .hbm, ⟨43, _⟩ => ⟨S1024x1024, .f32⟩
  | .hbm, ⟨44, _⟩ => ⟨S8x256x1024, .f32⟩
  | .hbm, ⟨45, _⟩ => ⟨S1x8x256x1024, .f32⟩
  | .hbm, ⟨46, _⟩ => ⟨S1x8x256x1024, .f32⟩
  | .hbm, ⟨47, _⟩ => ⟨S2x8x256x1024, .f32⟩
  | .hbm, ⟨48, _⟩ => ⟨S2x8x256x512, .f32⟩
  | .hbm, ⟨49, _⟩ => ⟨S2x8x256x512, .f32⟩
  | .hbm, ⟨50, _⟩ => ⟨S2x8x256x512, .bf16⟩
  | .hbm, ⟨51, _⟩ => ⟨S2x8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== ProjKernel.lean ====
abbrev S8x4096x1024 : Shape := ⟨3, ![8, 4096, 1024]⟩
abbrev S1024 : Shape := ⟨1, ![1024]⟩
abbrev S1024x10256 : Shape := ⟨2, ![1024, 10256]⟩
abbrev S16x256 : Shape := ⟨2, ![16, 256]⟩
abbrev S256 : Shape := ⟨1, ![256]⟩
abbrev S1024x1536 : Shape := ⟨2, ![1024, 1536]⟩
abbrev S1024x1024 : Shape := ⟨2, ![1024, 1024]⟩
abbrev S1024x2560 : Shape := ⟨2, ![1024, 2560]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x1024 : Shape := ⟨2, ![1, 1024]⟩
abbrev S1x256 : Shape := ⟨2, ![1, 256]⟩
abbrev S8x4096x512 : Shape := ⟨3, ![8, 4096, 512]⟩
abbrev S8x16x1x512 : Shape := ⟨4, ![8, 16, 1, 512]⟩
abbrev S8x4096x256 : Shape := ⟨3, ![8, 4096, 256]⟩
abbrev S1x512x1024 : Shape := ⟨3, ![1, 512, 1024]⟩
abbrev S1x512x512 : Shape := ⟨3, ![1, 512, 512]⟩
abbrev S1x2x1x512 : Shape := ⟨4, ![1, 2, 1, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S256x512 : Shape := ⟨2, ![256, 512]⟩
abbrev S1x512 : Shape := ⟨2, ![1, 512]⟩
abbrev S1x1x1x512 : Shape := ⟨4, ![1, 1, 1, 512]⟩
abbrev S1024x256 : Shape := ⟨2, ![1024, 256]⟩
abbrev S512x256 : Shape := ⟨2, ![512, 256]⟩
abbrev S512x128 : Shape := ⟨2, ![512, 128]⟩

abbrev nBuf : Space → Nat
  | .hbm => 28
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x10256, .f32⟩
  | .hbm, ⟨3, _⟩ => ⟨S16x256, .f32⟩
  | .hbm, ⟨4, _⟩ => ⟨S256, .f32⟩
  | .hbm, ⟨5, _⟩ => ⟨S1024x1536, .f32⟩
  | .hbm, ⟨6, _⟩ => ⟨S1024x1024, .f32⟩
  | .hbm, ⟨7, _⟩ => ⟨S1024x2560, .f32⟩
  | .hbm, ⟨8, _⟩ => ⟨S1024x2560, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .i32⟩
  | .hbm, ⟨15, _⟩ => ⟨S_, .f32⟩
  | .hbm, ⟨16, _⟩ => ⟨S128x256, .f32⟩
  | .hbm, ⟨17, _⟩ => ⟨S128x256, .bf16⟩
  | .hbm, ⟨18, _⟩ => ⟨S1x1024, .f32⟩
  | .hbm, ⟨19, _⟩ => ⟨S1x256, .f32⟩
  | .hbm, ⟨20, _⟩ => ⟨S8x4096x512, .bf16⟩
  | .hbm, ⟨21, _⟩ => ⟨S8x4096x512, .bf16⟩
  | .hbm, ⟨22, _⟩ => ⟨S8x4096x512, .bf16⟩
  | .hbm, ⟨23, _⟩ => ⟨S8x16x1x512, .f32⟩
  | .hbm, ⟨24, _⟩ => ⟨S8x4096x256, .f32⟩
  | .hbm, ⟨25, _⟩ => ⟨S8x4096x256, .f32⟩
  | .hbm, ⟨26, _⟩ => ⟨S8x4096x512, .bf16⟩
  | .hbm, ⟨27, _⟩ => ⟨S8x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x2x1x512, .f32⟩
  | .local _ .vmem, ⟨14, _⟩ => ⟨S1x2x1x512, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x512, .bf16⟩
  | .local _ .vmem, ⟨20, _⟩ => ⟨S1x512x512, .bf16⟩
  | .local _ .vmem, ⟨21, _⟩ => ⟨S1x512x256, .f32⟩
  | .local _ .vmem, ⟨22, _⟩ => ⟨S1x512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v11_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjReferenceIdeal.lean ====
abbrev S8x4096x1024 : Shape := ⟨3, ![8, 4096, 1024]⟩
abbrev S1024 : Shape := ⟨1, ![1024]⟩
abbrev S1024x10256 : Shape := ⟨2, ![1024, 10256]⟩
abbrev S16x256 : Shape := ⟨2, ![16, 256]⟩
abbrev S256 : Shape := ⟨1, ![256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x10256 : Shape := ⟨3, ![8, 4096, 10256]⟩
abbrev S8x4096x512 : Shape := ⟨3, ![8, 4096, 512]⟩
abbrev S8x4096x256 : Shape := ⟨3, ![8, 4096, 256]⟩
abbrev S8x4096x16 : Shape := ⟨3, ![8, 4096, 16]⟩
abbrev S8x4096x4096 : Shape := ⟨3, ![8, 4096, 4096]⟩
abbrev S8x16x256x512 : Shape := ⟨4, ![8, 16, 256, 512]⟩
abbrev S8x16x512 : Shape := ⟨3, ![8, 16, 512]⟩
abbrev S8x16x1x512 : Shape := ⟨4, ![8, 16, 1, 512]⟩
abbrev S1x1x256 : Shape := ⟨3, ![1, 1, 256]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x10256, .f32⟩
  | .hbm, ⟨3, _⟩ => ⟨S16x256, .f32⟩
  | .hbm, ⟨4, _⟩ => ⟨S256, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x10256, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x256, .f32⟩
  | .hbm, ⟨30, _⟩ => ⟨S8x4096x256, .f32⟩
  | .hbm, ⟨31, _⟩ => ⟨S8x4096x512, .f32⟩
  | .hbm, ⟨32, _⟩ => ⟨S8x4096x16, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S8x4096x4096, .f32⟩
  | .hbm, ⟨37, _⟩ => ⟨S8x16x256x512, .f32⟩
  | .hbm, ⟨38, _⟩ => ⟨S_, .f32⟩
  | .hbm, ⟨39, _⟩ => ⟨S8x16x512, .f32⟩
  | .hbm, ⟨40, _⟩ => ⟨S8x16x1x512, .f32⟩
  | .hbm, ⟨41, _⟩ => ⟨S_, .f32⟩
  | .hbm, ⟨42, _⟩ => ⟨S8x16x1x512, .f32⟩
  | .hbm, ⟨43, _⟩ => ⟨S8x16x1x512, .f32⟩
  | .hbm, ⟨44, _⟩ => ⟨S8x4096x256, .f32⟩
  | .hbm, ⟨45, _⟩ => ⟨S1x1x256, .f32⟩
  | .hbm, ⟨46, _⟩ => ⟨S8x4096x256, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S8x4096x256, .f32⟩
  | .hbm, ⟨54, _⟩ => ⟨S8x4096x256, .i1⟩
  | .hbm, ⟨55, _⟩ => ⟨S8x4096x256, .f32⟩
  | .hbm, ⟨56, _⟩ => ⟨S8x4096x256, .f32⟩
  | .hbm, ⟨57, _⟩ => ⟨S8x4096x256, .f32⟩
  | .hbm, ⟨58, _⟩ => ⟨S8x4096x256, .f32⟩
  | .hbm, ⟨59, _⟩ => ⟨S8x4096x256, .f32⟩
  | .hbm, ⟨60, _⟩ => ⟨S8x4096x256, .f32⟩
  | .hbm, ⟨61, _⟩ => ⟨S8x4096x256, .f32⟩
  | .hbm, ⟨62, _⟩ => ⟨S8x4096x256, .f32⟩
  | .hbm, ⟨63, _⟩ => ⟨S8x4096x256, .f32⟩
  | .hbm, ⟨64, _⟩ => ⟨S_, .f32⟩
  | .hbm, ⟨65, _⟩ => ⟨S8x4096x256, .f32⟩
  | .hbm, ⟨66, _⟩ => ⟨S8x4096x256, .f32⟩
  | .hbm, ⟨67, _⟩ => ⟨S_, .f32⟩
  | .hbm, ⟨68, _⟩ => ⟨S8x4096x512, .f32⟩
  | .hbm, ⟨69, _⟩ => ⟨S8x4096x512, .f32⟩
  | .hbm, ⟨70, _⟩ => ⟨S8x4096x512, .bf16⟩
  | .hbm, ⟨71, _⟩ => ⟨S8x4096x512, .bf16⟩
  | .hbm, ⟨72, _⟩ => ⟨S8x4096x512, .bf16⟩
  | .hbm, ⟨73, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_call0_cst : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_v1 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩

abbrev nD : Nat := 1
abbrev τ : Topo := Topo.v7x

variable {F : FTy → Type} [FloatOps F]
-- ==== GlaKernel.lean ====
abbrev S8x4096x256 : Shape := ⟨3, ![8, 4096, 256]⟩
abbrev S8x4096x512 : Shape := ⟨3, ![8, 4096, 512]⟩
abbrev S128 : Shape := ⟨1, ![128]⟩
abbrev S1x128 : Shape := ⟨2, ![1, 128]⟩
abbrev S1x512x256 : Shape := ⟨3, ![1, 512, 256]⟩
abbrev S1x512x512 : Shape := ⟨3, ![1, 512, 512]⟩
abbrev S4x128x64 : Shape := ⟨3, ![4, 128, 64]⟩
abbrev S64x64 : Shape := ⟨2, ![64, 64]⟩
abbrev S1x128x64 : Shape := ⟨3, ![1, 128, 64]⟩
abbrev S128x64 : Shape := ⟨2, ![128, 64]⟩
abbrev S1x64x256 : Shape := ⟨3, ![1, 64, 256]⟩
abbrev S64x256 : Shape := ⟨2, ![64, 256]⟩
abbrev S1x256 : Shape := ⟨2, ![1, 256]⟩
abbrev S1x64x512 : Shape := ⟨3, ![1, 64, 512]⟩
abbrev S64x512 : Shape := ⟨2, ![64, 512]⟩
abbrev S64x128 : Shape := ⟨2, ![64, 128]⟩
abbrev S1x64 : Shape := ⟨2, ![1, 64]⟩
abbrev S64 : Shape := ⟨1, ![64]⟩
abbrev S64x1 : Shape := ⟨2, ![64, 1]⟩
abbrev S1x64x128 : Shape := ⟨3, ![1, 64, 128]⟩

abbrev nBuf : Space → Nat
  | .hbm => 7
  | .vmem => 12
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x512, .bf16⟩
  | .hbm, ⟨3, _⟩ => ⟨S8x4096x256, .f32⟩
  | .hbm, ⟨4, _⟩ => ⟨S128, .f32⟩
  | .hbm, ⟨5, _⟩ => ⟨S1x128, .f32⟩
  | .hbm, ⟨6, _⟩ => ⟨S8x4096x512, .bf16⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .bf16⟩
  | .local _ .vmem, ⟨5, _⟩ => ⟨S1x512x512, .bf16⟩
  | .local _ .vmem, ⟨6, _⟩ => ⟨S1x512x256, .f32⟩
  | .local _ .vmem, ⟨7, _⟩ => ⟨S1x512x256, .f32⟩
  | .local _ .vmem, ⟨8, _⟩ => ⟨S1x128, .f32⟩
  | .local _ .vmem, ⟨9, _⟩ => ⟨S1x512x512, .bf16⟩
  | .local _ .vmem, ⟨10, _⟩ => ⟨S1x512x512, .bf16⟩
  | .local _ .vmem, ⟨11, _⟩ => ⟨S4x128x64, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaReferenceIdeal.lean ====
abbrev S8x4096x256 : Shape := ⟨3, ![8, 4096, 256]⟩
abbrev S8x4096x512 : Shape := ⟨3, ![8, 4096, 512]⟩
abbrev S128 : Shape := ⟨1, ![128]⟩
abbrev S8x64x64x4x64 : Shape := ⟨5, ![8, 64, 64, 4, 64]⟩
abbrev S8x4x64x64x64 : Shape := ⟨5, ![8, 4, 64, 64, 64]⟩
abbrev S_ : Shape := ⟨0, ![]⟩
abbrev S8x64x64x4x128 : Shape := ⟨5, ![8, 64, 64, 4, 128]⟩
abbrev S8x4x64x64x128 : Shape := ⟨5, ![8, 4, 64, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S8x4x64x64x1x64 : Shape := ⟨6, ![8, 4, 64, 64, 1, 64]⟩
abbrev S8x4x64x1x64x64 : Shape := ⟨6, ![8, 4, 64, 1, 64, 64]⟩
abbrev S8x4x64x64x64x64 : Shape := ⟨6, ![8, 4, 64, 64, 64, 64]⟩
abbrev S8x4x64x1x64 : Shape := ⟨5, ![8, 4, 64, 1, 64]⟩
abbrev S8x4x64x64 : Shape := ⟨4, ![8, 4, 64, 64]⟩
abbrev S64x8x4x64x128 : Shape := ⟨5, ![64, 8, 4, 64, 128]⟩
abbrev S64x8x4x64x64 : Shape := ⟨5, ![64, 8, 4, 64, 64]⟩
abbrev S64x8x4x64 : Shape := ⟨4, ![64, 8, 4, 64]⟩
abbrev S8x4x64x128 : Shape := ⟨4, ![8, 4, 64, 128]⟩
abbrev S1x8x4x64x128 : Shape := ⟨5, ![1, 8, 4, 64, 128]⟩
abbrev S1x8x4x64x64 : Shape := ⟨5, ![1, 8, 4, 64, 64]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S8x4x64x64x1 : Shape := ⟨5, ![8, 4, 64, 64, 1]⟩
abbrev S1x1x1x1x128 : Shape := ⟨5, ![1, 1, 1, 1, 128]⟩

abbrev nBuf : Space → Nat
  | .hbm => 140
  | .vmem => 0
  | .smem => 0
  | _ => 0

abbrev hbmTy0_0 (i : Nat) : BufTy := match i % 128 with
  | 0 => ⟨S8x4096x256, .f32⟩
  | 1 => ⟨S8x4096x256, .f32⟩
  | 2 => ⟨S8x4096x512, .bf16⟩
  | 3 => ⟨S8x4096x256, .f32⟩
  | 4 => ⟨S128, .f32⟩
  | 5 => ⟨S8x64x64x4x64, .f32⟩
  | 6 => ⟨S8x4x64x64x64, .f32⟩
  | 7 => ⟨S_, .f32⟩
  | 8 => ⟨S8x4x64x64x64, .f32⟩
  | 9 => ⟨S8x4x64x64x64, .f32⟩
  | 10 => ⟨S8x64x64x4x64, .f32⟩
  | 11 => ⟨S8x4x64x64x64, .f32⟩
  | 12 => ⟨S8x4096x512, .f32⟩
  | 13 => ⟨S8x64x64x4x128, .f32⟩
  | 14 => ⟨S8x4x64x64x128, .f32⟩
  | 15 => ⟨S8x64x64x4x64, .f32⟩
  | 16 => ⟨S8x4x64x64x64, .f32⟩
  | 17 => ⟨S_, .f32⟩
  | 18 => ⟨S_, .f32⟩
  | 19 => ⟨S8x4x64x64x64, .f32⟩
  | 20 => ⟨S64, .i32⟩
  | 21 => ⟨S64x1, .i32⟩
  | 22 => ⟨S1x64, .i32⟩
  | 23 => ⟨S64x64, .i32⟩
  | 24 => ⟨S64x64, .i32⟩
  | 25 => ⟨S64x64, .i1⟩
  | 26 => ⟨S64x64x1, .i1⟩
  | 27 => ⟨S8x4x64x64x1x64, .f32⟩
  | 28 => ⟨S8x4x64x1x64x64, .f32⟩
  | 29 => ⟨S8x4x64x64x64x64, .f32⟩
  | 30 => ⟨S8x4x64x64x64x64, .f32⟩
  | 31 => ⟨S8x4x64x64x64x64, .f32⟩
  | 32 => ⟨S_, .f32⟩
  | 33 => ⟨S_, .f32⟩
  | 34 => ⟨S8x4x64x64x64x64, .i1⟩
  | 35 => ⟨S8x4x64x64x64x64, .f32⟩
  | 36 => ⟨S8x4x64x64x64x64, .f32⟩
  | 37 => ⟨S8x4x64x64x64x64, .f32⟩
  | 38 => ⟨S8x4x64x64x1x64, .f32⟩
  | 39 => ⟨S8x4x64x64x64x64, .f32⟩
  | 40 => ⟨S8x4x64x64x64x64, .f32⟩
  | 41 => ⟨S8x4x64x1x64x64, .f32⟩
  | 42 => ⟨S8x4x64x64x64x64, .f32⟩
  | 43 => ⟨S8x4x64x64x64x64, .f32⟩
  | 44 => ⟨S_, .f32⟩
  | 45 => ⟨S8x4x64x64x64, .f32⟩
  | 46 => ⟨S8x4x64x64x128, .f32⟩
  | 47 => ⟨S8x4x64x1x64, .f32⟩
  | 48 => ⟨S8x4x64x64x64, .f32⟩
  | 49 => ⟨S8x4x64x64x64, .f32⟩
  | 50 => ⟨S8x4x64x64x64, .f32⟩
  | 51 => ⟨S8x4x64x64x64, .f32⟩
  | 52 => ⟨S8x4x64x64x64, .f32⟩
  | 53 => ⟨S8x4x64x64x64, .f32⟩
  | 54 => ⟨S8x4x64x64, .f32⟩
  | 55 => ⟨S8x4x64x64, .f32⟩
  | 56 => ⟨S64x8x4x64x128, .f32⟩
  | 57 => ⟨S64x8x4x64x64, .f32⟩
  | 58 => ⟨S64x8x4x64x64, .f32⟩
  | 59 => ⟨S64x8x4x64x128, .f32⟩
  | 60 => ⟨S64x8x4x64, .f32⟩
  | 61 => ⟨S_, .f32⟩
  | 62 => ⟨S8x4x64x128, .f32⟩
  | 63 => ⟨S_, .f32⟩
  | 64 => ⟨S64x8x4x64x128, .f32⟩
  | 65 => ⟨S_, .i32⟩
  | 66 => ⟨S64x8x4x64x128, .f32⟩
  | 67 => ⟨S64x8x4x64x64, .f32⟩
  | 68 => ⟨S64x8x4x64x64, .f32⟩
  | 69 => ⟨S64x8x4x64x128, .f32⟩
  | 70 => ⟨S64x8x4x64, .f32⟩
  | 71 => ⟨S_, .i32⟩
  | 72 => ⟨S8x4x64x128, .f32⟩
  | 73 => ⟨S64x8x4x64x128, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1x8x4x64x128, .f32⟩
  | 81 => ⟨S8x4x64x128, .f32⟩
  | 82 => ⟨S_, .i32⟩
  | 83 => ⟨S_, .i32⟩
  | 84 => ⟨S_, .i32⟩
  | 85 => ⟨S_, .i32⟩
  | 86 => ⟨S1x8x4x64x64, .f32⟩
  | 87 => ⟨S8x4x64x64, .f32⟩
  | 88 => ⟨S_, .i32⟩
  | 89 => ⟨S_, .i32⟩
  | 90 => ⟨S_, .i32⟩
  | 91 => ⟨S_, .i32⟩
  | 92 => ⟨S1x8x4x64x64, .f32⟩
  | 93 => ⟨S8x4x64x64, .f32⟩
  | 94 => ⟨S_, .i32⟩
  | 95 => ⟨S_, .i32⟩
  | 96 => ⟨S_, .i32⟩
  | 97 => ⟨S_, .i32⟩
  | 98 => ⟨S1x8x4x64x128, .f32⟩
  | 99 => ⟨S8x4x64x128, .f32⟩
  | 100 => ⟨S_, .i32⟩
  | 101 => ⟨S_, .i32⟩
  | 102 => ⟨S_, .i32⟩
  | 103 => ⟨S1x8x4x64, .f32⟩
  | 104 => ⟨S8x4x64, .f32⟩
  | 105 => ⟨S8x4x64x128, .f32⟩
  | 106 => ⟨S8x4x64x128, .f32⟩
  | 107 => ⟨S8x4x64x1, .f32⟩
  | 108 => ⟨S8x4x64x128, .f32⟩
  | 109 => ⟨S8x4x64x128, .f32⟩
  | 110 => ⟨S8x4x64x128, .f32⟩
  | 111 => ⟨S8x4x64x128, .f32⟩
  | 112 => ⟨S1x8x4x64x128, .f32⟩
  | 113 => ⟨S_, .i32⟩
  | 114 => ⟨S_, .i32⟩
  | 115 => ⟨S_, .i32⟩
  | 116 => ⟨S_, .i32⟩
  | 117 => ⟨S64x8x4x64x128, .f32⟩
  | 118 => ⟨S_, .i32⟩
  | 119 => ⟨S_, .i32⟩
  | 120 => ⟨S8x4x64x64x128, .f32⟩
  | 121 => ⟨S8x4x64x64x128, .f32⟩
  | 122 => ⟨S_, .f32⟩
  | 123 => ⟨S8x4x64x64, .f32⟩
  | 124 => ⟨S8x4x64x64x1, .f32⟩
  | 125 => ⟨S_, .f32⟩
  | 126 => ⟨S8x4x64x64x1, .f32⟩
  | 127 => ⟨S8x4x64x64x1, .f32⟩
  | _ => ⟨S8x4096x256, .f32⟩

abbrev hbmTy0_1 (i : Nat) : BufTy := match i % 128 with
  | 0 => ⟨S_, .f32⟩
  | 1 => ⟨S8x4x64x64x1, .f32⟩
  | 2 => ⟨S8x4x64x64x1, .f32⟩
  | 3 => ⟨S8x4x64x64x1, .f32⟩
  | 4 => ⟨S8x4x64x64x128, .f32⟩
  | 5 => ⟨S8x4x64x64x128, .f32⟩
  | 6 => ⟨S1x1x1x1x128, .f32⟩
  | 7 => ⟨S8x4x64x64x128, .f32⟩
  | 8 => ⟨S8x4x64x64x128, .f32⟩
  | 9 => ⟨S8x64x64x4x128, .f32⟩
  | 10 => ⟨S8x4096x512, .f32⟩
  | 11 => ⟨S8x4096x512, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_c : Ref sig .tc := ⟨.hbm, 65, rfl⟩
abbrev main_v50_0 : Ref sig .tc := ⟨.hbm, 66, rfl⟩
abbrev main_v50_1 : Ref sig .tc := ⟨.hbm, 67, rfl⟩
abbrev main_v50_2 : Ref sig .tc := ⟨.hbm, 68, rfl⟩
abbrev main_v50_3 : Ref sig .tc := ⟨.hbm, 69, rfl⟩
abbrev main_v50_4 : Ref sig .tc := ⟨.hbm, 70, rfl⟩
abbrev main_v50_5 : Ref sig .tc := ⟨.hbm, 71, rfl⟩
abbrev main_v50_6 : Ref sig .tc := ⟨.hbm, 72, rfl⟩
abbrev main_v50_7 : Ref sig .tc := ⟨.hbm, 73, rfl⟩
abbrev main_while0c_c_14 : Ref sig .tc := ⟨.hbm, 74, rfl⟩
abbrev main_while0c_v68 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v68 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_v0 : Ref sig .tc := ⟨.hbm, 86, rfl⟩
abbrev main_while0b_v69 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_c_2 : Ref sig .tc := ⟨.hbm, 91, rfl⟩
abbrev main_while0b_call4_v0 : Ref sig .tc := ⟨.hbm, 92, rfl⟩
abbrev main_while0b_v70 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_call5_v0 : Ref sig .tc := ⟨.hbm, 98, rfl⟩
abbrev main_while0b_v71 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_call6_v0 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_call7_v0 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_c_2 : Ref sig .tc := ⟨.hbm, 116, rfl⟩
abbrev main_while0b_v80 : Ref sig .tc := ⟨.hbm, 117, rfl⟩
abbrev main_while0b_c_14 : Ref sig .tc := ⟨.hbm, 118, rfl⟩
abbrev main_while0b_v81 : Ref sig .tc := ⟨.hbm, 119, rfl⟩
abbrev main_v51 : Ref sig .tc := ⟨.hbm, 120, rfl⟩
abbrev main_v52 : Ref sig .tc := ⟨.hbm, 121, rfl⟩
abbrev main_cst_4 : Ref sig .tc := ⟨.hbm, 122, rfl⟩
abbrev main_v53 : Ref sig .tc := ⟨.hbm, 123, rfl⟩
abbrev main_v54 : Ref sig .tc := ⟨.hbm, 124, rfl⟩
abbrev main_cst_5 : Ref sig .tc := ⟨.hbm, 125, rfl⟩
abbrev main_v55 : Ref sig .tc := ⟨.hbm, 126, rfl⟩
abbrev main_v56 : Ref sig .tc := ⟨.hbm, 127, rfl⟩
abbrev main_cst_6 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩

abbrev nD : Nat := 1
abbrev τ : Topo := Topo.v7x

variable {F : FTy → Type} [FloatOps F]

abbrev main_while0_count : Scf.Loop 32 := ⟨0#32, 64#32, 1#32⟩
-- ==== MobaKernel.lean ====
abbrev S8x4096x512 : Shape := ⟨3, ![8, 4096, 512]⟩
abbrev S8x16x512 : Shape := ⟨3, ![8, 16, 512]⟩
abbrev S1x256x128 : Shape := ⟨3, ![1, 256, 128]⟩
abbrev S1x4096x128 : Shape := ⟨3, ![1, 4096, 128]⟩
abbrev S1x16x128 : Shape := ⟨3, ![1, 16, 128]⟩
abbrev S256x128 : Shape := ⟨2, ![256, 128]⟩
abbrev S16x128 : Shape := ⟨2, ![16, 128]⟩
abbrev S256x16 : Shape := ⟨2, ![256, 16]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x16x512, .f32⟩
  | .hbm, ⟨4, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x128, .f32⟩
  | .local _ .vmem, ⟨7, _⟩ => ⟨S1x16x128, .f32⟩
  | .local _ .vmem, ⟨8, _⟩ => ⟨S1x256x128, .bf16⟩
  | .local _ .vmem, ⟨9, _⟩ => ⟨S1x256x128, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c256_i32 : BitVec 32 := 256#32
  let v68 : BitVec 32 := Scalar.muli arg2 c256_i32
  v68
def k0_off1 (i : grid0.Coords) : Fin 3 → Nat :=
  let c0_23 : Index := 0#32
  let arg2 : BitVec 32 := BitVec.ofNat 32 (i 2).val
  let c256_i32 : BitVec 32 := 256#32
  let v68 : BitVec 32 := Scalar.muli arg2 c256_i32
  let v69 : BitVec 32 := v68
  let v70 : Index := Scalar.indexCast v69
  let c0_24 : Index := 0#32
  ![0, v70.toNat, 0]
@[reducible] def k0_t1_loop (i : grid0.Coords) : Scf.Loop 32 :=
  let c0_i32 : BitVec 32 := 0#32
  let arg2 : BitVec 32 := BitVec.ofNat 32 (i 2).val
  let v91 : BitVec 32 := Scalar.subi arg2 c0_i32
  let c1_i32 : BitVec 32 := 1#32
  let v93 : BitVec 32 := Scalar.divsi v91 c1_i32
  let v94 : BitVec 32 := Scalar.muli v93 c1_i32
  let v95 : BitVec 32 := Scalar.addi c0_i32 v94
  let c1_i32_32 : BitVec 32 := 1#32
  ⟨c0_i32, v95, c1_i32_32⟩
def k0_mult2 (i : grid0.Coords) (k0_t1 : Fin (k0_t1_loop i).trips) : BitVec 32 :=
  let c0_i32 : BitVec 32 := 0#32
  let c1_i32_32 : BitVec 32 := 1#32
  let arg8 : BitVec 32 := Scf.iv c0_i32 c1_i32_32 k0_t1
  let c256_i32_37 : BitVec 32 := 256#32
  let v104 : BitVec 32 := Scalar.muli arg8 c256_i32_37
  v104
def k0_off2 (i : grid0.Coords) (k0_t1 : Fin (k0_t1_loop i).trips) : Fin 3 → Nat :=
  let c0_41 : Index := 0#32
  let c0_i32 : BitVec 32 := 0#32
  let c1_i32_32 : BitVec 32 := 1#32
  let arg8 : BitVec 32 := Scf.iv c0_i32 c1_i32_32 k0_t1
  let c256_i32_37 : BitVec 32 := 256#32
  let v104 : BitVec 32 := Scalar.muli arg8 c256_i32_37
  let v105 : BitVec 32 := v104
  let v114 : Index := Scalar.indexCast v105
  let c0_42 : Index := 0#32
  ![0, v114.toNat, 0]
@[reducible] def k0_t2_loop (i : grid0.Coords) : Scf.Loop 32 :=
  let c0_i32 : BitVec 32 := 0#32
  let arg2 : BitVec 32 := BitVec.ofNat 32 (i 2).val
  let v91 : BitVec 32 := Scalar.subi arg2 c0_i32
  let c1_i32 : BitVec 32 := 1#32
  let v93 : BitVec 32 := Scalar.divsi v91 c1_i32
  let v94 : BitVec 32 := Scalar.muli v93 c1_i32
  let v95 : BitVec 32 := Scalar.addi c0_i32 v94
  let v92 : BitVec 32 := Scalar.addi c0_i32 v91
  let c1_i32_33 : BitVec 32 := 1#32
  ⟨v95, v92, c1_i32_33⟩
def k0_mult3 (i : grid0.Coords) (k0_t2 : Fin (k0_t2_loop i).trips) : BitVec 32 :=
  let c0_i32 : BitVec 32 := 0#32
  let arg2 : BitVec 32 := BitVec.ofNat 32 (i 2).val
  let v91 : BitVec 32 := Scalar.subi arg2 c0_i32
  let c1_i32 : BitVec 32 := 1#32
  let v93 : BitVec 32 := Scalar.divsi v91 c1_i32
  let v94 : BitVec 32 := Scalar.muli v93 c1_i32
  let v95 : BitVec 32 := Scalar.addi c0_i32 v94
  let c1_i32_33 : BitVec 32 := 1#32
  let arg8 : BitVec 32 := Scf.iv v95 c1_i32_33 k0_t2
  let c256_i32_37 : BitVec 32 := 256#32
  let v104 : BitVec 32 := Scalar.muli arg8 c256_i32_37
  v104
def k0_off3 (i : grid0.Coords) (k0_t2 : Fin (k0_t2_loop i).trips) : Fin 3 → Nat :=
  let c0_41 : Index := 0#32
  let c0_i32 : BitVec 32 := 0#32
  let arg2 : BitVec 32 := BitVec.ofNat 32 (i 2).val
  let v91 : BitVec 32 := Scalar.subi arg2 c0_i32
  let c1_i32 : BitVec 32 := 1#32
  let v93 : BitVec 32 := Scalar.divsi v91 c1_i32
  let v94 : BitVec 32 := Scalar.muli v93 c1_i32
  let v95 : BitVec 32 := Scalar.addi c0_i32 v94
  let c1_i32_33 : BitVec 32 := 1#32
  let arg8 : BitVec 32 := Scf.iv v95 c1_i32_33 k0_t2
  let c256_i32_37 : BitVec 32 := 256#32
  let v104 : BitVec 32 := Scalar.muli arg8 c256_i32_37
  let v105 : BitVec 32 := v104
  let v114 : Index := Scalar.indexCast v105
  let c0_42 : Index := 0#32
  ![0, v114.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MobaReferenceIdeal.lean ====
abbrev S8x4096x512 : Shape := ⟨3, ![8, 4096, 512]⟩
abbrev S8x16x512 : Shape := ⟨3, ![8, 16, 512]⟩
abbrev S8x4096x4x128 : Shape := ⟨4, ![8, 4096, 4, 128]⟩
abbrev S8x4x4096x128 : Shape := ⟨4, ![8, 4, 4096, 128]⟩
abbrev S8x16x4x128 : Shape := ⟨4, ![8, 16, 4, 128]⟩
abbrev S8x4x16x128 : Shape := ⟨4, ![8, 4, 16, 128]⟩
abbrev S4096 : Shape := ⟨1, ![4096]⟩
abbrev S_ : Shape := ⟨0, ![]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S8x4x4096x16 : Shape := ⟨4, ![8, 4, 4096, 16]⟩
abbrev S8x4x4096x3 : Shape := ⟨4, ![8, 4, 4096, 3]⟩
abbrev S8x4x4096x1 : Shape := ⟨4, ![8, 4, 4096, 1]⟩
abbrev S1x1x1x16 : Shape := ⟨4, ![1, 1, 1, 16]⟩
abbrev S1x1x4096x16 : Shape := ⟨4, ![1, 1, 4096, 16]⟩
abbrev S1x4096 : Shape := ⟨2, ![1, 4096]⟩
abbrev S4096x4096 : Shape := ⟨2, ![4096, 4096]⟩
abbrev S8x4x4096x16x1 : Shape := ⟨5, ![8, 4, 4096, 16, 1]⟩
abbrev S8x4x4096x16x256 : Shape := ⟨5, ![8, 4, 4096, 16, 256]⟩
abbrev S8x4x4096x4096 : Shape := ⟨4, ![8, 4, 4096, 4096]⟩
abbrev S1x1x4096x4096 : Shape := ⟨4, ![1, 1, 4096, 4096]⟩
abbrev S8x4x4096 : Shape := ⟨3, ![8, 4, 4096]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x16x512, .f32⟩
  | .hbm, ⟨4, _⟩ => ⟨S8x4096x512, .f32⟩
  | .hbm, ⟨5, _⟩ => ⟨S8x4096x4x128, .f32⟩
  | .hbm, ⟨6, _⟩ => ⟨S8x4x4096x128, .f32⟩
  | .hbm, ⟨7, _⟩ => ⟨S8x4096x512, .f32⟩
  | .hbm, ⟨8, _⟩ => ⟨S8x4096x4x128, .f32⟩
  | .hbm, ⟨9, _⟩ => ⟨S8x4x4096x128, .f32⟩
  | .hbm, ⟨10, _⟩ => ⟨S8x4096x512, .f32⟩
  | .hbm, ⟨11, _⟩ => ⟨S8x4096x4x128, .f32⟩
  | .hbm, ⟨12, _⟩ => ⟨S8x4x4096x128, .f32⟩
  | .hbm, ⟨13, _⟩ => ⟨S8x16x4x128, .f32⟩
  | .hbm, ⟨14, _⟩ => ⟨S8x4x16x128, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S16, .i32⟩
  | .hbm, ⟨20, _⟩ => ⟨S1x16, .i32⟩
  | .hbm, ⟨21, _⟩ => ⟨S4096x1, .i32⟩
  | .hbm, ⟨22, _⟩ => ⟨S4096x16, .i32⟩
  | .hbm, ⟨23, _⟩ => ⟨S4096x16, .i32⟩
  | .hbm, ⟨24, _⟩ => ⟨S4096x16, .i1⟩
  | .hbm, ⟨25, _⟩ => ⟨S8x4x4096x16, .f32⟩
  | .hbm, ⟨26, _⟩ => ⟨S_, .f32⟩
  | .hbm, ⟨27, _⟩ => ⟨S_, .f32⟩
  | .hbm, ⟨28, _⟩ => ⟨S8x4x4096x16, .i1⟩
  | .hbm, ⟨29, _⟩ => ⟨S8x4x4096x16, .f32⟩
  | .hbm, ⟨30, _⟩ => ⟨S8x4x4096x16, .f32⟩
  | .hbm, ⟨31, _⟩ => ⟨S8x4x4096x3, .f32⟩
  | .hbm, ⟨32, _⟩ => ⟨S8x4x4096x3, .i32⟩
  | .hbm, ⟨33, _⟩ => ⟨S8x4x4096x1, .i32⟩
  | .hbm, ⟨34, _⟩ => ⟨S1x1x1x16, .i32⟩
  | .hbm, ⟨35, _⟩ => ⟨S8x4x4096x16, .i32⟩
  | .hbm, ⟨36, _⟩ => ⟨S8x4x4096x16, .i32⟩
  | .hbm, ⟨37, _⟩ => ⟨S8x4x4096x16, .i1⟩
  | .hbm, ⟨38, _⟩ => ⟨S8x4x4096x1, .i32⟩
  | .hbm, ⟨39, _⟩ => ⟨S1x1x1x16, .i32⟩
  | .hbm, ⟨40, _⟩ => ⟨S8x4x4096x16, .i32⟩
  | .hbm, ⟨41, _⟩ => ⟨S8x4x4096x16, .i32⟩
  | .hbm, ⟨42, _⟩ => ⟨S8x4x4096x16, .i1⟩
  | .hbm, ⟨43, _⟩ => ⟨S8x4x4096x16, .i1⟩
  | .hbm, ⟨44, _⟩ => ⟨S8x4x4096x1, .i32⟩
  | .hbm, ⟨45, _⟩ => ⟨S1x1x1x16, .i32⟩
  | .hbm, ⟨46, _⟩ => ⟨S8x4x4096x16, .i32⟩
  | .hbm, ⟨47, _⟩ => ⟨S8x4x4096x16, .i32⟩
  | .hbm, ⟨48, _⟩ => ⟨S8x4x4096x16, .i1⟩
  | .hbm, ⟨49, _⟩ => ⟨S8x4x4096x16, .i1⟩
  | .hbm, ⟨50, _⟩ => ⟨S1x1x4096x16, .i1⟩
  | .hbm, ⟨51, _⟩ => ⟨S8x4x4096x16, .i1⟩
  | .hbm, ⟨52, _⟩ => ⟨S8x4x4096x16, .i1⟩
  | .hbm, ⟨53, _⟩ => ⟨S1x4096, .i32⟩
  | .hbm, ⟨54, _⟩ => ⟨S4096x1, .i32⟩
  | .hbm, ⟨55, _⟩ => ⟨S4096x4096, .i32⟩
  | .hbm, ⟨56, _⟩ => ⟨S4096x4096, .i32⟩
  | .hbm, ⟨57, _⟩ => ⟨S4096x4096, .i1⟩
  | .hbm, ⟨58, _⟩ => ⟨S1x4096, .i32⟩
  | .hbm, ⟨59, _⟩ => ⟨S4096x1, .i32⟩
  | .hbm, ⟨60, _⟩ => ⟨S4096x4096, .i32⟩
  | .hbm, ⟨61, _⟩ => ⟨S4096x4096, .i32⟩
  | .hbm, ⟨62, _⟩ => ⟨S4096x4096, .i1⟩
  | .hbm, ⟨63, _⟩ => ⟨S4096x4096, .i1⟩
  | .hbm, ⟨64, _⟩ => ⟨S8x4x4096x16x1, .i1⟩
  | .hbm, ⟨65, _⟩ => ⟨S8x4x4096x16x256, .i1⟩
  | .hbm, ⟨66, _⟩ => ⟨S8x4x4096x4096, .i1⟩
  | .hbm, ⟨67, _⟩ => ⟨S1x1x4096x4096, .i1⟩
  | .hbm, ⟨68, _⟩ => ⟨S8x4x4096x4096, .i1⟩
  | .hbm, ⟨69, _⟩ => ⟨S8x4x4096x4096, .i1⟩
  | .hbm, ⟨70, _⟩ => ⟨S8x4x4096x4096, .f32⟩
  | .hbm, ⟨71, _⟩ => ⟨S_, .f32⟩
  | .hbm, ⟨72, _⟩ => ⟨S_, .f32⟩
  | .hbm, ⟨73, _⟩ => ⟨S8x4x4096x4096, .f32⟩
  | .hbm, ⟨74, _⟩ => ⟨S8x4x4096x4096, .f32⟩
  | .hbm, ⟨75, _⟩ => ⟨S_, .f32⟩
  | .hbm, ⟨76, _⟩ => ⟨S8x4x4096, .f32⟩
  | .hbm, ⟨77, _⟩ => ⟨S_, .f32⟩
  | .hbm, ⟨78, _⟩ => ⟨S8x4x4096, .f32⟩
  | .hbm, ⟨79, _⟩ => ⟨S8x4x4096, .f32⟩
  | .hbm, ⟨80, _⟩ => ⟨S8x4x4096x1, .f32⟩
  | .hbm, ⟨81, _⟩ => ⟨S8x4x4096x4096, .f32⟩
  | .hbm, ⟨82, _⟩ => ⟨S8x4x4096x4096, .f32⟩
  | .hbm, ⟨83, _⟩ => ⟨S8x4x4096x4096, .f32⟩
  | .hbm, ⟨84, _⟩ => ⟨S_, .f32⟩
  | .hbm, ⟨85, _⟩ => ⟨S8x4x4096, .f32⟩
  | .hbm, ⟨86, _⟩ => ⟨S8x4x4096x1, .f32⟩
  | .hbm, ⟨87, _⟩ => ⟨S8x4x4096x4096, .f32⟩
  | .hbm, ⟨88, _⟩ => ⟨S8x4x4096x4096, .f32⟩
  | .hbm, ⟨89, _⟩ => ⟨S8x4x4096x128, .f32⟩
  | .hbm, ⟨90, _⟩ => ⟨S8x4096x4x128, .f32⟩
  | .hbm, ⟨91, _⟩ => ⟨S8x4096x512, .f32⟩
  | .hbm, ⟨92, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_values : Ref sig .tc := ⟨.hbm, 31, rfl⟩
abbrev main_indices : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_0 : Ref sig .tc := ⟨.hbm, 71, rfl⟩
abbrev main_call1_v0 : Ref sig .tc := ⟨.hbm, 72, rfl⟩
abbrev main_call1_v1 : Ref sig .tc := ⟨.hbm, 73, rfl⟩
abbrev main_v60 : Ref sig .tc := ⟨.hbm, 74, rfl⟩
abbrev main_cst_1 : Ref sig .tc := ⟨.hbm, 75, rfl⟩
abbrev main_v61 : Ref sig .tc := ⟨.hbm, 76, rfl⟩
abbrev main_cst_2 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_3 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Proof.Block.lean ====
/-
  One grid point of the merge kernel, as a value. The body of a point stores the tile's gated convolution input in rows
  32 to 287 of its scratch, reads the whole scratch back in overlapping blocks of 32 rows (one per tap of the
  convolution and per block of output rows), copies the last 32 rows to the front for the next point and stores the
  output tile. Here each of these is named as a function of the blocks the point is given: `uTile` (the convolution's
  input rows), `wind` (what the scratch holds while it is read), `convRows` (32 rows of the convolution), `tileOut`
  (the output tile), and the contents the run found are shown to be these.
-/
module
public import proofs.«01_k».proof.Proof.Gen.KernelIdeal.Value
public import Idealize.ShloMosaic.Lib.Tactic
public import Idealize.ShloMosaic.Lib.Pointwise
public import Idealize.ShloMosaic.Lib.WritesUnit

@[expose] public section
set_option maxRecDepth 16384
noncomputable section
open Idealize.ShloMosaic Idealize.ShloMosaic.TcCoe Idealize.SL.Sem
namespace Cert.KernelIdeal.Block
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The scratch while the taps read it: the tile's rows `u` from row 32 on, what it held before (`z`) in front. -/
def wind (z : Vec F S288x512 .f32) (u : Vec F S256x512 .f32) : Vec F S288x512 .f32 := fun y =>
  if h : 32 ≤ (y 0).val then u (ix2 ⟨(y 0).val - 32, by have := (y 0).isLt; change (y 0).val < 288 at this; omega⟩ ⟨(y 1).val, (y 1).isLt⟩) else z y

/-- A scratch of zeros. -/
def zeros : Vec F S288x512 .f32 := fun _ => Scalar.ofBits .f32 0x00000000#32

theorem unit_mem {s : Shape} {off size : Fin s.rank → Nat} {inb : ∀ a, off a + size a ≤ s.size a} (y : s.Idx) :
    y ∈ (Rect.unit off size inb).set ↔ ∀ a, off a ≤ (y a).val ∧ (y a).val < off a + size a := Rect.mem_set_unit ..

/-- The last store of the list, over any list whose canon is `z` in front. -/
theorem canon_wind (u : Vec F S256x512 .f32) (z : Vec F S288x512 .f32) (L : List (View.Piece (Elt F) S288x512 .f32))
    (inb) (y : S288x512.Idx) (hz : (y 0).val < 32 → View.canon L y = z y) :
    View.canon ((⟨Rect.unit (s := S288x512) ![32, 0] S256x512.size inb, u⟩ : View.Piece (Elt F) S288x512 .f32) :: L) y = wind z u y := by
  have h1 : (y 1).val < 512 := (y 1).isLt
  have h0 : (y 0).val < 288 := (y 0).isLt
  unfold wind
  by_cases h : 32 ≤ (y 0).val
  · rw [dif_pos h]
    have he : y = (Rect.unit (s := S288x512) ![32, 0] S256x512.size inb).emb (ix2 ⟨(y 0).val - 32, by omega⟩ ⟨(y 1).val, h1⟩ : S256x512.Idx) := by
      funext a
      apply Fin.ext
      match a with
      | ⟨0, _⟩ => show (y 0).val = 32 + 1 * ((y 0).val - 32); omega
      | ⟨1, _⟩ => show (y 1).val = 0 + 1 * (y 1).val; omega
    conv_lhs => rw [he]
    rw [View.canon_cons_emb]
  · rw [dif_neg h, View.canon_cons_of_not_mem, hz (by omega)]
    intro hm
    exact h (((unit_mem (inb := inb) y).mp hm) 0).1

section Loads
variable (a17 : Memref sig .tc .vmem S288x512 .f32) (h17 : a17.IsWhole) (u : Vec F S256x512 .f32) (z : Vec F S288x512 .f32)

theorem rows_of_box {o : Nat} (inb) (j : (Rect.unit (s := S288x512) ![o, 0] S32x512.size inb).toLoadRect.shape.Idx) :
    (((Rect.unit (s := S288x512) ![o, 0] S32x512.size inb).toLoadRect.idx j) 0).val = o + (j 0).val := by
  show o + 1 * (j 0).val = _; omega

/-- A block of rows past row 32, read after the tile's rows are stored: it reads them, whatever stood in front. -/
theorem load_past (o : Nat) (ho : 32 ≤ o) (inb0) (inb) :
    a17.view.readCov [⟨Rect.unit (s := S288x512) ![32, 0] S256x512.size inb0, u⟩] (Rect.unit (s := S288x512) ![o, 0] S32x512.size inb).toLoadRect
      = View.ld (wind z u) (Rect.unit (s := S288x512) ![o, 0] S32x512.size inb) := by
  rw [View.readCov_eq_canon']
  funext j
  refine (canon_wind u z [] inb0 _ fun hlt => ?_).trans rfl
  have := rows_of_box inb j
  omega

/-- The same, the front 32 rows holding the zeros stored before. -/
theorem load_zero (o : Nat) (inb0) (inb1) (inb) :
    a17.view.readCov [⟨Rect.unit (s := S288x512) ![32, 0] S256x512.size inb0, u⟩, ⟨Rect.unit (s := S288x512) ![0, 0] S32x512.size inb1, k0_pay4⟩]
        (Rect.unit (s := S288x512) ![o, 0] S32x512.size inb).toLoadRect
      = View.ld (wind zeros u) (Rect.unit (s := S288x512) ![o, 0] S32x512.size inb) := by
  rw [View.readCov_eq_canon']
  funext j
  refine (canon_wind u zeros _ inb0 _ fun hlt => ?_).trans rfl
  generalize (Rect.unit (s := S288x512) ![o, 0] S32x512.size inb).toLoadRect.idx j = y at hlt
  have h1 : (y 1).val < 512 := (y 1).isLt
  have he : y = (Rect.unit (s := S288x512) ![0, 0] S32x512.size inb1).emb (ix2 ⟨(y 0).val, hlt⟩ ⟨(y 1).val, h1⟩ : S32x512.Idx) := by
    funext a
    apply Fin.ext
    match a with
    | ⟨0, _⟩ => show (y 0).val = 0 + 1 * (y 0).val; omega
    | ⟨1, _⟩ => show (y 1).val = 0 + 1 * (y 1).val; omega
  conv_lhs => rw [he]
  rw [View.canon_cons_emb]
  unfold k0_pay4 zeros
  rw [shapeCast_self]
  rfl

/-- The scratch over what the point before left. -/
theorem read_kept (inb0) :
    a17.view.read (Elt F) (a17.view.writes (Elt F) (h17.unread z) [⟨Rect.unit (s := S288x512) ![32, 0] S256x512.size inb0, u⟩])
      = wind z u := by
  funext y
  have h1 : (y 1).val < 512 := (y 1).isLt
  have h0 : (y 0).val < 288 := (y 0).isLt
  rw [View.read_writes_cons_unit _ _ inb0 u [] y rfl]
  unfold wind
  by_cases h : 32 ≤ (y 0).val
  · rw [dif_pos h, dif_pos]
    · congr 1
      funext a
      apply Fin.ext
      match a with
      | ⟨0, _⟩ => rfl
      | ⟨1, _⟩ => rfl
    · intro a
      match a with
      | ⟨0, _⟩ => exact ⟨h, h0⟩
      | ⟨1, _⟩ => exact ⟨Nat.zero_le _, h1⟩
  · rw [dif_neg h, dif_neg (fun hh => h (hh 0).1), View.writes_nil, h17.read_unread]
end Loads

/-- Rows 0 to 31 after the last store of a point, which copies rows 256 to 287 there. -/
theorem front_rows (u : Vec F S256x512 .f32) (z : Vec F S288x512 .f32) (inb0 inb) {L : List (View.Piece (Elt F) S288x512 .f32)} (q : Fin 32) (k : Fin 512) :
    View.canon ((⟨Rect.unit (s := S288x512) ![0, 0] S32x512.size inb0, View.ld (wind z u) (Rect.unit (s := S288x512) ![256, 0] S32x512.size inb)⟩ : View.Piece (Elt F) S288x512 .f32) :: L)
      (ix2 ⟨q.val, by omega⟩ k : S288x512.Idx) = u (ix2 ⟨224 + q.val, by omega⟩ k) := by
  have he : (ix2 ⟨q.val, by omega⟩ k : S288x512.Idx) = (Rect.unit (s := S288x512) ![0, 0] S32x512.size inb0).emb (ix2 q k : S32x512.Idx) := by
    funext a
    apply Fin.ext
    match a with
    | ⟨0, _⟩ => show q.val = 0 + 1 * q.val; omega
    | ⟨1, _⟩ => show k.val = 0 + 1 * k.val; omega
  rw [he, View.canon_cons_emb]
  show wind z u ((Rect.unit (s := S288x512) ![256, 0] S32x512.size inb).idx (ix2 q k : S32x512.Idx)) = _
  unfold wind
  rw [dif_pos (by show 32 ≤ 256 + 1 * q.val; omega)]
  congr 1
  funext a
  apply Fin.ext
  match a with
  | ⟨0, _⟩ => show 256 + 1 * q.val - 32 = 224 + q.val; omega
  | ⟨1, _⟩ => show 0 + 1 * k.val = k.val; omega

/-! ## The tile's values -/

/-- A running sum of products: `b`, then for each tap `j` the weight row `w j` times the rows `s j`. -/
def chain (b : FVec F S32x512 .f32) (w : (j : Nat) → j < 31 → Vec F S1x512 .f32) (s : (j : Nat) → j < 31 → Vec F S32x512 .f32) :
    (n : Nat) → n ≤ 31 → FVec F S32x512 .f32
  | 0, _ => b
  | n + 1, h => addf (chain b w s n (Nat.le_of_succ_le h)) (mulf (broadcastTo S32x512 (w n h) broadcasts_S1x512_S32x512) (s n h))

theorem inb_w (j : Nat) (hj : j < 31) : ∀ a, (![j, 0] : Fin 2 → Nat) a + S1x512.size a ≤ S31x512.size a := fun a => by
  match a with
  | ⟨0, _⟩ => show j + 1 ≤ 31; omega
  | ⟨1, _⟩ => show 0 + 512 ≤ 512; omega

theorem inb_s (o : Nat) (ho : o ≤ 256) : ∀ a, (![o, 0] : Fin 2 → Nat) a + S32x512.size a ≤ S288x512.size a := fun a => by
  match a with
  | ⟨0, _⟩ => show o + 32 ≤ 288; omega
  | ⟨1, _⟩ => show 0 + 512 ≤ 512; omega

/-- 32 rows of the convolution, from row `o` of the tile on, over the scratch `W`. -/
def convRows (W : Vec F S288x512 .f32) (x7 : Vec F S31x512 .f32) (x8 : Vec F S1x512 .f32) (o : Nat) (ho : o ≤ 224) : FVec F S32x512 .f32 :=
  chain (addf (broadcast S32x512 (Scalar.ofBits .f32 0x00000000#32)) (broadcastTo S32x512 x8 broadcasts_S1x512_S32x512))
    (fun j hj => View.ld x7 (Rect.unit ![j, 0] S1x512.size (inb_w j hj)))
    (fun j hj => View.ld W (Rect.unit ![o + 2 + j, 0] S32x512.size (inb_s (o + 2 + j) (by omega)))) 31 (Nat.le_refl _)

/-- The convolution's rows of the whole tile, in eight blocks. -/
def convTile (W : Vec F S288x512 .f32) (x7 : Vec F S31x512 .f32) (x8 : Vec F S1x512 .f32) : FVec F S256x512 .f32 :=
  concatenate S256x512 0 [⟨S32x512, convRows W x7 x8 0 (by decide)⟩, ⟨S32x512, convRows W x7 x8 32 (by decide)⟩,
    ⟨S32x512, convRows W x7 x8 64 (by decide)⟩, ⟨S32x512, convRows W x7 x8 96 (by decide)⟩,
    ⟨S32x512, convRows W x7 x8 128 (by decide)⟩, ⟨S32x512, convRows W x7 x8 160 (by decide)⟩,
    ⟨S32x512, convRows W x7 x8 192 (by decide)⟩, ⟨S32x512, convRows W x7 x8 224 (by decide)⟩]
    concatenates_S32x512_S32x512_S32x512_S32x512_S32x512_S32x512_S32x512_S32x512_S256x512_d0

/-- The LayerNorm's scaled part over a tile (its scale row `x9`). -/
def lnTile (v : FVec F S256x512 .f32) (x9 : Vec F S1x512 .f32) : FVec F S256x512 .f32 :=
  have mu := broadcastTo S256x512 (divf (shapeCast S256x1 (multiReduction .add [1] S256 v 0x00000000#32 reduces_S256x512_S256 (.inl rfl) rfl) shapeCasts_S256_S256x1)
    (broadcast S256x1 (Scalar.ofBits .f32 0x44000000#32))) broadcasts_S256x1_S256x512
  have d := subf v mu
  mulf (mulf d (broadcastTo S256x512 (rsqrt (addf (divf (shapeCast S256x1 (multiReduction .add [1] S256 (mulf d d) 0x00000000#32 reduces_S256x512_S256 (.inl rfl) rfl) shapeCasts_S256_S256x1)
    (broadcast S256x1 (Scalar.ofBits .f32 0x44000000#32))) (broadcast S256x1 (Scalar.ofBits .f32 0x358637BD#32)))) broadcasts_S256x1_S256x512))
    (broadcastTo S256x512 x9 broadcasts_S1x512_S256x512)

/-- The value the run names for the convolution's normalised rows is `lnTile` of the rows' eight blocks. -/
theorem pay61_eq (r0 r1 r2 r3 r4 r5 r6 r7 : FVec F S32x512 .f32) (w0 : Vec F S1x512 .f32) (s0 : Vec F S32x512 .f32) (w1 : Vec F S1x512 .f32)
    (s1 : Vec F S32x512 .f32) (x9 : Vec F S1x512 .f32) :
    k0_pay61 r0 r1 r2 r3 r4 r5 r6 r7 w0 s0 w1 s1 x9
      = lnTile (concatenate S256x512 0 [⟨S32x512, r0⟩, ⟨S32x512, r1⟩, ⟨S32x512, r2⟩, ⟨S32x512, r3⟩, ⟨S32x512, r4⟩, ⟨S32x512, r5⟩, ⟨S32x512, r6⟩,
          ⟨S32x512, addf (addf r7 (mulf (broadcastTo S32x512 w0 broadcasts_S1x512_S32x512) s0)) (mulf (broadcastTo S32x512 w1 broadcasts_S1x512_S32x512) s1)⟩]
          concatenates_S32x512_S32x512_S32x512_S32x512_S32x512_S32x512_S32x512_S32x512_S256x512_d0) x9 := by
  unfold k0_pay61 lnTile
  rw [shapeCast_self]

/-- The convolution's input rows of the tile: the projection's value half times the sigmoid of its gate half. -/
def uTile (x0 : Vec F S1x256x1024 .f32) (x5 : Vec F S1x1024 .f32) (x6 : Vec F S1024x7680 .bf16) : FVec F S256x512 .f32 :=
  k0_pay5 x0 x5 (View.ld x6 (Rect.unit ![0, 0] S1024x512.size inb_S1024x7680_S1024x512_0_0)) (View.ld x6 (Rect.unit ![0, 512] S1024x512.size inb_S1024x7680_S1024x512_0_512))

/-- The memory branch of the tile: four heads of attention, gated. -/
def memTile (hn : FVec F S256x1024 .bf16) (x3 x4 : Vec F S1x256x512 .bf16) (x6 : Vec F S1024x7680 .bf16) : FVec F S256x512 .bf16 :=
  have q := k0_pay66 hn (View.ld x6 (Rect.unit ![0, 2560] S1024x512.size inb_S1024x7680_S1024x512_0_2560))
  k0_pay72 hn (k0_pay67 hn (View.ld x6 (Rect.unit ![0, 2560] S1024x512.size inb_S1024x7680_S1024x512_0_2560)) (View.ld x3 (Rect.unit ![0, 0, 0] S1x256x128.size inb_S1x256x512_S1x256x128_0_0_0)) (View.ld x4 (Rect.unit ![0, 0, 0] S1x256x128.size inb_S1x256x512_S1x256x128_0_0_0)))
    (k0_pay69 (k0_pay68 hn (View.ld x6 (Rect.unit ![0, 2560] S1024x512.size inb_S1024x7680_S1024x512_0_2560))) (View.ld x3 (Rect.unit ![0, 0, 128] S1x256x128.size inb_S1x256x512_S1x256x128_0_0_128)) (View.ld x4 (Rect.unit ![0, 0, 128] S1x256x128.size inb_S1x256x512_S1x256x128_0_0_128)))
    (k0_pay70 q (View.ld x3 (Rect.unit ![0, 0, 256] S1x256x128.size inb_S1x256x512_S1x256x128_0_0_256)) (View.ld x4 (Rect.unit ![0, 0, 256] S1x256x128.size inb_S1x256x512_S1x256x128_0_0_256)))
    (k0_pay71 q (View.ld x3 (Rect.unit ![0, 0, 384] S1x256x128.size inb_S1x256x512_S1x256x128_0_0_384))) (View.ld x4 (Rect.unit ![0, 0, 384] S1x256x128.size inb_S1x256x512_S1x256x128_0_0_384)) (View.ld x6 (Rect.unit ![0, 3072] S1024x512.size inb_S1024x7680_S1024x512_0_3072))

/-- The output tile, the scratch holding `W` while it is read. -/
def tileOut (W : Vec F S288x512 .f32) (x0 : Vec F S1x256x1024 .f32) (x1 x2 x3 x4 : Vec F S1x256x512 .bf16) (x5 : Vec F S1x1024 .f32)
    (x6 : Vec F S1024x7680 .bf16) (x7 : Vec F S31x512 .f32) (x8 x9 x10 : Vec F S1x512 .f32) (x11 : Vec F S4x512x1024 .bf16)
    (x12 : Vec F S1024x1024 .bf16) (x13 : Vec F S1x1024 .f32) : Vec F S1x256x1024 .f32 :=
  have hn := k0_pay3 x0 x5
  k0_pay1 (k0_pay2 x0) (memTile hn x3 x4 x6)
    (k0_pay75 hn (k0_pay63 hn (lnTile (convTile W x7 x8) x9) (k0_pay62 x10) (View.ld x6 (Rect.unit ![0, 1024] S1024x512.size inb_S1024x7680_S1024x512_0_1024)))
      (k0_pay64 hn x1 (View.ld x6 (Rect.unit ![0, 1536] S1024x512.size inb_S1024x7680_S1024x512_0_1536))) (k0_pay65 hn x2 (View.ld x6 (Rect.unit ![0, 2048] S1024x512.size inb_S1024x7680_S1024x512_0_2048))) k0_pay73
      (k0_pay74 hn (View.ld x6 (Rect.unit ![0, 3584] S1024x1024.size inb_S1024x7680_S1024x1024_0_3584))) (View.ld x11 (Rect.unit ![0, 0, 0] S1x512x1024.size inb_S4x512x1024_S1x512x1024_0_0_0)) (View.ld x6 (Rect.unit ![0, 4608] S1024x1024.size inb_S1024x7680_S1024x1024_0_4608)) (View.ld x11 (Rect.unit ![1, 0, 0] S1x512x1024.size inb_S4x512x1024_S1x512x1024_1_0_0)) (View.ld x6 (Rect.unit ![0, 5632] S1024x1024.size inb_S1024x7680_S1024x1024_0_5632)) (View.ld x11 (Rect.unit ![2, 0, 0] S1x512x1024.size inb_S4x512x1024_S1x512x1024_2_0_0)))
    (k0_pay77 hn (k0_pay76 (View.ld x6 (Rect.unit ![0, 6656] S1024x1024.size inb_S1024x7680_S1024x1024_0_6656)))) (View.ld x11 (Rect.unit ![3, 0, 0] S1x512x1024.size inb_S4x512x1024_S1x512x1024_3_0_0)) x12 x13

variable (c : Dev nD) (i : grid0.Coords)
  (a2 : Memref sig .tc .vmem S1x256x1024 .f32) (h2 : a2.IsWhole) (a3 : Memref sig .tc .vmem S1x256x512 .bf16) (h3 : a3.IsWhole)
  (a4 : Memref sig .tc .vmem S1x256x512 .bf16) (h4 : a4.IsWhole) (a5 : Memref sig .tc .vmem S1x256x512 .bf16) (h5 : a5.IsWhole)
  (a6 : Memref sig .tc .vmem S1x256x512 .bf16) (h6 : a6.IsWhole) (a7 : Memref sig .tc .vmem S1x1024 .f32) (h7 : a7.IsWhole)
  (a8 : Memref sig .tc .vmem S1024x7680 .bf16) (h8 : a8.IsWhole) (a9 : Memref sig .tc .vmem S31x512 .f32) (h9 : a9.IsWhole)
  (a10 : Memref sig .tc .vmem S1x512 .f32) (h10 : a10.IsWhole) (a11 : Memref sig .tc .vmem S1x512 .f32) (h11 : a11.IsWhole)
  (a12 : Memref sig .tc .vmem S1x512 .f32) (h12 : a12.IsWhole) (a13 : Memref sig .tc .vmem S4x512x1024 .bf16) (h13 : a13.IsWhole)
  (a14 : Memref sig .tc .vmem S1024x1024 .bf16) (h14 : a14.IsWhole) (a15 : Memref sig .tc .vmem S1x1024 .f32) (h15 : a15.IsWhole)
  (a16 : Memref sig .tc .vmem S1x256x1024 .f32) (h16 : a16.IsWhole) (a17 : Memref sig .tc .vmem S288x512 .f32) (h17 : a17.IsWhole)
  (x0 : Vec F S1x256x1024 .f32) (x1 x2 x3 x4 : Vec F S1x256x512 .bf16) (x5 : Vec F S1x1024 .f32) (x6 : Vec F S1024x7680 .bf16)
  (x7 : Vec F S31x512 .f32) (x8 x9 x10 : Vec F S1x512 .f32) (x11 : Vec F S4x512x1024 .bf16) (x12 : Vec F S1024x1024 .bf16)
  (x13 : Vec F S1x1024 .f32)

set_option maxHeartbeats 1000000 in
/-- The output tile in case A. -/
theorem out_A (hc : cond0_0 i) :
    out0_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 = tileOut (wind zeros (uTile x0 x5 x6)) x0 x1 x2 x3 x4 x5 x6 x7 x8 x9 x10 x11 x12 x13 := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13)]
  unfold kernelRun0_A
  dsimp only
  sl_unfold_words
  rw [View.canon_unit_zero hz3]
  have e6 : ∀ u : FVec F S256x512 .f32, k0_pay6 u = u := fun u => by unfold k0_pay6; rw [shapeCast_self]
  simp (disch := decide) only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h17.read_unread, e6,
    View.ld_unit_zero (S := S1x256x1024) hz3, View.ld_unit_zero (S := S1x256x512) hz3, View.ld_unit_zero (S := S1x1024) hz2, View.ld_unit_zero (S := S1x512) hz2, View.ld_unit_zero (S := S1024x1024) hz2,
    load_past a17 _ zeros, load_zero a17]
  simp only [pay61_eq, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, shapeCast_self]
  simp only [tileOut, memTile, uTile, convTile, convRows, chain, Nat.reduceAdd]

/-- What case A leaves in the first 32 rows of the scratch: the tile's last 32 rows. -/
theorem scr_A (hc : cond0_0 i) (q : Fin 32) (k : Fin 512) :
    sout0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 (ix2 ⟨q.val, by omega⟩ k) = uTile x0 x5 x6 (ix2 ⟨224 + q.val, by omega⟩ k) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13)]
  unfold kernelRun0_A
  dsimp only
  sl_unfold_words
  have e6 : ∀ u : FVec F S256x512 .f32, k0_pay6 u = u := fun u => by unfold k0_pay6; rw [shapeCast_self]
  have e60 : ∀ u : FVec F S32x512 .f32, k0_pay60 u = u := fun u => by unfold k0_pay60; rw [shapeCast_self]
  simp (disch := decide) only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h17.read_unread, e6, e60,
    View.ld_unit_zero (S := S1x256x1024) hz3, View.ld_unit_zero (S := S1x256x512) hz3, View.ld_unit_zero (S := S1x1024) hz2, View.ld_unit_zero (S := S1x512) hz2, View.ld_unit_zero (S := S1024x1024) hz2,
    load_past a17 _ zeros, load_zero a17]
  exact front_rows (uTile x0 x5 x6) zeros _ _ q k

set_option maxHeartbeats 1000000 in
/-- The output tile in case B. -/
theorem out_B (hc : ¬cond0_0 i) (xs : Vec F S288x512 .f32) :
    out0_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 xs = tileOut (wind xs (uTile x0 x5 x6)) x0 x1 x2 x3 x4 x5 x6 x7 x8 x9 x10 x11 x12 x13 := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 xs)]
  unfold kernelRun0_B
  dsimp only
  sl_unfold_words
  rw [View.canon_unit_zero hz3]
  have e6 : ∀ u : FVec F S256x512 .f32, k0_pay6 u = u := fun u => by unfold k0_pay6; rw [shapeCast_self]
  simp (disch := decide) only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h17.read_unread, e6,
    View.ld_unit_zero (S := S1x256x1024) hz3, View.ld_unit_zero (S := S1x256x512) hz3, View.ld_unit_zero (S := S1x1024) hz2, View.ld_unit_zero (S := S1x512) hz2, View.ld_unit_zero (S := S1024x1024) hz2,
    load_past a17 _ xs, read_kept a17 h17]
  simp only [pay61_eq, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, shapeCast_self]
  simp only [tileOut, memTile, uTile, convTile, convRows, chain, Nat.reduceAdd]

/-- What case B leaves in the first 32 rows of the scratch: the tile's last 32 rows. -/
theorem scr_B (hc : ¬cond0_0 i) (xs : Vec F S288x512 .f32) (q : Fin 32) (k : Fin 512) :
    sout0_B_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 xs (ix2 ⟨q.val, by omega⟩ k) = uTile x0 x5 x6 (ix2 ⟨224 + q.val, by omega⟩ k) := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 xs)]
  unfold kernelRun0_B
  dsimp only
  sl_unfold_words
  have e6 : ∀ u : FVec F S256x512 .f32, k0_pay6 u = u := fun u => by unfold k0_pay6; rw [shapeCast_self]
  have e60 : ∀ u : FVec F S32x512 .f32, k0_pay60 u = u := fun u => by unfold k0_pay60; rw [shapeCast_self]
  simp (disch := decide) only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h17.read_unread, e6, e60,
    View.ld_unit_zero (S := S1x256x1024) hz3, View.ld_unit_zero (S := S1x256x512) hz3, View.ld_unit_zero (S := S1x1024) hz2, View.ld_unit_zero (S := S1x512) hz2, View.ld_unit_zero (S := S1024x1024) hz2,
    load_past a17 _ xs, read_kept a17 h17]
  exact front_rows (uTile x0 x5 x6) xs _ _ q k

end Cert.KernelIdeal.Block
-- ==== Proof.Spec.lean ====
/-
  The merge of the branches, one token at a time, over the extended reals. A token's row of the layer's input is
  normalised and projected; the projection's pieces feed a depthwise convolution over the last 31 tokens and an
  attention over the memory's 256 slots; with the two branches given from outside they are gated, projected, summed
  under a second gate, projected once more onto the residual and normalised. Both programs are shown to compute
  `mergeRow`.
-/
module
public import Idealize.ShloMosaic.Lib.Pointwise

@[expose] public section
noncomputable section
open Idealize.ShloMosaic
namespace Cert.Merge

/-- The extended real an f32 word stands for. -/
abbrev word (b : BitVec 32) : EReal := Ideal.ofBits .f32 b

/-- The logistic function. -/
def logis (x : EReal) : EReal := Ideal.div 1 (1 + Ideal.exp (0 - x))

/-- A value times its own logistic. -/
def silu (x : EReal) : EReal := x * logis x

/-- A row over the root of its mean square, times a scale. -/
def rms (x g : Fin 1024 → EReal) (k : Fin 1024) : EReal :=
  x k * Ideal.rsqrt (Ideal.div (∑ i, x i * x i) (word 0x44800000#32) + word 0x358637BD#32) * g k

/-- A row's mean. -/
def mean (v : Fin 512 → EReal) : EReal := Ideal.div (∑ i, v i) (word 0x44000000#32)

/-- A row less its mean over its deviation, times a scale, plus a shift. -/
def lnorm (v g b : Fin 512 → EReal) (c : Fin 512) : EReal :=
  (v c - mean v) * Ideal.rsqrt (mean (fun i => (v i - mean v) * (v i - mean v)) + word 0x358637BD#32) * g c + b c

/-- The softmax of the scores `s` applied to the values `v`, the quotient taken last. -/
def attn (s v : Fin 256 → EReal) : EReal :=
  Ideal.div (∑ m, Ideal.exp (s m - Finset.univ.fold max (word 0xFF800000#32) s) * v m)
    (∑ m, Ideal.exp (s m - Finset.univ.fold max (word 0xFF800000#32) s))

/-- The `i`-th column of the head column `c` belongs to. -/
def hcol (c : Fin 512) (i : Fin 128) : Fin 512 := ⟨128 * (c.val / 128) + i.val, by omega⟩

/-- The attention over the memory at column `c`, from the projected query row. -/
def memory (q : Fin 512 → EReal) (mk mv : Fin 256 → Fin 512 → EReal) (c : Fin 512) : EReal :=
  attn (fun m => ∑ i : Fin 128, (q (hcol c i) * word 0x3DB504F3#32) * mk m (hcol c i)) (fun m => mv m c)

/-- The convolution at one token: the window's row of tap `j` is `U j`. -/
def conv (U cw : Fin 31 → Fin 512 → EReal) (cb : Fin 512 → EReal) (c : Fin 512) : EReal := cb c + ∑ j, cw j c * U j c

/-- Column `c` of a token's projection. -/
def proj (x g : Fin 1024 → EReal) (w : Fin 1024 → Fin 7680 → EReal) (c : Fin 7680) : EReal := ∑ k, rms x g k * w k c

/-- What a token gives the convolution. -/
def glu (x g : Fin 1024 → EReal) (w : Fin 1024 → Fin 7680 → EReal) (c : Fin 512) : EReal :=
  proj x g w ⟨c.val, by omega⟩ * logis (proj x g w ⟨512 + c.val, by omega⟩)

/-- The four gated branches of a token. -/
def branch (p : Fin 7680 → EReal) (cv lg lb ym yg : Fin 512 → EReal) (mk mv : Fin 256 → Fin 512 → EReal) :
    Fin 4 → Fin 512 → EReal
  | 0 => fun c => silu (lnorm cv lg lb c) * silu (p ⟨1024 + c.val, by omega⟩)
  | 1 => fun c => ym c * silu (p ⟨1536 + c.val, by omega⟩)
  | 2 => fun c => yg c * silu (p ⟨2048 + c.val, by omega⟩)
  | 3 => fun c => memory (fun c => p ⟨2560 + c.val, by omega⟩) mk mv c * silu (p ⟨3072 + c.val, by omega⟩)

/-- The branches projected, gated and summed. -/
def merged (p : Fin 7680 → EReal) (ys : Fin 4 → Fin 512 → EReal) (wb : Fin 4 → Fin 512 → Fin 1024 → EReal) (e : Fin 1024) : EReal :=
  ∑ n : Fin 4, logis (p ⟨3584 + 1024 * n.val + e.val, by omega⟩) * ∑ k, ys n k * wb n k e

/-- The merge's output at one token: its input row `x`, the convolution's window `U`, the two given branches `ym` and
    `yg`, the memory's keys `mk` and values `mv`, and the layer's parameters. -/
def mergeRow (x : Fin 1024 → EReal) (U : Fin 31 → Fin 512 → EReal) (ym yg : Fin 512 → EReal) (mk mv : Fin 256 → Fin 512 → EReal)
    (g : Fin 1024 → EReal) (w : Fin 1024 → Fin 7680 → EReal) (cw : Fin 31 → Fin 512 → EReal) (cb lg lb : Fin 512 → EReal)
    (wb : Fin 4 → Fin 512 → Fin 1024 → EReal) (wo : Fin 1024 → Fin 1024 → EReal) (fg : Fin 1024 → EReal) : Fin 1024 → EReal :=
  rms (fun d => x d + ∑ e, merged (proj x g w) (branch (proj x g w) (conv U cw cb) lg lb ym yg mk mv) wb e * wo e d) fg

/-- The convolution's window at token `s` of a sequence whose token `t` gives `u t`: tap `j` sees token `s + j - 30`,
    and zero before the sequence begins. -/
def window (u : Fin 4096 → Fin 512 → EReal) (s : Fin 4096) (j : Fin 31) (c : Fin 512) : EReal :=
  if s.val + j.val < 30 then 0 else u ⟨s.val + j.val - 30, by omega⟩ c

/-- The column of the projection's whole weight that column `c` of the merge's part of it is. -/
def wcol (c : Fin 7680) : Fin 10256 :=
  if h : c.val < 1536 then ⟨c.val, by omega⟩ else if h : c.val < 2048 then ⟨c.val + 1536, by omega⟩ else ⟨c.val + 2576, by omega⟩

/-- The merge over the whole arrays: batch entry `b`, token `s`, column `d`. -/
def mergeAt (x : Fin 8 → Fin 4096 → Fin 1024 → EReal) (ym yg : Fin 8 → Fin 4096 → Fin 512 → EReal) (mk mv : Fin 8 → Fin 256 → Fin 512 → EReal)
    (g : Fin 1024 → EReal) (w : Fin 1024 → Fin 10256 → EReal) (cw : Fin 31 → Fin 512 → EReal) (cb lg lb : Fin 512 → EReal)
    (wb : Fin 4 → Fin 512 → Fin 1024 → EReal) (wo : Fin 1024 → Fin 1024 → EReal) (fg : Fin 1024 → EReal)
    (b : Fin 8) (s : Fin 4096) (d : Fin 1024) : EReal :=
  mergeRow (x b s) (window (fun t => glu (x b t) g (fun k c => w k (wcol c))) s) (ym b s) (yg b s) (mk b) (mv b)
    g (fun k c => w k (wcol c)) cw cb lg lb wb wo fg d

end Cert.Merge
-- ==== Proof.TileRead.lean ====
/-
  The output tile of the merge kernel read at one element, over the extended reals: it is the token's `mergeRow`, the
  convolution's window being 31 rows of the scratch.
-/
module
public import proofs.«01_k».proof.Proof.Block
public import proofs.«01_k».proof.Proof.Spec

@[expose] public section
set_option maxRecDepth 16384
noncomputable section
open Idealize.ShloMosaic Idealize.ShloMosaic.TcCoe Idealize.SL.Sem
namespace Cert.KernelIdeal.Block
open Cert.KernelIdeal Cert.KernelIdeal.Gen Cert.Merge

/-- Row `r` of the block of the layer's input. -/
abbrev xrow (x0 : Vec Ideal S1x256x1024 .f32) (r : Fin 256) : Fin 1024 → EReal := fun k => x0 (ix3 0 r k)
/-- A one-row block as a row. -/
abbrev row1 {n : Nat} (x : (Shape.mk 2 ![1, n]).Idx → EReal) : Fin n → EReal := fun k => x (ix2 0 k)
/-- A matrix by its two coordinates. -/
abbrev mat {a b : Nat} (x : (Shape.mk 2 ![a, b]).Idx → EReal) : Fin a → Fin b → EReal := fun k c => x (ix2 k c)
/-- The block of one batch entry by its last two coordinates. -/
abbrev mat3 {a b : Nat} (x : (Shape.mk 3 ![1, a, b]).Idx → EReal) : Fin a → Fin b → EReal := fun k c => x (ix3 0 k c)

theorem hn_apply (x0 : Vec Ideal S1x256x1024 .f32) (x5 : Vec Ideal S1x1024 .f32) (r : Fin 256) (k : Fin 1024) :
    k0_pay3 x0 x5 (ix2 r k) = rms (xrow x0 r) (row1 x5) k := by
  pointwise [k0_pay3, k0_pay2]
  rfl

theorem uTile_apply (x0 : Vec Ideal S1x256x1024 .f32) (x5 : Vec Ideal S1x1024 .f32) (x6 : Vec Ideal S1024x7680 .bf16) (r : Fin 256) (k : Fin 512) :
    uTile x0 x5 x6 (ix2 r k) = glu (xrow x0 r) (row1 x5) (mat x6) k := by
  pointwise [uTile, k0_pay5, k0_pay4]
  simp only [hn_apply]
  rfl

theorem chain_apply (b : FVec Ideal S32x512 .f32) (w : (j : Nat) → j < 31 → Vec Ideal S1x512 .f32) (s : (j : Nat) → j < 31 → Vec Ideal S32x512 .f32)
    (r : Fin 32) (k : Fin 512) : ∀ (n : Nat) (h : n ≤ 31), chain b w s n h (ix2 r k)
      = b (ix2 r k) + ∑ j : Fin n, w j.val (Nat.lt_of_lt_of_le j.isLt h) (ix2 0 k) * s j.val (Nat.lt_of_lt_of_le j.isLt h) (ix2 r k)
  | 0, _ => by simp [chain]
  | n + 1, h => by
    rw [Fin.sum_univ_castSucc, ← add_assoc]
    refine Eq.trans ?_ (congrArg (· + _) (chain_apply b w s r k n (Nat.le_of_succ_le h)))
    rw [chain]
    generalize chain b w s n _ = y
    pointwise []
    rfl

theorem convRows_apply (W : Vec Ideal S288x512 .f32) (x7 : Vec Ideal S31x512 .f32) (x8 : Vec Ideal S1x512 .f32) (o : Nat) (ho : o ≤ 224) (r : Fin 32) (k : Fin 512) :
    convRows W x7 x8 o ho (ix2 r k) = conv (fun j k => W (ix2 ⟨o + r.val + 2 + j.val, by omega⟩ k)) (mat x7) (row1 x8) k := by
  unfold convRows conv
  rw [chain_apply]
  congr 1
  · pointwise []
  · refine Finset.sum_congr rfl fun j _ => ?_
    pointwise []
    congr 2
    exact congrArg (fun z => ix2 z k) (Fin.ext (by show o + 2 + j.val + r.val = o + r.val + 2 + j.val; omega))

theorem convTile_apply (W : Vec Ideal S288x512 .f32) (x7 : Vec Ideal S31x512 .f32) (x8 : Vec Ideal S1x512 .f32) (r : Fin 256) (k : Fin 512) :
    convTile W x7 x8 (ix2 r k) = conv (fun j k => W (ix2 ⟨r.val + 2 + j.val, by omega⟩ k)) (mat x7) (row1 x8) k := by
  pointwise [convTile]
  simp only [convRows_apply]
  split_ifs <;> (congr 1; funext j k; congr 2; apply Fin.ext; simp only []; omega)

theorem head0_apply (hn : FVec Ideal S256x1024 .bf16) (q : Vec Ideal S1024x512 .bf16) (mk mv : Vec Ideal S1x256x128 .bf16) (r : Fin 256) (i : Fin 128) :
    k0_pay67 hn q mk mv (ix2 r i)
      = attn (fun m => ∑ x : Fin 128, ((∑ k, hn (ix2 r k) * q (ix2 k ⟨0 + x.val, by omega⟩)) * word 0x3DB504F3#32) * mk (ix3 0 m x)) (fun m => mv (ix3 0 m i)) := by
  pointwise [k0_pay67, k0_pay66]
  rfl

theorem query_apply (hn : FVec Ideal S256x1024 .bf16) (q : Vec Ideal S1024x512 .bf16) (r : Fin 256) (i : Fin 512) :
    k0_pay66 hn q (ix2 r i) = (∑ k, hn (ix2 r k) * q (ix2 k i)) * word 0x3DB504F3#32 := by
  pointwise [k0_pay66]

theorem head1_apply (hn : FVec Ideal S256x1024 .bf16) (q : Vec Ideal S1024x512 .bf16) (mk mv : Vec Ideal S1x256x128 .bf16) (r : Fin 256) (i : Fin 128) :
    k0_pay69 (k0_pay68 hn q) mk mv (ix2 r i)
      = attn (fun m => ∑ x : Fin 128, ((∑ k, hn (ix2 r k) * q (ix2 k ⟨128 + x.val, by omega⟩)) * word 0x3DB504F3#32) * mk (ix3 0 m x)) (fun m => mv (ix3 0 m i)) := by
  pointwise [k0_pay69, k0_pay68]
  simp only [query_apply]
  rfl

theorem head2_apply (q : FVec Ideal S256x512 .f32) (mk mv : Vec Ideal S1x256x128 .bf16) (r : Fin 256) (i : Fin 128) :
    k0_pay70 q mk mv (ix2 r i)
      = attn (fun m => ∑ x : Fin 128, q (ix2 r ⟨256 + x.val, by omega⟩) * mk (ix3 0 m x)) (fun m => mv (ix3 0 m i)) := by
  pointwise [k0_pay70]
  rfl

theorem scores3_apply (q : FVec Ideal S256x512 .f32) (mk : Vec Ideal S1x256x128 .bf16) (r m : Fin 256) :
    k0_pay71 q mk (ix2 r m) = ∑ x : Fin 128, q (ix2 r ⟨384 + x.val, by omega⟩) * mk (ix3 0 m x) := by
  pointwise [k0_pay71]

theorem mem_apply (hn : FVec Ideal S256x1024 .bf16) (x3 x4 : Vec Ideal S1x256x512 .bf16) (x6 : Vec Ideal S1024x7680 .bf16) (r : Fin 256) (c : Fin 512) :
    memTile hn x3 x4 x6 (ix2 r c)
      = memory (fun c => ∑ k, hn (ix2 r k) * x6 (ix2 k ⟨2560 + c.val, by omega⟩)) (mat3 x3) (mat3 x4) c
          * silu (∑ k, hn (ix2 r k) * x6 (ix2 k ⟨3072 + c.val, by omega⟩)) := by
  have hq : ∀ n (hn : n < 4), c.val / 128 = n → ∀ i : Fin 128, hcol c i = ⟨128 * n + i.val, by omega⟩ := fun n _ h i => Fin.ext (by simp only [hcol, h])
  pointwise [memTile, k0_pay72]
  simp only [head0_apply, head1_apply, head2_apply, scores3_apply, query_apply]
  refine congrArg₂ (· * ·) ?_ rfl
  by_cases h1 : c.val < 128
  · rw [dif_pos h1]
    refine congrArg₂ attn (funext fun m => ?_) (funext fun m => ?_)
    · simp only [hq 0 (by omega) (by omega)]
      pointwise []
    · pointwise []
  rw [dif_neg h1]
  by_cases h2 : c.val - 128 < 128
  · rw [dif_pos h2]
    refine congrArg₂ attn (funext fun m => ?_) (funext fun m => ?_)
    · simp only [hq 1 (by omega) (by omega)]
      pointwise []
    · pointwise []
      exact congrArg (fun z => x4 (ix3 0 m z)) (Fin.ext (by simp only []; omega))
  rw [dif_neg h2]
  by_cases h3 : c.val - 128 - 128 < 128
  · rw [dif_pos h3]
    refine congrArg₂ attn (funext fun m => ?_) (funext fun m => ?_)
    · simp only [hq 2 (by omega) (by omega)]
      pointwise []
    · pointwise []
      exact congrArg (fun z => x4 (ix3 0 m z)) (Fin.ext (by simp only []; omega))
  rw [dif_neg h3]
  refine Eq.trans (b := attn _ _) rfl (congrArg₂ attn (funext fun m => ?_) (funext fun m => ?_))
  · simp only [hq 3 (by omega) (by omega)]
    pointwise []
  · pointwise []
    exact congrArg (fun z => x4 (ix3 0 m z)) (Fin.ext (by simp only []; omega))

theorem lnTile_apply (v : FVec Ideal S256x512 .f32) (x9 x10 : Vec Ideal S1x512 .f32) (r : Fin 256) (k : Fin 512) :
    lnTile v x9 (ix2 r k) + x10 (ix2 0 k) = lnorm (fun c => v (ix2 r c)) (row1 x9) (row1 x10) k := by
  pointwise [lnTile]
  rfl

/-- The three branches before the last, gated, projected and summed under their gates. -/
theorem three_apply (hn : FVec Ideal S256x1024 .bf16) (a b c : FVec Ideal S256x512 .bf16) (w0 w1 w2 : Vec Ideal S1x512x1024 .bf16)
    (c0 c1 c2 : Vec Ideal S1024x1024 .bf16) (r : Fin 256) (e : Fin 1024) :
    k0_pay75 hn a b c k0_pay73 (k0_pay74 hn c0) w0 c1 w1 c2 w2 (ix2 r e)
      = logis (∑ k, hn (ix2 r k) * c0 (ix2 k e)) * (∑ k, a (ix2 r k) * w0 (ix3 0 k e))
        + logis (∑ k, hn (ix2 r k) * c1 (ix2 k e)) * (∑ k, b (ix2 r k) * w1 (ix3 0 k e))
        + logis (∑ k, hn (ix2 r k) * c2 (ix2 k e)) * (∑ k, c (ix2 r k) * w2 (ix3 0 k e)) := by
  pointwise [k0_pay75, k0_pay73, k0_pay74]
  rfl

theorem last_apply (x0 : Vec Ideal S1x256x1024 .f32) (m : FVec Ideal S256x512 .bf16) (p g : FVec Ideal S256x1024 .f32) (wb : Vec Ideal S1x512x1024 .bf16)
    (wo : Vec Ideal S1024x1024 .bf16) (fg : Vec Ideal S1x1024 .f32) (r : Fin 256) (d : Fin 1024) :
    k0_pay1 (k0_pay2 x0) m p g wb wo fg (ix3 0 r d)
      = rms (fun d => x0 (ix3 0 r d) + ∑ e, (p (ix2 r e) + g (ix2 r e) * ∑ k, m (ix2 r k) * wb (ix3 0 k e)) * wo (ix2 e d)) (row1 fg) d := by
  pointwise [k0_pay1, k0_pay2]
  rfl

theorem convBranch_apply (hn : FVec Ideal S256x1024 .bf16) (v : FVec Ideal S256x512 .f32) (x9 x10 : Vec Ideal S1x512 .f32) (cz : Vec Ideal S1024x512 .bf16)
    (r : Fin 256) (k : Fin 512) :
    k0_pay63 hn (lnTile v x9) (k0_pay62 x10) cz (ix2 r k)
      = silu (lnorm (fun c => v (ix2 r c)) (row1 x9) (row1 x10) k) * silu (∑ i, hn (ix2 r i) * cz (ix2 i k)) := by
  rw [← lnTile_apply]
  pointwise [k0_pay63, k0_pay62]
  rfl

theorem given_apply (hn : FVec Ideal S256x1024 .bf16) (y : Vec Ideal S1x256x512 .bf16) (z : Vec Ideal S1024x512 .bf16) (r : Fin 256) (k : Fin 512) :
    k0_pay64 hn y z (ix2 r k) = y (ix3 0 r k) * silu (∑ i, hn (ix2 r i) * z (ix2 i k)) := by
  pointwise [k0_pay64]
  rfl

theorem given'_apply (hn : FVec Ideal S256x1024 .bf16) (y : Vec Ideal S1x256x512 .bf16) (z : Vec Ideal S1024x512 .bf16) (r : Fin 256) (k : Fin 512) :
    k0_pay65 hn y z (ix2 r k) = y (ix3 0 r k) * silu (∑ i, hn (ix2 r i) * z (ix2 i k)) := by
  pointwise [k0_pay65]
  rfl

theorem gate3_apply (hn : FVec Ideal S256x1024 .bf16) (z : Vec Ideal S1024x1024 .bf16) (r : Fin 256) (e : Fin 1024) :
    k0_pay77 hn (k0_pay76 z) (ix2 r e) = logis (∑ i, hn (ix2 r i) * z (ix2 i e)) := by
  pointwise [k0_pay77, k0_pay76]
  rfl

/-- One element of the output tile. -/
theorem tileOut_apply (W : Vec Ideal S288x512 .f32) (x0 : Vec Ideal S1x256x1024 .f32) (x1 x2 x3 x4 : Vec Ideal S1x256x512 .bf16) (x5 : Vec Ideal S1x1024 .f32)
    (x6 : Vec Ideal S1024x7680 .bf16) (x7 : Vec Ideal S31x512 .f32) (x8 x9 x10 : Vec Ideal S1x512 .f32) (x11 : Vec Ideal S4x512x1024 .bf16)
    (x12 : Vec Ideal S1024x1024 .bf16) (x13 : Vec Ideal S1x1024 .f32) (r : Fin 256) (d : Fin 1024) :
    tileOut W x0 x1 x2 x3 x4 x5 x6 x7 x8 x9 x10 x11 x12 x13 (ix3 0 r d)
      = mergeRow (xrow x0 r) (fun j k => W (ix2 ⟨r.val + 2 + j.val, by omega⟩ k)) (fun k => x1 (ix3 0 r k)) (fun k => x2 (ix3 0 r k)) (mat3 x3) (mat3 x4)
          (row1 x5) (mat x6) (mat x7) (row1 x8) (row1 x9) (row1 x10) (fun n k e => x11 (ix3 n k e)) (mat x12) (row1 x13) d := by
  unfold tileOut mergeRow
  rw [last_apply]
  simp only [three_apply, gate3_apply, mem_apply, given_apply, given'_apply, convBranch_apply, convTile_apply, hn_apply, merged, Fin.sum_univ_four]
  pointwise []
  rfl

end Cert.KernelIdeal.Block
-- ==== Proof.Array.lean ====
/-
  The merge kernel's result array at one element: each grid point's blocks are read from the arrays in memory, and the
  rows the scratch carries from one point to the next are the convolution's inputs of the 30 tokens before the tile.
-/
module
public import proofs.«01_k».proof.Proof.TileRead
public import Idealize.ShloMosaic.Lib.Pipeline.ValueKit
public import Idealize.ShloMosaic.Lib.StableHlo.ReadAt
public import Idealize.ShloMosaic.Lib.Claim

@[expose] public section
set_option maxRecDepth 16384
noncomputable section
open Idealize.ShloMosaic Idealize.ShloMosaic.TcCoe Idealize.SL.Sem
namespace Cert.KernelIdeal.Array
open Cert.KernelIdeal Cert.KernelIdeal.Gen Cert.KernelIdeal.Block Cert.Merge
variable (m : (ℓ : Loc nD τ sig) → Buf (Elt Ideal) ℓ) (c : Dev nD)

/-! ## The blocks of a grid point -/

theorem index_facts : ∀ t : Fin cfg0.N,
    (win0_0.index t = ![t.val / 16, t.val % 16, 0] ∧ win0_1.index t = ![t.val / 16, t.val % 16, 0] ∧ win0_2.index t = ![t.val / 16, t.val % 16, 0])
    ∧ (win0_3.index t = ![t.val / 16, 0, 0] ∧ win0_4.index t = ![t.val / 16, 0, 0] ∧ win0_5.index t = ![0, 0])
    ∧ (win0_6.index t = ![0, 0] ∧ win0_7.index t = ![0, 0] ∧ win0_8.index t = ![0, 0] ∧ win0_9.index t = ![0, 0])
    ∧ (win0_10.index t = ![0, 0] ∧ win0_11.index t = ![0, 0, 0] ∧ win0_12.index t = ![0, 0] ∧ win0_13.index t = ![0, 0]) :=
  (by decide +kernel : ∀ t : Fin grid0.N, _)

theorem pt_lt (t : Fin cfg0.N) : t.val < 128 := lt_of_lt_of_eq t.isLt N_0

/-- A point's batch entry. -/
abbrev bat (t : Fin cfg0.N) : Fin 8 := ⟨t.val / 16, by have := pt_lt t; omega⟩
/-- The token of row `r` of a point's tile. -/
abbrev tok (t : Fin cfg0.N) (r : Fin 256) : Fin 4096 := ⟨256 * (t.val % 16) + r.val, by omega⟩

theorem blk0 (t : Fin cfg0.N) (r : Fin 256) (k : Fin 1024) :
    iblk m c 0 t (ix3 0 r k) = m ((c : Thread nD τ).loc main_arg0) (ix3 (bat t) (tok t r) k) := by
  obtain ⟨⟨e, -⟩, -⟩ := index_facts t
  blk_simp [iblk]
  rw [V_main_arg0]
  refine congrArg _ (funext fun a => Fin.ext ?_)
  match a with
  | ⟨0, _⟩ => blk_simp [e]; exact Nat.add_zero _
  | ⟨1, _⟩ => blk_simp [e]; show t.val % 16 * 256 + r.val = 256 * (t.val % 16) + r.val; omega
  | ⟨2, _⟩ => blk_simp [e]

theorem blk1 (t : Fin cfg0.N) (r : Fin 256) (k : Fin 512) :
    iblk m c 1 t (ix3 0 r k) = m ((c : Thread nD τ).loc main_arg1) (ix3 (bat t) (tok t r) k) := by
  obtain ⟨⟨-, e, -⟩, -⟩ := index_facts t
  blk_simp [iblk]
  rw [V_main_arg1]
  refine congrArg _ (funext fun a => Fin.ext ?_)
  match a with
  | ⟨0, _⟩ => blk_simp [e]; exact Nat.add_zero _
  | ⟨1, _⟩ => blk_simp [e]; show t.val % 16 * 256 + r.val = 256 * (t.val % 16) + r.val; omega
  | ⟨2, _⟩ => blk_simp [e]

theorem blk2 (t : Fin cfg0.N) (r : Fin 256) (k : Fin 512) :
    iblk m c 2 t (ix3 0 r k) = m ((c : Thread nD τ).loc main_arg2) (ix3 (bat t) (tok t r) k) := by
  obtain ⟨⟨-, -, e⟩, -⟩ := index_facts t
  blk_simp [iblk]
  rw [V_main_arg2]
  refine congrArg _ (funext fun a => Fin.ext ?_)
  match a with
  | ⟨0, _⟩ => blk_simp [e]; exact Nat.add_zero _
  | ⟨1, _⟩ => blk_simp [e]; show t.val % 16 * 256 + r.val = 256 * (t.val % 16) + r.val; omega
  | ⟨2, _⟩ => blk_simp [e]

theorem blk3 (t : Fin cfg0.N) (r : Fin 256) (k : Fin 512) :
    iblk m c 3 t (ix3 0 r k) = m ((c : Thread nD τ).loc main_arg3) (ix3 (bat t) r k) := by
  obtain ⟨-, ⟨e, -⟩, -⟩ := index_facts t
  blk_simp [iblk]
  rw [V_main_arg3]
  refine congrArg _ (funext fun a => Fin.ext ?_)
  match a with
  | ⟨0, _⟩ => blk_simp [e]; exact Nat.add_zero _
  | ⟨1, _⟩ => blk_simp [e]
  | ⟨2, _⟩ => blk_simp [e]

theorem blk4 (t : Fin cfg0.N) (r : Fin 256) (k : Fin 512) :
    iblk m c 4 t (ix3 0 r k) = m ((c : Thread nD τ).loc main_arg4) (ix3 (bat t) r k) := by
  obtain ⟨-, ⟨-, e, -⟩, -⟩ := index_facts t
  blk_simp [iblk]
  rw [V_main_arg4]
  refine congrArg _ (funext fun a => Fin.ext ?_)
  match a with
  | ⟨0, _⟩ => blk_simp [e]; exact Nat.add_zero _
  | ⟨1, _⟩ => blk_simp [e]
  | ⟨2, _⟩ => blk_simp [e]

theorem blk7 (t : Fin cfg0.N) (j : Fin 31) (k : Fin 512) :
    iblk m c 7 t (ix2 j k) = m ((c : Thread nD τ).loc main_arg7) (ix2 j k) := by
  obtain ⟨-, -, ⟨-, e, -⟩, -⟩ := index_facts t
  blk_simp [iblk]
  rw [V_main_arg7]
  refine congrArg _ (funext fun a => Fin.ext ?_)
  match a with
  | ⟨0, _⟩ => blk_simp [e]
  | ⟨1, _⟩ => blk_simp [e]

theorem blk5 (t : Fin cfg0.N) (k : Fin 1024) :
    iblk m c 5 t (ix2 0 k) = m ((c : Thread nD τ).loc main_arg5) (ix1 k) := by
  obtain ⟨-, ⟨-, -, e⟩, -⟩ := index_facts t
  have h : iblk m c 5 t (ix2 0 k) = V m c main_v7 (ix2 0 k) := by
    blk_simp [iblk]
    refine congrArg _ (funext fun a => Fin.ext ?_)
    match a with
    | ⟨0, _⟩ => blk_simp [e]
    | ⟨1, _⟩ => blk_simp [e]
  rw [h]
  unfold V
  after_reads_at

theorem blk8 (t : Fin cfg0.N) (k : Fin 512) :
    iblk m c 8 t (ix2 0 k) = m ((c : Thread nD τ).loc main_arg8) (ix1 k) := by
  obtain ⟨-, -, ⟨-, -, e, -⟩, -⟩ := index_facts t
  have h : iblk m c 8 t (ix2 0 k) = V m c main_v8 (ix2 0 k) := by
    blk_simp [iblk]
    refine congrArg _ (funext fun a => Fin.ext ?_)
    match a with
    | ⟨0, _⟩ => blk_simp [e]
    | ⟨1, _⟩ => blk_simp [e]
  rw [h]
  unfold V
  after_reads_at

theorem blk9 (t : Fin cfg0.N) (k : Fin 512) :
    iblk m c 9 t (ix2 0 k) = m ((c : Thread nD τ).loc main_arg9) (ix1 k) := by
  obtain ⟨-, -, ⟨-, -, -, e⟩, -⟩ := index_facts t
  have h : iblk m c 9 t (ix2 0 k) = V m c main_v9 (ix2 0 k) := by
    blk_simp [iblk]
    refine congrArg _ (funext fun a => Fin.ext ?_)
    match a with
    | ⟨0, _⟩ => blk_simp [e]
    | ⟨1, _⟩ => blk_simp [e]
  rw [h]
  unfold V
  after_reads_at

theorem blk10 (t : Fin cfg0.N) (k : Fin 512) :
    iblk m c 10 t (ix2 0 k) = m ((c : Thread nD τ).loc main_arg10) (ix1 k) := by
  obtain ⟨-, -, -, ⟨e, -⟩⟩ := index_facts t
  have h : iblk m c 10 t (ix2 0 k) = V m c main_v10 (ix2 0 k) := by
    blk_simp [iblk]
    refine congrArg _ (funext fun a => Fin.ext ?_)
    match a with
    | ⟨0, _⟩ => blk_simp [e]
    | ⟨1, _⟩ => blk_simp [e]
  rw [h]
  unfold V
  after_reads_at

theorem blk13 (t : Fin cfg0.N) (k : Fin 1024) :
    iblk m c 13 t (ix2 0 k) = m ((c : Thread nD τ).loc main_arg13) (ix1 k) := by
  obtain ⟨-, -, -, ⟨-, -, -, e⟩⟩ := index_facts t
  have h : iblk m c 13 t (ix2 0 k) = V m c main_v11 (ix2 0 k) := by
    blk_simp [iblk]
    refine congrArg _ (funext fun a => Fin.ext ?_)
    match a with
    | ⟨0, _⟩ => blk_simp [e]
    | ⟨1, _⟩ => blk_simp [e]
  rw [h]
  unfold V
  after_reads_at

theorem blk11 (t : Fin cfg0.N) (n : Fin 4) (k : Fin 512) (d : Fin 1024) :
    iblk m c 11 t (ix3 n k d) = m ((c : Thread nD τ).loc main_arg11) (ix3 n k d) := by
  obtain ⟨-, -, -, ⟨-, e, -⟩⟩ := index_facts t
  have h : iblk m c 11 t (ix3 n k d) = V m c main_v5 (ix3 n k d) := by
    blk_simp [iblk]
    refine congrArg _ (funext fun a => Fin.ext ?_)
    match a with
    | ⟨0, _⟩ => blk_simp [e]
    | ⟨1, _⟩ => blk_simp [e]
    | ⟨2, _⟩ => blk_simp [e]
  rw [h]
  unfold V
  after_reads_at

theorem blk12 (t : Fin cfg0.N) (k d : Fin 1024) :
    iblk m c 12 t (ix2 k d) = m ((c : Thread nD τ).loc main_arg12) (ix2 k d) := by
  obtain ⟨-, -, -, ⟨-, -, e, -⟩⟩ := index_facts t
  have h : iblk m c 12 t (ix2 k d) = V m c main_v6 (ix2 k d) := by
    blk_simp [iblk]
    refine congrArg _ (funext fun a => Fin.ext ?_)
    match a with
    | ⟨0, _⟩ => blk_simp [e]
    | ⟨1, _⟩ => blk_simp [e]
  rw [h]
  unfold V
  after_reads_at

theorem blk6 (t : Fin cfg0.N) (k : Fin 1024) (j : Fin 7680) :
    iblk m c 6 t (ix2 k j) = m ((c : Thread nD τ).loc main_arg6) (ix2 k (wcol j)) := by
  obtain ⟨-, -, ⟨e, -⟩, -⟩ := index_facts t
  have h : iblk m c 6 t (ix2 k j) = V m c main_v4 (ix2 k j) := by
    blk_simp [iblk]
    refine congrArg _ (funext fun a => Fin.ext ?_)
    match a with
    | ⟨0, _⟩ => blk_simp [e]
    | ⟨1, _⟩ => blk_simp [e]
  rw [h]
  unfold V
  after_reads_at
  unfold wcol
  by_cases h1 : j.val < 1536
  · rw [dif_pos h1, dif_pos h1]
    after_reads_at
  rw [dif_neg h1, dif_neg h1]
  by_cases h2 : j.val < 2048
  · rw [dif_pos (by omega), dif_pos h2]
    after_reads_at
    exact congrArg (fun z => m ((c : Thread nD τ).loc main_arg6) (ix2 k z)) (Fin.ext (by show 3072 + (j.val - 1536) = j.val + 1536; omega))
  · rw [dif_neg (by omega), dif_neg h2]
    after_reads_at
    exact congrArg (fun z => m ((c : Thread nD τ).loc main_arg6) (ix2 k z)) (Fin.ext (by show 4624 + (j.val - 1536 - 512) = j.val + 2576; omega))

/-! ## The convolution's window -/

/-- What token `s` of batch entry `b` gives the convolution. -/
def gluAt (b : Fin 8) (s : Fin 4096) : Fin 512 → EReal :=
  glu (fun k => m ((c : Thread nD τ).loc main_arg0) (ix3 b s k)) (fun k => m ((c : Thread nD τ).loc main_arg5) (ix1 k))
    (fun k j => m ((c : Thread nD τ).loc main_arg6) (ix2 k (wcol j)))

theorem uTile_at (t : Fin cfg0.N) (r : Fin 256) (k : Fin 512) :
    uTile (iblk m c 0 t) (iblk m c 5 t) (iblk m c 6 t) (ix2 r k) = gluAt m c (bat t) (tok t r) k := by
  rw [uTile_apply]
  unfold xrow row1 mat gluAt
  simp only [blk0, blk5, blk6]

/-- The rows the scratch keeps for the next point. -/
theorem kept (t : Fin cfg0.N) (q : Fin 32) (k : Fin 512) :
    (outsAt0 m c t.val t.isLt).2 (ix2 ⟨q.val, by omega⟩ k) = gluAt m c (bat t) (tok t ⟨224 + q.val, by omega⟩) k := by
  rw [← uTile_at]
  by_cases h : t.val % 16 = 0
  · rw [outsAt0_A m c t h]
    dsimp only
    rw [scr_A]
  · rw [outsAt0_B m c t h]
    dsimp only
    rw [scr_B]

/-- The output tile of a point, at row `r`: its window in the scratch is the window of the token's sequence. -/
theorem tile_at (t : Fin cfg0.N) (W : Vec Ideal S288x512 .f32)
    (hW : ∀ (r : Fin 256) (j : Fin 31) (k : Fin 512), W (ix2 ⟨r.val + 2 + j.val, by omega⟩ k) = window (gluAt m c (bat t)) (tok t r) j k)
    (r : Fin 256) (d : Fin 1024) :
    tileOut W (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix3 0 r d)
      = mergeAt (fun b s k => m ((c : Thread nD τ).loc main_arg0) (ix3 b s k)) (fun b s k => m ((c : Thread nD τ).loc main_arg1) (ix3 b s k))
          (fun b s k => m ((c : Thread nD τ).loc main_arg2) (ix3 b s k)) (fun b s k => m ((c : Thread nD τ).loc main_arg3) (ix3 b s k))
          (fun b s k => m ((c : Thread nD τ).loc main_arg4) (ix3 b s k)) (fun k => m ((c : Thread nD τ).loc main_arg5) (ix1 k))
          (fun k j => m ((c : Thread nD τ).loc main_arg6) (ix2 k j)) (fun j k => m ((c : Thread nD τ).loc main_arg7) (ix2 j k))
          (fun k => m ((c : Thread nD τ).loc main_arg8) (ix1 k)) (fun k => m ((c : Thread nD τ).loc main_arg9) (ix1 k))
          (fun k => m ((c : Thread nD τ).loc main_arg10) (ix1 k)) (fun n k d => m ((c : Thread nD τ).loc main_arg11) (ix3 n k d))
          (fun k d => m ((c : Thread nD τ).loc main_arg12) (ix2 k d)) (fun k => m ((c : Thread nD τ).loc main_arg13) (ix1 k)) (bat t) (tok t r) d := by
  rw [tileOut_apply]
  unfold mergeAt xrow row1 mat mat3
  simp only [hW, blk0, blk1, blk2, blk3, blk4, blk5, blk6, blk7, blk8, blk9, blk10, blk11, blk12, blk13]
  rfl

theorem wind_front (z : Vec Ideal S288x512 .f32) (u : Vec Ideal S256x512 .f32) (a : Fin 288) (k : Fin 512) (h : a.val < 32) :
    wind z u (ix2 a k) = z (ix2 a k) := dif_neg (by show ¬32 ≤ a.val; omega)

theorem wind_tile (z : Vec Ideal S288x512 .f32) (u : Vec Ideal S256x512 .f32) (a : Fin 288) (k : Fin 512) (h : 32 ≤ a.val) :
    wind z u (ix2 a k) = u (ix2 ⟨a.val - 32, by omega⟩ k) := dif_pos h

/-- The scratch's window at row `r`, given what the scratch holds in front of the tile's rows. -/
theorem wind_window (t : Fin cfg0.N) (z : Vec Ideal S288x512 .f32)
    (hz : ∀ (a : Fin 288) (k : Fin 512), 2 ≤ a.val → a.val < 32 → z (ix2 a k)
      = if h : t.val % 16 = 0 then 0 else gluAt m c (bat t) ⟨256 * (t.val % 16) + a.val - 32, by omega⟩ k) (r : Fin 256) (j : Fin 31) (k : Fin 512) :
    wind z (uTile (iblk m c 0 t) (iblk m c 5 t) (iblk m c 6 t)) (ix2 ⟨r.val + 2 + j.val, by omega⟩ k) = window (gluAt m c (bat t)) (tok t r) j k := by
  unfold window
  by_cases h : r.val + 2 + j.val < 32
  · rw [wind_front _ _ _ _ h, hz _ _ (by show 2 ≤ r.val + 2 + j.val; omega) h]
    by_cases h0 : t.val % 16 = 0
    · rw [dif_pos h0, if_pos (by show 256 * (t.val % 16) + r.val + j.val < 30; omega)]
    · rw [dif_neg h0, if_neg (by show ¬256 * (t.val % 16) + r.val + j.val < 30; omega)]
      exact congrArg (fun s => gluAt m c (bat t) s k) (Fin.ext (by show 256 * (t.val % 16) + (r.val + 2 + j.val) - 32 = 256 * (t.val % 16) + r.val + j.val - 30; omega))
  · rw [wind_tile _ _ _ _ (by show 32 ≤ r.val + 2 + j.val; omega), uTile_at, if_neg (by show ¬256 * (t.val % 16) + r.val + j.val < 30; omega)]
    exact congrArg (fun s => gluAt m c (bat t) s k) (Fin.ext (by show 256 * (t.val % 16) + (r.val + 2 + j.val - 32) = 256 * (t.val % 16) + r.val + j.val - 30; omega))

/-- What a point leaves in its output tile. -/
theorem out_at (t : Fin cfg0.N) (r : Fin 256) (d : Fin 1024) :
    (outsAt0 m c t.val t.isLt).1 (ix3 0 r d)
      = mergeAt (fun b s k => m ((c : Thread nD τ).loc main_arg0) (ix3 b s k)) (fun b s k => m ((c : Thread nD τ).loc main_arg1) (ix3 b s k))
          (fun b s k => m ((c : Thread nD τ).loc main_arg2) (ix3 b s k)) (fun b s k => m ((c : Thread nD τ).loc main_arg3) (ix3 b s k))
          (fun b s k => m ((c : Thread nD τ).loc main_arg4) (ix3 b s k)) (fun k => m ((c : Thread nD τ).loc main_arg5) (ix1 k))
          (fun k j => m ((c : Thread nD τ).loc main_arg6) (ix2 k j)) (fun j k => m ((c : Thread nD τ).loc main_arg7) (ix2 j k))
          (fun k => m ((c : Thread nD τ).loc main_arg8) (ix1 k)) (fun k => m ((c : Thread nD τ).loc main_arg9) (ix1 k))
          (fun k => m ((c : Thread nD τ).loc main_arg10) (ix1 k)) (fun n k d => m ((c : Thread nD τ).loc main_arg11) (ix3 n k d))
          (fun k d => m ((c : Thread nD τ).loc main_arg12) (ix2 k d)) (fun k => m ((c : Thread nD τ).loc main_arg13) (ix1 k)) (bat t) (tok t r) d := by
  by_cases h : t.val % 16 = 0
  · rw [outsAt0_A m c t h]
    dsimp only
    rw [out_A]
    refine tile_at m c t _ (wind_window m c t _ fun a k _ _ => ?_) r d
    rw [dif_pos h]
    exact Ideal.ofBits_zero_f32
  · rw [outsAt0_B m c t h]
    dsimp only
    rw [out_B]
    refine tile_at m c t _ (wind_window m c t _ fun a k h2 h32 => ?_) r d
    rw [dif_neg h]
    have hk := kept m c ⟨t.val - 1, by have := t.isLt; omega⟩ ⟨a.val, h32⟩ k
    refine hk.trans ?_
    refine congrArg₂ (fun b s => gluAt m c b s k) (Fin.ext ?_) (Fin.ext ?_)
    · show (t.val - 1) / 16 = t.val / 16
      omega
    · show 256 * ((t.val - 1) % 16) + (224 + a.val) = 256 * (t.val % 16) + a.val - 32
      omega

theorem outs_congr {n n' : ℕ} (e : n = n') (h : n < cfg0.N) (h' : n' < cfg0.N) : outsAt0 m c n h = outsAt0 m c n' h' := by
  subst e; rfl

/-- The result array at one element. -/
theorem result_at (b : Fin 8) (s : Fin 4096) (d : Fin 1024) :
    Cert.KernelIdeal.Value.G14 m c (ix3 b s d)
      = mergeAt (fun b s k => m ((c : Thread nD τ).loc main_arg0) (ix3 b s k)) (fun b s k => m ((c : Thread nD τ).loc main_arg1) (ix3 b s k))
          (fun b s k => m ((c : Thread nD τ).loc main_arg2) (ix3 b s k)) (fun b s k => m ((c : Thread nD τ).loc main_arg3) (ix3 b s k))
          (fun b s k => m ((c : Thread nD τ).loc main_arg4) (ix3 b s k)) (fun k => m ((c : Thread nD τ).loc main_arg5) (ix1 k))
          (fun k j => m ((c : Thread nD τ).loc main_arg6) (ix2 k j)) (fun j k => m ((c : Thread nD τ).loc main_arg7) (ix2 j k))
          (fun k => m ((c : Thread nD τ).loc main_arg8) (ix1 k)) (fun k => m ((c : Thread nD τ).loc main_arg9) (ix1 k))
          (fun k => m ((c : Thread nD τ).loc main_arg10) (ix1 k)) (fun n k d => m ((c : Thread nD τ).loc main_arg11) (ix3 n k d))
          (fun k d => m ((c : Thread nD τ).loc main_arg12) (ix2 k d)) (fun k => m ((c : Thread nD τ).loc main_arg13) (ix1 k)) b s d := by
  have hp : Cert.KernelIdeal.Value.pt14Of (ix3 b s d) = 16 * b.val + s.val / 256 := by
    show 16 * (b.val / 1 - 0) + 1 * (s.val / 256 - 0) + 1 * (d.val / 1024 - 0) = _
    omega
  have hlt : 16 * b.val + s.val / 256 < cfg0.N := lt_of_lt_of_eq (by omega) N_0.symm
  unfold Cert.KernelIdeal.Value.G14
  rw [dif_pos (by rw [hp]; exact hlt), ← Cert.KernelIdeal.Value.outsAt0_sweep m c _ (by rw [hp]; exact hlt)]
  have h := out_at m c ⟨16 * b.val + s.val / 256, hlt⟩ ⟨s.val % 256, by omega⟩ d
  have eb : bat ⟨16 * b.val + s.val / 256, hlt⟩ = b := Fin.ext (by show (16 * b.val + s.val / 256) / 16 = b.val; omega)
  have es : tok ⟨16 * b.val + s.val / 256, hlt⟩ ⟨s.val % 256, by omega⟩ = s :=
    Fin.ext (by show 256 * ((16 * b.val + s.val / 256) % 16) + s.val % 256 = s.val; omega)
  rw [eb, es] at h
  have el : Cert.KernelIdeal.Value.loc14Of (ix3 b s d) = ix3 0 ⟨s.val % 256, by omega⟩ d := by
    funext a
    match a with
    | ⟨0, _⟩ => exact Fin.ext (by show b.val % 1 = 0; omega)
    | ⟨1, _⟩ => rfl
    | ⟨2, _⟩ => exact Fin.ext (by show d.val % 1024 = d.val; omega)
  rw [← h, el, outs_congr m c hp _ hlt]

end Cert.KernelIdeal.Array
-- ==== Proof.RefRead.lean ====
/-
  The reference's result at one element, over the extended reals: it is `mergeAt` of the arguments. The reference's
  operations are read one stage at a time: the normalised row and its projection, the convolution's input and its
  window, the LayerNorm, the four gated branches, the merge.
-/
module
public import proofs.«01_k».proof.Proof.Gen.ReferenceIdeal.Read
public import proofs.«01_k».proof.Proof.Spec

@[expose] public section
set_option maxRecDepth 16384
noncomputable section
open Idealize.ShloMosaic Idealize.ShloMosaic.TcCoe Idealize.SL.Sem
namespace Cert.ReferenceIdeal.Rows
open Cert.ReferenceIdeal Cert.ReferenceIdeal.Gen Cert.ReferenceIdeal.Read Cert.Merge

variable (x0 : (⟨S8x4096x1024, .f32⟩ : BufTy).Contents (Elt Ideal)) (x1 x2 : (⟨S8x4096x512, .bf16⟩ : BufTy).Contents (Elt Ideal))
  (x3 x4 : (⟨S8x256x512, .bf16⟩ : BufTy).Contents (Elt Ideal)) (x5 : (⟨S1024, .f32⟩ : BufTy).Contents (Elt Ideal))
  (x6 : (⟨S1024x10256, .f32⟩ : BufTy).Contents (Elt Ideal)) (x7 : (⟨S31x512, .f32⟩ : BufTy).Contents (Elt Ideal))
  (x8 x9 x10 : (⟨S512, .f32⟩ : BufTy).Contents (Elt Ideal)) (x11 : (⟨S4x512x1024, .f32⟩ : BufTy).Contents (Elt Ideal))
  (x12 : (⟨S1024x1024, .f32⟩ : BufTy).Contents (Elt Ideal)) (x13 : (⟨S1024, .f32⟩ : BufTy).Contents (Elt Ideal))

/-- A token's row of the layer's input. -/
abbrev xr (b : Fin 8) (s : Fin 4096) : Fin 1024 → EReal := fun k => x0 (ix3 b s k)
/-- A vector argument as a row. -/
abbrev row {n : Nat} (x : (Shape.mk 1 ![n]).Idx → EReal) : Fin n → EReal := fun k => x (ix1 k)
/-- The part of the projection's weight the merge reads. -/
abbrev wl : Fin 1024 → Fin 7680 → EReal := fun k j => x6 (ix2 k (wcol j))

theorem norm_at (b : Fin 8) (s : Fin 4096) (k : Fin 1024) :
    val_main_v12 x0 x5 (ix3 b s k) = rms (xr x0 b s) (row x5) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem proj_at (b : Fin 8) (s : Fin 4096) (j : Fin 7680) :
    val_main_v13 x0 x5 x6 (ix3 b s (wcol j)) = proj (xr x0 b s) (row x5) (wl x6) j := by
  pointwise [val_main_v13]
  simp only [norm_at]
  rfl

theorem neg_eq (x : EReal) : -x = 0 - x := (zero_sub x).symm

/-- Where the merge's part of the projection begins in the whole: `wcol` on a literal piece. -/
theorem wcol_low (k : Nat) (h : k < 1536) : wcol ⟨k, by omega⟩ = ⟨k, by omega⟩ := dif_pos h
theorem wcol_mid (k : Nat) (h : k < 512) : wcol ⟨1536 + k, by omega⟩ = ⟨3072 + k, by omega⟩ := by
  unfold wcol
  rw [dif_neg (by show ¬1536 + k < 1536; omega), dif_pos (by show 1536 + k < 2048; omega)]
  exact Fin.ext (by show 1536 + k + 1536 = 3072 + k; omega)
theorem wcol_high (k : Nat) (h : k < 5632) : wcol ⟨2048 + k, by omega⟩ = ⟨4624 + k, by omega⟩ := by
  unfold wcol
  rw [dif_neg (by show ¬2048 + k < 1536; omega), dif_neg (by show ¬2048 + k < 2048; omega)]
  exact Fin.ext (by show 2048 + k + 2576 = 4624 + k; omega)

theorem wcol_at (a k : Nat) (h : a + k < 5632) : wcol ⟨2048 + a + k, by omega⟩ = ⟨4624 + a + k, by omega⟩ :=
  (congrArg wcol (Fin.ext (Nat.add_assoc 2048 a k))).trans
    ((wcol_high (a + k) h).trans (Fin.ext (Nat.add_assoc 4624 a k).symm))

/-- The projection at a column given by its place in the whole weight. -/
theorem proj_of (b : Fin 8) (s : Fin 4096) (i : Fin 10256) (j : Fin 7680) (h : wcol j = i) :
    val_main_v13 x0 x5 x6 (ix3 b s i) = proj (xr x0 b s) (row x5) (wl x6) j := by rw [← h, proj_at]

theorem glu_at (b : Fin 8) (s : Fin 4096) (k : Fin 512) :
    val_main_v35 x0 x5 x6 (ix3 b s k) = glu (xr x0 b s) (row x5) (wl x6) k := by
  pointwise [val_main_v29, val_main_v30, val_main_v31, val_main_v32, val_main_v33, val_main_v34, val_main_v35, val_main_v14, val_main_v15, val_main_cst_2, val_main_cst_3]
  rw [neg_eq, proj_of x0 x5 x6 b s _ ⟨k.val, by omega⟩ (wcol_low _ (by omega)), proj_of x0 x5 x6 b s _ ⟨512 + k.val, by omega⟩ (wcol_low _ (by omega))]
  rfl

theorem pad_at (b : Fin 8) (s : Fin 4126) (k : Fin 512) :
    val_main_v36 x0 x5 x6 (ix3 b s k) = if h : s.val < 30 then 0 else glu (xr x0 b ⟨s.val - 30, by omega⟩) (row x5) (wl x6) k := by
  pointwise [val_main_v36, val_main_call0_v0, val_main_c]
  by_cases h : s.val < 30
  · rw [dif_neg (by omega), dif_pos h]
    simp [FloatOps.sitofp]
  · rw [dif_pos (by omega), dif_neg h, glu_at]

/-- The 31 taps as a sum over the taps. -/
theorem sum_taps (f : Fin 31 → EReal) :
    f 0 + f 1 + f 2 + f 3 + f 4 + f 5 + f 6 + f 7 + f 8 + f 9 + f 10 + f 11 + f 12 + f 13 + f 14 + f 15 + f 16 + f 17 + f 18 + f 19 + f 20
      + f 21 + f 22 + f 23 + f 24 + f 25 + f 26 + f 27 + f 28 + f 29 + f 30 = ∑ j, f j := by
  simp only [Fin.sum_univ_castSucc, Fin.sum_univ_zero, zero_add]
  rfl

/-- One tap's product: the padded row `j` places into the window. -/
theorem tap (b : Fin 8) (s : Fin 4096) (k : Fin 512) (j : Fin 31) (t : Fin 4126) (h : t.val = j.val + s.val) :
    val_main_v36 x0 x5 x6 (ix3 b t k) * x7 (ix2 j k)
      = x7 (ix2 j k) * window (fun t => glu (xr x0 b t) (row x5) (wl x6)) s j k := by
  rw [mul_comm, pad_at]
  refine congrArg (x7 (ix2 j k) * ·) ?_
  unfold window
  by_cases h' : s.val + j.val < 30
  · rw [dif_pos (by omega), if_pos h']
  · rw [dif_neg (by omega), if_neg h']
    exact congrArg (fun t => glu (xr x0 b t) (row x5) (wl x6) k) (Fin.ext (by show t.val - 30 = s.val + j.val - 30; omega))

theorem conv_at (b : Fin 8) (s : Fin 4096) (k : Fin 512) :
    val_main_v257 x0 x5 x6 x7 x8 (ix3 b s k)
      = conv (window (fun t => glu (xr x0 b t) (row x5) (wl x6)) s) (fun j c => x7 (ix2 j c)) (row x8) k := by
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_cst_4]
  unfold conv
  refine (congrArg (· + x8 (ix1 k)) ?_).trans (add_comm _ _)
  rw [← sum_taps]
  iterate 30 refine congrArg₂ (· + ·) ?_ (tap x0 x5 x6 x7 b s k _ _ rfl)
  exact tap x0 x5 x6 x7 b s k 0 _ (Nat.zero_add _).symm

theorem lnorm_at (b : Fin 8) (s : Fin 4096) (k : Fin 512) :
    val_main_v281 x0 x5 x6 x7 x8 x9 x10 (ix3 b s k) = lnorm (fun c => val_main_v257 x0 x5 x6 x7 x8 (ix3 b s c)) (row x9) (row x10) k := by
  pointwise [val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_cst_5, val_main_cst_6, val_main_cst_7, val_main_cst_8, val_main_cst_9]
  rfl

theorem branch0_at (b : Fin 8) (s : Fin 4096) (k : Fin 512) :
    val_main_v284 x0 x5 x6 x7 x8 x9 x10 (ix3 b s k)
      = silu (val_main_v281 x0 x5 x6 x7 x8 x9 x10 (ix3 b s k)) * silu (proj (xr x0 b s) (row x5) (wl x6) ⟨1024 + k.val, by omega⟩) := by
  pointwise [val_main_v282, val_main_v283, val_main_v284, val_main_v16, val_main_call1_v0, val_main_call1_v1, val_main_call1_cst, val_main_call1_v2, val_main_call1_v3, val_main_call1_cst_0, val_main_call1_v4, val_main_call1_v5, val_main_call2_v0, val_main_call2_v1, val_main_call2_cst, val_main_call2_v2, val_main_call2_v3, val_main_call2_cst_0, val_main_call2_v4, val_main_call2_v5]
  rw [neg_eq, neg_eq, proj_of x0 x5 x6 b s _ ⟨1024 + k.val, by omega⟩ (wcol_low _ (by omega))]
  rfl

theorem branch1_at (b : Fin 8) (s : Fin 4096) (k : Fin 512) :
    val_main_v287 x0 x1 x5 x6 (ix3 b s k)
      = x1 (ix3 b s k) * silu (proj (xr x0 b s) (row x5) (wl x6) ⟨1536 + k.val, by omega⟩) := by
  pointwise [val_main_v285, val_main_v286, val_main_v287, val_main_v20, val_main_call3_v0, val_main_call3_v1, val_main_call3_cst, val_main_call3_v2, val_main_call3_v3, val_main_call3_cst_0, val_main_call3_v4, val_main_call3_v5]
  rw [neg_eq, proj_of x0 x5 x6 b s _ ⟨1536 + k.val, by omega⟩ (wcol_mid _ (by omega))]
  rfl

theorem branch2_at (b : Fin 8) (s : Fin 4096) (k : Fin 512) :
    val_main_v290 x0 x2 x5 x6 (ix3 b s k)
      = x2 (ix3 b s k) * silu (proj (xr x0 b s) (row x5) (wl x6) ⟨2048 + k.val, by omega⟩) := by
  pointwise [val_main_v288, val_main_v289, val_main_v290, val_main_v25, val_main_call4_v0, val_main_call4_v1, val_main_call4_cst, val_main_call4_v2, val_main_call4_v3, val_main_call4_cst_0, val_main_call4_v4, val_main_call4_v5]
  rw [neg_eq, proj_of x0 x5 x6 b s _ ⟨2048 + k.val, by omega⟩ (wcol_high _ (by omega))]
  rfl

theorem branch3_at (b : Fin 8) (s : Fin 4096) (k : Fin 512) :
    val_main_v314 x0 x3 x4 x5 x6 (ix3 b s k)
      = val_main_v312 x0 x3 x4 x5 x6 (ix3 b s k) * silu (proj (xr x0 b s) (row x5) (wl x6) ⟨3072 + k.val, by omega⟩) := by
  pointwise [val_main_v313, val_main_v314, val_main_v27, val_main_call5_v0, val_main_call5_v1, val_main_call5_cst, val_main_call5_v2, val_main_call5_v3, val_main_call5_cst_0, val_main_call5_v4, val_main_call5_v5]
  rw [neg_eq, proj_of x0 x5 x6 b s _ ⟨3072 + k.val, by omega⟩ (wcol_at 1024 k.val (by omega))]
  rfl

end Cert.ReferenceIdeal.Rows
-- ==== Proof.Softmax.lean ====
/-
  The attention's quotient. A softmax divides every weight by the weights' sum and then applies them to the values;
  `attn` applies the undivided weights and divides once. The two agree wherever the scores are real: the largest score
  is then real, every weight is a positive real, and so is their sum, by which a sum over the extended reals may be
  divided term by term. What makes the merge's scores real is that a normalised row is real whenever its gain is.
-/
module
public import proofs.«01_k».proof.Proof.Spec

@[expose] public section
noncomputable section
open Idealize.ShloMosaic
namespace Cert.Merge

/-- An extended real that is a real. -/
abbrev Real' (x : EReal) : Prop := ∃ r : ℝ, x = (r : EReal)

theorem real_mul {x y : EReal} (hx : Real' x) (hy : Real' y) : Real' (x * y) := by
  obtain ⟨a, rfl⟩ := hx
  obtain ⟨b, rfl⟩ := hy
  exact ⟨a * b, (EReal.coe_mul a b).symm⟩

theorem real_add {x y : EReal} (hx : Real' x) (hy : Real' y) : Real' (x + y) := by
  obtain ⟨a, rfl⟩ := hx
  obtain ⟨b, rfl⟩ := hy
  exact ⟨a + b, (EReal.coe_add a b).symm⟩

theorem real_sum {ι : Type} (S : Finset ι) (f : ι → EReal) (h : ∀ i, Real' (f i)) : Real' (∑ i ∈ S, f i) := by
  classical
  induction S using Finset.induction_on with
  | empty => exact ⟨0, by simp⟩
  | insert a S ha ih => rw [Finset.sum_insert ha]; exact real_add (h a) ih

/-- A finite sum times a nonnegative real, term by term. -/
theorem sum_mul_real {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih,
      EReal.right_distrib_of_nonneg_of_ne_top (EReal.coe_nonneg.mpr hr) (EReal.coe_ne_top r)]

theorem word_low : word 0xFF800000#32 = ⊥ := by simp [word, Ideal.ofBits, Ideal.ieee]
theorem word_width : word 0x44800000#32 = ((1024 : ℝ) : EReal) := by
  simp [word, Ideal.ofBits, Ideal.ieee, -EReal.coe_mul]; norm_num
theorem word_eps : ∃ r : ℝ, 0 < r ∧ word 0x358637BD#32 = (r : EReal) := by
  refine ⟨_, ?_, by simp [word, Ideal.ofBits, Ideal.ieee, -EReal.coe_mul]; rfl⟩
  positivity
theorem word_scale : Real' (word 0x3DB504F3#32) := by
  simp [Real', word, Ideal.ofBits, Ideal.ieee, -EReal.coe_mul]

/-- The largest of finitely many real scores is real. -/
theorem real_max (s : Fin 256 → EReal) (hs : ∀ m, Real' (s m)) : Real' (Finset.univ.fold max (word 0xFF800000#32) s) := by
  have hlo : (⊥ : EReal) < Finset.univ.fold max (word 0xFF800000#32) s := by
    obtain ⟨r, hr⟩ := hs 0
    refine lt_of_lt_of_le (EReal.bot_lt_coe r) ?_
    exact Finset.le_fold_max _ |>.mpr (Or.inr ⟨0, Finset.mem_univ _, hr.ge⟩)
  have hhi : Finset.univ.fold max (word 0xFF800000#32) s < ⊤ := by
    refine Finset.fold_max_lt _ |>.mpr ⟨by rw [word_low]; exact bot_lt_top, fun m _ => ?_⟩
    obtain ⟨r, hr⟩ := hs m
    rw [hr]; exact EReal.coe_lt_top r
  generalize Finset.univ.fold max (word 0xFF800000#32) s = M at hlo hhi
  exact ⟨M.toReal, (EReal.coe_toReal hhi.ne hlo.ne').symm⟩

/-- Over real scores the softmax applied to the values is the undivided weights applied to them, over their sum. -/
theorem attn_of_softmax (s v : Fin 256 → EReal) (hs : ∀ m, Real' (s m)) :
    ∑ m, v m * Ideal.div (Ideal.exp (s m - max (word 0xFF800000#32) (Finset.univ.fold max (word 0xFF800000#32) s)))
        (∑ m, Ideal.exp (s m - max (word 0xFF800000#32) (Finset.univ.fold max (word 0xFF800000#32) s))) = attn s v := by
  have hw : max (word 0xFF800000#32) (Finset.univ.fold max (word 0xFF800000#32) s) = Finset.univ.fold max (word 0xFF800000#32) s := by
    rw [word_low]; exact max_eq_right bot_le
  rw [hw]
  unfold attn
  obtain ⟨M, hM⟩ := real_max s hs
  rw [hM]
  choose r hr using hs
  have he : ∀ m, Ideal.exp (s m - (M : EReal)) = (Real.exp (r m - M) : EReal) := fun m => by
    rw [hr m, ← EReal.coe_sub, Ideal.exp_coe]
  simp only [he]
  have hL : ∃ L : ℝ, 0 < L ∧ ∑ m, ((Real.exp (r m - M) : ℝ) : EReal) = (L : EReal) := by
    refine ⟨∑ m, Real.exp (r m - M), Finset.sum_pos (fun m _ => Real.exp_pos _) ⟨0, Finset.mem_univ _⟩, ?_⟩
    exact (map_sum (⟨⟨Real.toEReal, EReal.coe_zero⟩, EReal.coe_add⟩ : ℝ →+ EReal) _ _).symm
  obtain ⟨L, hpos, hL⟩ := hL
  rw [hL, Ideal.div_coe hpos.ne', sum_mul_real _ _ _ (by positivity)]
  refine Finset.sum_congr rfl fun m _ => ?_
  rw [Ideal.div_coe hpos.ne', mul_left_comm, mul_assoc]

theorem square_nonneg (x : EReal) : 0 ≤ x * x :=
  EReal.mul_nonneg_iff.mpr ((le_total 0 x).imp (fun h => ⟨h, h⟩) (fun h => ⟨h, h⟩))

/-- A normalised row is real wherever its gain is, whatever the row: an infinite row's root is infinite, and the
    normalised row zero. -/
theorem real_rms (x g : Fin 1024 → EReal) (k : Fin 1024) (hg : Real' (g k)) : Real' (rms x g k) := by
  unfold rms
  refine real_mul ?_ hg
  obtain ⟨ε, hε, hw⟩ := word_eps
  rw [word_width, hw, Ideal.div_coe (by norm_num)]
  have hq : 0 ≤ ∑ i, x i * x i := Finset.sum_nonneg fun i _ => square_nonneg (x i)
  by_cases ht : ∑ i, x i * x i = ⊤
  · rw [ht, EReal.top_mul_coe_of_pos (by norm_num), EReal.top_add_coe, Ideal.rsqrt_top, mul_zero]
    exact ⟨0, by simp⟩
  · have hk : x k * x k ≠ ⊤ := fun h => ht (top_le_iff.mp (h ▸ Finset.single_le_sum (fun i _ => square_nonneg (x i)) (Finset.mem_univ k)))
    have hx : Real' (x k) := by
      induction hxk : x k with
      | bot => rw [hxk] at hk; simp at hk
      | top => rw [hxk] at hk; simp at hk
      | coe a => exact ⟨a, rfl⟩
    refine real_mul hx ?_
    generalize (∑ i, x i * x i) = q at hq ht
    obtain ⟨q, rfl⟩ : Real' q := ⟨q.toReal, (EReal.coe_toReal ht (ne_of_gt (lt_of_lt_of_le EReal.bot_lt_zero hq))).symm⟩
    have hq' : 0 ≤ q := EReal.coe_nonneg.mp hq
    rw [← EReal.coe_mul, ← EReal.coe_add, Ideal.rsqrt_coe, if_neg (by positivity |> not_lt.mpr), if_neg (by positivity)]
    exact ⟨_, rfl⟩

/-- The query's scores against the memory's keys are real where the gain, the query's columns of the weight and the
    keys are. -/
theorem real_scores (x g : Fin 1024 → EReal) (w : Fin 1024 → Fin 7680 → EReal) (mk : Fin 512 → EReal) (c : Fin 512)
    (hg : ∀ k, Real' (g k)) (hw : ∀ k (c : Fin 512), Real' (w k ⟨2560 + c.val, by omega⟩)) (hk : ∀ c, Real' (mk c)) :
    Real' (∑ i : Fin 128, (proj x g w ⟨2560 + (hcol c i).val, by omega⟩ * word 0x3DB504F3#32) * mk (hcol c i)) :=
  real_sum _ _ fun i => real_mul (real_mul (real_sum _ _ fun k => real_mul (real_rms x g k (hg k)) (hw k _)) word_scale) (hk _)

end Cert.Merge
-- ==== Proof.RefMerge.lean ====
/-
  The reference's memory attention and the rest of its layer at one element: the scores, their softmax applied to the
  values, the four branches side by side, the merge, the output's normalisation. Where the scores are real the
  attention is `memory`, and the whole result is `mergeAt`.
-/
module
public import proofs.«01_k».proof.Proof.Gen.ReferenceIdeal.Read
public import proofs.«01_k».proof.Proof.RefRead
public import proofs.«01_k».proof.Proof.Softmax

@[expose] public section
set_option maxRecDepth 16384
noncomputable section
open Idealize.ShloMosaic Idealize.ShloMosaic.TcCoe Idealize.SL.Sem
namespace Cert.ReferenceIdeal.Rows
open Cert.ReferenceIdeal Cert.ReferenceIdeal.Gen Cert.ReferenceIdeal.Read Cert.Merge

variable (x0 : (⟨S8x4096x1024, .f32⟩ : BufTy).Contents (Elt Ideal)) (x1 x2 : (⟨S8x4096x512, .bf16⟩ : BufTy).Contents (Elt Ideal))
  (x3 x4 : (⟨S8x256x512, .bf16⟩ : BufTy).Contents (Elt Ideal)) (x5 : (⟨S1024, .f32⟩ : BufTy).Contents (Elt Ideal))
  (x6 : (⟨S1024x10256, .f32⟩ : BufTy).Contents (Elt Ideal)) (x7 : (⟨S31x512, .f32⟩ : BufTy).Contents (Elt Ideal))
  (x8 x9 x10 : (⟨S512, .f32⟩ : BufTy).Contents (Elt Ideal)) (x11 : (⟨S4x512x1024, .f32⟩ : BufTy).Contents (Elt Ideal))
  (x12 : (⟨S1024x1024, .f32⟩ : BufTy).Contents (Elt Ideal)) (x13 : (⟨S1024, .f32⟩ : BufTy).Contents (Elt Ideal))

/-- The largest along the last axis, as a fold over that axis's coordinates. -/
theorem reduce_max (y : FVec Ideal S8x4x4096x256 .f32) (z : FVec Ideal S_ .f32) (b : Fin 8) (h : Fin 4) (s : Fin 4096) :
    Host.reduce FloatOps.maximumf y z reducesTo_S8x4x4096x256_S8x4x4096_d3 h_S_ (ix3 b h s)
      = Finset.univ.fold max (z (Shape.Idx.first h_S_)) fun i : Fin 256 => y (ix4 b h s i) := by
  refine (Host.reduce_eq_fold_single FloatOps.maximumf y z reducesTo_S8x4x4096x256_S8x4x4096_d3 (by decide) h_S_ (ix3 b h s)).trans ?_
  refine congrArg (fun f => Finset.univ.fold max (z (Shape.Idx.first h_S_)) f) (funext fun i => congrArg y ?_)
  funext a
  fin_cases a <;> rfl

/-- One column's term of a score. -/
def term (b : Fin 8) (s : Fin 4096) (i : Fin 256) (c : Fin 512) : EReal :=
  (proj (xr x0 b s) (row x5) (wl x6) ⟨2560 + c.val, by omega⟩ * word 0x3DB504F3#32) * x3 (ix3 b i c)

theorem scores_at (b : Fin 8) (h : Fin 4) (s : Fin 4096) (i : Fin 256) :
    val_main_v298 x0 x3 x5 x6 (ix4 b h s i)
      = ∑ d : Fin 128, term x0 x3 x5 x6 b s i ⟨h.val * 128 + d.val, by omega⟩ := by
  pointwise [val_main_v291, val_main_v292, val_main_v293, val_main_v294, val_main_v295, val_main_v298, val_main_v26, val_main_cst_10]
  refine Finset.sum_congr rfl fun d _ => ?_
  rw [proj_of x0 x5 x6 b s _ ⟨2560 + (h.val * 128 + d.val), by omega⟩ (wcol_at 512 (h.val * 128 + d.val) (by omega))]
  rfl

theorem head_at (b : Fin 8) (s : Fin 4096) (i : Fin 256) (k : Fin 512) :
    val_main_v298 x0 x3 x5 x6 (ix4 b ⟨k.val / 128, by omega⟩ s i) = ∑ d : Fin 128, term x0 x3 x5 x6 b s i (hcol k d) := by
  refine (scores_at x0 x3 x5 x6 b ⟨k.val / 128, by omega⟩ s i).trans (Finset.sum_congr rfl fun d _ => ?_)
  exact congrArg (term x0 x3 x5 x6 b s i) (Fin.ext (congrArg (· + d.val) (Nat.mul_comm (k.val / 128) 128)))

theorem max_at (b : Fin 8) (h : Fin 4) (s : Fin 4096) :
    val_main_v301 x0 x3 x5 x6 (ix3 b h s)
      = max (word 0xFF800000#32) (Finset.univ.fold max (word 0xFF800000#32) fun i => val_main_v298 x0 x3 x5 x6 (ix4 b h s i)) := by
  rw [val_main_v301_apply, val_main_v300_apply, val_main_cst_12_apply]
  unfold val_main_v299
  generalize val_main_v298 x0 x3 x5 x6 = y
  rw [reduce_max, val_main_cst_11_apply]
  rfl

theorem weight_at (b : Fin 8) (h : Fin 4) (s : Fin 4096) (i : Fin 256) :
    val_main_v309 x0 x3 x5 x6 (ix4 b h s i)
      = Ideal.div (Ideal.exp (val_main_v298 x0 x3 x5 x6 (ix4 b h s i) - val_main_v301 x0 x3 x5 x6 (ix3 b h s)))
          (∑ i, Ideal.exp (val_main_v298 x0 x3 x5 x6 (ix4 b h s i) - val_main_v301 x0 x3 x5 x6 (ix3 b h s))) := by
  pointwise [val_main_v302, val_main_v303, val_main_v304, val_main_v305, val_main_v306, val_main_v307, val_main_v308, val_main_v309, val_main_cst_13]

theorem values_at (b : Fin 8) (h : Fin 4) (d : Fin 128) (s : Fin 4096) :
    val_main_v310 x0 x3 x4 x5 x6 (ix4 b h d s)
      = ∑ i : Fin 256, x4 (ix3 b i ⟨h.val * 128 + d.val, by omega⟩) * val_main_v309 x0 x3 x5 x6 (ix4 b h s i) := by
  pointwise [val_main_v296, val_main_v297, val_main_v310]

/-- Where the gain, the query's columns and the keys are real, the reference's attention is `memory`. -/
theorem memory_at (hg : ∀ k, Real' (row x5 k)) (hw : ∀ k (c : Fin 512), Real' (wl x6 k ⟨2560 + c.val, by omega⟩))
    (hk : ∀ b i c, Real' (x3 (ix3 b i c))) (b : Fin 8) (s : Fin 4096) (k : Fin 512) :
    val_main_v312 x0 x3 x4 x5 x6 (ix3 b s k)
      = memory (fun c => proj (xr x0 b s) (row x5) (wl x6) ⟨2560 + c.val, by omega⟩) (fun i c => x3 (ix3 b i c))
          (fun i c => x4 (ix3 b i c)) k := by
  pointwise [val_main_v311, val_main_v312]
  rw [values_at]
  have hc : (⟨k.val / 128 * 128 + k.val % 128, by omega⟩ : Fin 512) = k := Fin.ext (by show k.val / 128 * 128 + k.val % 128 = k.val; omega)
  simp only [hc, weight_at, max_at, head_at]
  exact attn_of_softmax _ (fun i => x4 (ix3 b i k)) fun i =>
    real_scores (xr x0 b s) (row x5) (wl x6) (fun c => x3 (ix3 b i c)) k hg hw (hk b i)

theorem branches_at (hg : ∀ k, Real' (row x5 k)) (hw : ∀ k (c : Fin 512), Real' (wl x6 k ⟨2560 + c.val, by omega⟩))
    (hk : ∀ b i c, Real' (x3 (ix3 b i c))) (b : Fin 8) (s : Fin 4096) (n : Fin 4) (k : Fin 512) :
    val_main_v319 x0 x1 x2 x3 x4 x5 x6 x7 x8 x9 x10 (ix4 b s n k)
      = branch (proj (xr x0 b s) (row x5) (wl x6)) (fun c => val_main_v257 x0 x5 x6 x7 x8 (ix3 b s c)) (row x9) (row x10)
          (fun c => x1 (ix3 b s c)) (fun c => x2 (ix3 b s c)) (fun i c => x3 (ix3 b i c)) (fun i c => x4 (ix3 b i c)) n k := by
  pointwise [val_main_v315, val_main_v316, val_main_v317, val_main_v318, val_main_v319]
  match n with
  | 0 => exact (dif_pos (by decide)).trans ((branch0_at x0 x5 x6 x7 x8 x9 x10 b s k).trans (by rw [lnorm_at]; rfl))
  | 1 => exact (dif_neg (by decide)).trans ((dif_pos (by decide)).trans (branch1_at x0 x1 x5 x6 b s k))
  | 2 => exact (dif_neg (by decide)).trans ((dif_neg (by decide)).trans ((dif_pos (by decide)).trans (branch2_at x0 x2 x5 x6 b s k)))
  | 3 => exact (dif_neg (by decide)).trans ((dif_neg (by decide)).trans ((dif_neg (by decide)).trans
      ((branch3_at x0 x3 x4 x5 x6 b s k).trans (by rw [memory_at x0 x3 x4 x5 x6 hg hw hk]; rfl))))

theorem merged_at (b : Fin 8) (s : Fin 4096) (e : Fin 1024) :
    val_main_v330 x0 x1 x2 x3 x4 x5 x6 x7 x8 x9 x10 x11 (ix3 b s e)
      = merged (proj (xr x0 b s) (row x5) (wl x6)) (fun n k => val_main_v319 x0 x1 x2 x3 x4 x5 x6 x7 x8 x9 x10 (ix4 b s n k))
          (fun n k d => x11 (ix3 n k d)) e := by
  pointwise [val_main_v320, val_main_v321, val_main_v322, val_main_v323, val_main_v324, val_main_v325, val_main_v326, val_main_v327, val_main_v328, val_main_v329, val_main_v330, val_main_v28, val_main_cst_14, val_main_cst_15, val_main_cst_16]
  unfold merged
  refine Finset.sum_congr rfl fun n _ => ?_
  rw [neg_eq, proj_of x0 x5 x6 b s _ ⟨3584 + 1024 * n.val + e.val, by omega⟩ ?_]
  · exact congrArg (_ * ·) (Finset.sum_congr rfl fun k _ => mul_comm _ _)
  · refine (congrArg wcol (Fin.ext (by show 3584 + 1024 * n.val + e.val = 2048 + 1536 + (n.val * 1024 + e.val); omega))).trans
      ((wcol_at 1536 (n.val * 1024 + e.val) (by omega)).trans (Fin.ext rfl))

/-- The reference's result at one element. -/
theorem out_at (hg : ∀ k, Real' (row x5 k)) (hw : ∀ k (c : Fin 512), Real' (wl x6 k ⟨2560 + c.val, by omega⟩))
    (hk : ∀ b i c, Real' (x3 (ix3 b i c))) (b : Fin 8) (s : Fin 4096) (d : Fin 1024) :
    val_main_v345 x0 x1 x2 x3 x4 x5 x6 x7 x8 x9 x10 x11 x12 x13 (ix3 b s d)
      = mergeAt (fun b s k => x0 (ix3 b s k)) (fun b s k => x1 (ix3 b s k)) (fun b s k => x2 (ix3 b s k))
          (fun b s k => x3 (ix3 b s k)) (fun b s k => x4 (ix3 b s k)) (fun k => x5 (ix1 k)) (fun k j => x6 (ix2 k j))
          (fun j k => x7 (ix2 j k)) (fun k => x8 (ix1 k)) (fun k => x9 (ix1 k)) (fun k => x10 (ix1 k))
          (fun n k d => x11 (ix3 n k d)) (fun k d => x12 (ix2 k d)) (fun k => x13 (ix1 k)) b s d := by
  pointwise [val_main_v331, val_main_v332, val_main_v333, val_main_v334, val_main_v335, val_main_v336, val_main_v337, val_main_v338, val_main_v339, val_main_v340, val_main_v341, val_main_v342, val_main_v343, val_main_v344, val_main_v345, val_main_cst_17, val_main_cst_18, val_main_cst_19]
  simp only [merged_at, branches_at x0 x1 x2 x3 x4 x5 x6 x7 x8 x9 x10 hg hw hk, conv_at]
  rfl

end Cert.ReferenceIdeal.Rows
-- ==== Proof.Finite.lean ====
/-
  What the precondition says: every entry of the norm's gain, of the query's columns of the projection's weight and of
  the memory's keys is a real number.
-/
module
public import proofs.«01_k».proof.Pre_finite_scores
public import proofs.«01_k».proof.Proof.Softmax

@[expose] public section
noncomputable section
open Idealize.ShloMosaic
namespace Cert.Merge
open Cert.Pre_finite_scores

theorem word_top : word 0x7F800000#32 = ⊤ := by simp [word, Ideal.ofBits, Ideal.ieee]

/-- An extended real whose absolute value compares below infinity is real. -/
theorem real_of_below {x : EReal} (h : Ideal.cmp .olt (max x (-x)) (word 0x7F800000#32) = 1#1) : Real' x := by
  rw [word_top] at h
  induction x with
  | bot => simp [Ideal.cmp] at h
  | top => simp [Ideal.cmp] at h
  | coe a => exact ⟨a, rfl⟩

variable [Facts] (x0 : FVec Ideal S8x4096x1024 .f32) (x1 x2 : FVec Ideal S8x4096x512 .bf16) (x3 x4 : FVec Ideal S8x256x512 .bf16)
  (x5 : FVec Ideal S1024 .f32) (x6 : FVec Ideal S1024x10256 .f32) (x7 : FVec Ideal S31x512 .f32) (x8 x9 x10 : FVec Ideal S512 .f32)
  (x11 : FVec Ideal S4x512x1024 .f32) (x12 : FVec Ideal S1024x1024 .f32) (x13 : FVec Ideal S1024 .f32)

theorem gain_real (h : (fn x0 x1 x2 x3 x4 x5 x6 x7 x8 x9 x10 x11 x12 x13).1 = fun _ => 1#1) (k : Fin 1024) : Real' (x5 (ix1 k)) := by
  refine real_of_below ?_
  rw [← congrFun h (ix1 k)]
  unfold fn fn_part1
  dsimp only
  pointwise []
  rfl

theorem query_real (h : (fn x0 x1 x2 x3 x4 x5 x6 x7 x8 x9 x10 x11 x12 x13).2.1 = fun _ => 1#1) (k : Fin 1024) (c : Fin 512) :
    Real' (x6 (ix2 k ⟨5136 + c.val, by omega⟩)) := by
  refine real_of_below ?_
  rw [← congrFun h (ix2 k c)]
  unfold fn fn_part1
  dsimp only
  pointwise []
  rfl

theorem keys_real (h : (fn x0 x1 x2 x3 x4 x5 x6 x7 x8 x9 x10 x11 x12 x13).2.2 = fun _ => 1#1) (b : Fin 8) (i : Fin 256) (c : Fin 512) :
    Real' (x3 (ix3 b i c)) := by
  refine real_of_below ?_
  rw [← congrFun h (ix3 b i c)]
  unfold fn fn_part1
  dsimp only
  pointwise []
  rfl

end Cert.Merge
-- ==== Proof.MemArray.lean ====
/-
  The memory projection's result arrays at one element: the grid point of a layer and a batch entry writes the block of
  that layer and entry, which holds the memory's normalised rows times the layer's matrix.
-/
module
public import proofs.«01_k».proof.Proof.Gen.MemKernelIdeal.Value
public import proofs.«01_k».proof.Proof.Spec
public import Idealize.ShloMosaic.Lib.Pipeline.ValueKit
public import Idealize.ShloMosaic.Lib.StableHlo.ReadAt
public import Idealize.ShloMosaic.Lib.Claim

@[expose] public section
set_option maxRecDepth 16384
noncomputable section
open Idealize.ShloMosaic Idealize.ShloMosaic.TcCoe Idealize.SL.Sem
namespace Cert.MemKernelIdeal.Array
open Cert.MemKernelIdeal Cert.MemKernelIdeal.Gen Cert.MemKernelIdeal.Value Cert.Merge
variable (m : (ℓ : Loc nD τ sig) → Buf (Elt Ideal) ℓ) (c : Dev nD)

theorem index_facts : ∀ t : Fin cfg0.N,
    (win0_0.index t = ![t.val % 8, 0, 0] ∧ win0_1.index t = ![t.val / 8, 0, 0] ∧ win0_2.index t = ![t.val / 8, 0, 0])
    ∧ win0_3.index t = ![t.val / 8, t.val % 8, 0, 0] ∧ win0_4.index t = ![t.val / 8, t.val % 8, 0, 0] :=
  (by decide +kernel : ∀ t : Fin grid0.N, _)

theorem flush_facts : ∀ t : Fin cfg0.N, (cfg0.win 3).flush t = true ∧ (cfg0.win 4).flush t = true :=
  (by decide +kernel : ∀ t : Fin grid0.N, _)

theorem pt_lt (t : Fin cfg0.N) : t.val < 16 := lt_of_lt_of_eq t.isLt N_0

/-- A point's layer. -/
abbrev lay (t : Fin cfg0.N) : Fin 2 := ⟨t.val / 8, by have := pt_lt t; omega⟩
/-- A point's batch entry. -/
abbrev bat (t : Fin cfg0.N) : Fin 8 := ⟨t.val % 8, by omega⟩

theorem blk0 (t : Fin cfg0.N) (r : Fin 256) (k : Fin 1024) :
    iblk m c 0 t (ix3 0 r k) = m ((c : Thread nD τ).loc main_arg0) (ix3 (bat t) r k) := by
  obtain ⟨⟨e, -⟩, -⟩ := index_facts t
  blk_simp [iblk]
  rw [V_main_arg0]
  refine congrArg _ (funext fun a => Fin.ext ?_)
  match a with
  | ⟨0, _⟩ => blk_simp [e]; exact Nat.add_zero _
  | ⟨1, _⟩ => blk_simp [e]
  | ⟨2, _⟩ => blk_simp [e]

theorem blk1 (t : Fin cfg0.N) (k : Fin 1024) :
    iblk m c 1 t (ix3 0 0 k) = m ((c : Thread nD τ).loc main_arg1) (ix2 (lay t) k) := by
  obtain ⟨⟨-, e, -⟩, -⟩ := index_facts t
  have h : iblk m c 1 t (ix3 0 0 k) = V m c main_v1 (ix3 (lay t) 0 k) := by
    blk_simp [iblk]
    refine congrArg _ (funext fun a => Fin.ext ?_)
    match a with
    | ⟨0, _⟩ => blk_simp [e]; exact Nat.add_zero _
    | ⟨1, _⟩ => blk_simp [e]
    | ⟨2, _⟩ => blk_simp [e]
  rw [h]
  unfold V
  after_reads_at

theorem blk2 (t : Fin cfg0.N) (k n : Fin 1024) :
    iblk m c 2 t (ix3 0 k n) = m ((c : Thread nD τ).loc main_arg2) (ix3 (lay t) k n) := by
  obtain ⟨⟨-, -, e⟩, -⟩ := index_facts t
  have h : iblk m c 2 t (ix3 0 k n) = V m c main_v0 (ix3 (lay t) k n) := by
    blk_simp [iblk]
    refine congrArg _ (funext fun a => Fin.ext ?_)
    match a with
    | ⟨0, _⟩ => blk_simp [e]; exact Nat.add_zero _
    | ⟨1, _⟩ => blk_simp [e]
    | ⟨2, _⟩ => blk_simp [e]
  rw [h]
  unfold V
  after_reads_at

/-- One layer's projection of a batch entry's memory, one slot's row at a time. -/
theorem kv_apply (x0 : Vec Ideal S1x256x1024 .f32) (x1 : Vec Ideal S1x1x1024 .f32) (x2 : Vec Ideal S1x1024x1024 .bf16) (r : Fin 256) (n : Fin 1024) :
    k0_pay1 x0 x1 x2 (ix2 r n) = ∑ k, rms (fun k => x0 (ix3 0 r k)) (fun k => x1 (ix3 0 0 k)) k * x2 (ix3 0 k n) := by
  pointwise [k0_pay1]
  rfl

/-- Column `n` of the projection of slot `r` of entry `b`'s memory in layer `l`. -/
def kvAt (x0 : (Shape.mk 3 ![8, 256, 1024]).Idx → EReal) (x1 : (Shape.mk 2 ![2, 1024]).Idx → EReal) (x2 : (Shape.mk 3 ![2, 1024, 1024]).Idx → EReal)
    (l : Fin 2) (b : Fin 8) (r : Fin 256) (n : Fin 1024) : EReal :=
  ∑ k, rms (fun k => x0 (ix3 b r k)) (fun k => x1 (ix2 l k)) k * x2 (ix3 l k n)

theorem point_at (t : Fin cfg0.N) (r : Fin 256) (n : Fin 1024) :
    k0_pay1 (iblk m c 0 t) (iblk m c 1 t) (iblk m c 2 t) (ix2 r n)
      = kvAt (m ((c : Thread nD τ).loc main_arg0)) (m ((c : Thread nD τ).loc main_arg1)) (m ((c : Thread nD τ).loc main_arg2)) (lay t) (bat t) r n := by
  rw [kv_apply]
  simp only [blk0, blk1, blk2]
  rfl

theorem at_point (y : S1x1x256x512.Idx) : ∃ (r : Fin 256) (k : Fin 512), y = ix4 (0 : Fin 1) (0 : Fin 1) r k :=
  ⟨y 2, y 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩

/-- The keys' array after the run. -/
theorem keys_eq : (dats m 0 c).arrAt 3 cfg0.N
    = fun i : S2x8x256x512.Idx => kvAt (m ((c : Thread nD τ).loc main_arg0)) (m ((c : Thread nD τ).loc main_arg1)) (m ((c : Thread nD τ).loc main_arg2))
        (i 0) (i 1) (i 2) ⟨(i 3).val, by have : (i 3).val < 512 := (i 3).isLt; omega⟩ := by
  refine (dats m 0 c).arrAt_eq_of_covers 3 _ (by decide +kernel) fun t hf y => ?_
  blk_simp
  rw [after0_3]
  frame_out
  obtain ⟨r, k, rfl⟩ : ∃ (r : Fin 256) (k : Fin 512), y = ix4 (0 : Fin 1) (0 : Fin 1) r k := at_point y
  have e := (index_facts t).2.1
  have hp : k0_pay2 (iblk m c 0 t) (iblk m c 1 t) (iblk m c 2 t) (ix4 (0 : Fin 1) (0 : Fin 1) r k)
      = k0_pay1 (iblk m c 0 t) (iblk m c 1 t) (iblk m c 2 t) (ix2 r ⟨k.val, by omega⟩) := by
    pointwise [k0_pay2]
  refine (hp.trans (point_at m c t r _)).trans ?_
  refine congr (congr (congr (congrArg _ (Fin.ext ?_)) (Fin.ext ?_)) (Fin.ext ?_)) (Fin.ext ?_)
  · blk_simp [e]
    exact (Nat.add_zero _).symm
  · blk_simp [e]
    exact (Nat.add_zero _).symm
  · blk_simp [e]
  · blk_simp [e]

/-- The values' array after the run. -/
theorem values_eq : (dats m 0 c).arrAt 4 cfg0.N
    = fun i : S2x8x256x512.Idx => kvAt (m ((c : Thread nD τ).loc main_arg0)) (m ((c : Thread nD τ).loc main_arg1)) (m ((c : Thread nD τ).loc main_arg2))
        (i 0) (i 1) (i 2) ⟨512 + (i 3).val, by have : (i 3).val < 512 := (i 3).isLt; omega⟩ := by
  refine (dats m 0 c).arrAt_eq_of_covers 4 _ (by decide +kernel) fun t hf y => ?_
  blk_simp
  rw [after0_4]
  frame_out
  obtain ⟨r, k, rfl⟩ : ∃ (r : Fin 256) (k : Fin 512), y = ix4 (0 : Fin 1) (0 : Fin 1) r k := at_point y
  have e := (index_facts t).2.2
  have hp : k0_pay3 (iblk m c 0 t) (iblk m c 1 t) (iblk m c 2 t) (ix4 (0 : Fin 1) (0 : Fin 1) r k)
      = k0_pay1 (iblk m c 0 t) (iblk m c 1 t) (iblk m c 2 t) (ix2 r ⟨512 + k.val, by omega⟩) := by
    pointwise [k0_pay3]
  refine (hp.trans (point_at m c t r _)).trans ?_
  refine congr (congr (congr (congrArg _ (Fin.ext ?_)) (Fin.ext ?_)) (Fin.ext ?_)) (Fin.ext ?_)
  · blk_simp [e]
    exact (Nat.add_zero _).symm
  · blk_simp [e]
    exact (Nat.add_zero _).symm
  · blk_simp [e]
  · blk_simp [e]

end Cert.MemKernelIdeal.Array
-- ==== Proof.MemRef.lean ====
/-
  The memory projection's reference at one element: a layer's normalised rows of the memory times the layer's matrix,
  the left half of the columns being the keys and the right half the values.
-/
module
public import proofs.«01_k».proof.Proof.Gen.MemReferenceIdeal.Read
public import proofs.«01_k».proof.Proof.Spec

@[expose] public section
set_option maxRecDepth 16384
noncomputable section
open Idealize.ShloMosaic Idealize.ShloMosaic.TcCoe Idealize.SL.Sem
namespace Cert.MemReferenceIdeal.Rows
open Cert.MemReferenceIdeal Cert.MemReferenceIdeal.Gen Cert.MemReferenceIdeal.Read Cert.Merge

variable (x0 : (⟨S8x256x1024, .f32⟩ : BufTy).Contents (Elt Ideal)) (x1 : (⟨S2x1024, .f32⟩ : BufTy).Contents (Elt Ideal))
  (x2 : (⟨S2x1024x1024, .f32⟩ : BufTy).Contents (Elt Ideal))

theorem norm0_at (b : Fin 8) (r : Fin 256) (k : Fin 1024) :
    val_main_v14 x0 x1 (ix3 b r k) = rms (fun k => x0 (ix3 b r k)) (fun k => x1 (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rfl

theorem norm1_at (b : Fin 8) (r : Fin 256) (k : Fin 1024) :
    val_main_v32 x0 x1 (ix3 b r k) = rms (fun k => x0 (ix3 b r k)) (fun k => x1 (ix2 1 k)) k := by
  pointwise [val_main_v18, val_main_v19, val_main_v20, val_main_v21, val_main_v22, val_main_v23, val_main_v24, val_main_v25, val_main_v26, val_main_v27, val_main_v28, val_main_v29, val_main_v30, val_main_v31, val_main_v32, val_main_cst_2, val_main_cst_3, val_main_cst_4]
  rfl

/-- Column `n` of the projection of slot `r` of entry `b`'s memory in layer `l`. -/
theorem both_at (l : Fin 2) (b : Fin 8) (r : Fin 256) (n : Fin 1024) :
    val_main_v38 x0 x1 x2 (ix4 l b r n) = ∑ k, rms (fun k => x0 (ix3 b r k)) (fun k => x1 (ix2 l k)) k * x2 (ix3 l k n) := by
  fin_cases l
  · pointwise [val_main_v38, val_main_v37, val_main_v36, val_main_v17, val_main_v16, val_main_v15]
    simp only [norm0_at]
  · pointwise [val_main_v38, val_main_v37, val_main_v36, val_main_v35, val_main_v34, val_main_v33]
    simp only [norm1_at]

theorem key_at (l : Fin 2) (b : Fin 8) (r : Fin 256) (k : Fin 512) :
    val_main_v41 x0 x1 x2 (ix4 l b r k) = val_main_v38 x0 x1 x2 (ix4 l b r ⟨k.val, by omega⟩) := by
  pointwise [val_main_v41, val_main_v39]

theorem value_at (l : Fin 2) (b : Fin 8) (r : Fin 256) (k : Fin 512) :
    val_main_v42 x0 x1 x2 (ix4 l b r k) = val_main_v38 x0 x1 x2 (ix4 l b r ⟨512 + k.val, by omega⟩) := by
  pointwise [val_main_v42, val_main_v40]

end Cert.MemReferenceIdeal.Rows
-- ==== Proof.MemClaim.lean ====
/-
  The memory projection's claim: the kernel's two arrays and the reference's two results are the layers' projections of
  the normalised memory, element by element.
-/
module
public import proofs.«01_k».proof.Defs
public import proofs.«01_k».proof.Proof.Gen.MemReferenceIdeal.Run
public import proofs.«01_k».proof.Proof.MemArray
public import proofs.«01_k».proof.Proof.MemRef
public import Idealize.ShloMosaic.Adequacy
public import Idealize.ShloMosaic.Init
public import Idealize.ShloMosaic.Lib.Quiescent

@[expose] public section
noncomputable section
namespace Cert.Proof
open Idealize.ShloMosaic Idealize.SL.Sem Cert.Merge

/-- The memory reference's frame. -/
theorem frame_mem_reference : quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)

/-- A layer, a batch entry, a slot and a column name an element of the memory's keys or values. -/
theorem mem_idx (i : (Shape.mk 4 ![2, 8, 256, 512]).Idx) : ∃ (l : Fin 2) (b : Fin 8) (r : Fin 256) (k : Fin 512), i = ix4 l b r k :=
  ⟨i 0, i 1, i 2, i 3, funext fun a => by fin_cases a <;> rfl⟩

theorem algebraic_mem : algebraic_MemKernelIdeal_MemReferenceIdeal := by
  intro m ρ m' ρ' _ hagree
  refine ⟨_, _, Cert.MemKernelIdeal.Value.run_blocks (F := Ideal) m ρ, ?_⟩
  refine (θ_run Cert.MemReferenceIdeal.defs _ _).mono (fun _ h c => ⟨?_, ?_, (h c).2.2⟩) (Cert.MemReferenceIdeal.Value.run (F := Ideal) m' ρ')
  all_goals obtain ⟨e0, e1, e2⟩ := hagree c
  · refine ((h c).1.trans (Cert.MemReferenceIdeal.Read.val_main_v41_eq _ _ _)).trans ?_
    rw [e0, e1, e2, Cert.MemKernelIdeal.Array.keys_eq]
    funext i
    obtain ⟨l, b, r, k, rfl⟩ := mem_idx i
    exact (Cert.MemReferenceIdeal.Rows.key_at _ _ _ l b r k).trans (Cert.MemReferenceIdeal.Rows.both_at _ _ _ l b r _)
  · refine ((h c).2.1.trans (Cert.MemReferenceIdeal.Read.val_main_v42_eq _ _ _)).trans ?_
    rw [e0, e1, e2, Cert.MemKernelIdeal.Array.values_eq]
    funext i
    obtain ⟨l, b, r, k, rfl⟩ := mem_idx i
    exact (Cert.MemReferenceIdeal.Rows.value_at _ _ _ l b r k).trans (Cert.MemReferenceIdeal.Rows.both_at _ _ _ l b r _)

end Cert.Proof
end
-- ==== Proof.ProjArray.lean ====
/-
  The sequence projection's result arrays at one element. A grid point holds 512 tokens of one batch entry; each token's
  normalised row is multiplied by the projection's columns, and the gate's low-rank factor goes through 128 lanes of which
  16 are the factor's and the rest are zero.
-/
module
public import proofs.«01_k».proof.Proof.Gen.ProjKernelIdeal.Value
public import proofs.«01_k».proof.Proof.Spec
public import Idealize.ShloMosaic.Lib.Pipeline.ValueKit
public import Idealize.ShloMosaic.Lib.StableHlo.ReadAt
public import Idealize.ShloMosaic.Lib.Claim

@[expose] public section
set_option maxRecDepth 16384
noncomputable section
open Idealize.ShloMosaic Idealize.ShloMosaic.TcCoe Idealize.SL.Sem
namespace Cert.ProjKernelIdeal.Array
open Cert.ProjKernelIdeal Cert.ProjKernelIdeal.Gen Cert.Merge
variable (m : (ℓ : Loc nD τ sig) → Buf (Elt Ideal) ℓ) (c : Dev nD)

theorem index_facts : ∀ t : Fin cfg0.N,
    (win0_0.index t = ![t.val / 8, t.val % 8, 0] ∧ win0_1.index t = ![0, 0] ∧ win0_2.index t = ![0, 0])
    ∧ (win0_3.index t = ![0, 0] ∧ win0_4.index t = ![0, 0] ∧ win0_5.index t = ![0, 0]) :=
  (by decide +kernel : ∀ t : Fin grid0.N, _)

theorem out_facts : ∀ t : Fin cfg0.N,
    (win0_6.index t = ![t.val / 8, t.val % 8, 0] ∧ win0_7.index t = ![t.val / 8, t.val % 8, 0] ∧ win0_8.index t = ![t.val / 8, t.val % 8, 0])
    ∧ (win0_9.index t = ![t.val / 8, t.val % 8, 0, 0] ∧ win0_10.index t = ![t.val / 8, t.val % 8, 0] ∧ win0_11.index t = ![t.val / 8, t.val % 8, 0])
    ∧ (win0_12.index t = ![t.val / 8, t.val % 8, 0] ∧ win0_13.index t = ![t.val / 8, t.val % 8, 0]) :=
  (by decide +kernel : ∀ t : Fin grid0.N, _)

theorem pt_lt (t : Fin cfg0.N) : t.val < 64 := lt_of_lt_of_eq t.isLt N_0

/-- A point's batch entry. -/
abbrev bat (t : Fin cfg0.N) : Fin 8 := ⟨t.val / 8, by have := pt_lt t; omega⟩
/-- The token of row `r` of a point's tile. -/
abbrev tok (t : Fin cfg0.N) (r : Fin 512) : Fin 4096 := ⟨512 * (t.val % 8) + r.val, by omega⟩

theorem blk0 (t : Fin cfg0.N) (r : Fin 512) (k : Fin 1024) :
    iblk m c 0 t (ix3 0 r k) = m ((c : Thread nD τ).loc main_arg0) (ix3 (bat t) (tok t r) k) := by
  obtain ⟨⟨e, -⟩, -⟩ := index_facts t
  blk_simp [iblk]
  rw [V_main_arg0]
  refine congrArg _ (funext fun a => Fin.ext ?_)
  match a with
  | ⟨0, _⟩ => blk_simp [e]; exact Nat.add_zero _
  | ⟨1, _⟩ => blk_simp [e]; show t.val % 8 * 512 + r.val = 512 * (t.val % 8) + r.val; omega
  | ⟨2, _⟩ => blk_simp [e]

theorem blk1 (t : Fin cfg0.N) (k : Fin 1024) :
    iblk m c 1 t (ix2 0 k) = m ((c : Thread nD τ).loc main_arg1) (ix1 k) := by
  obtain ⟨⟨-, e, -⟩, -⟩ := index_facts t
  have h : iblk m c 1 t (ix2 0 k) = V m c main_v9 (ix2 0 k) := by
    blk_simp [iblk]
    refine congrArg _ (funext fun a => Fin.ext ?_)
    match a with
    | ⟨0, _⟩ => blk_simp [e]
    | ⟨1, _⟩ => blk_simp [e]
  rw [h]
  unfold V
  after_reads_at

/-- The column of the whole projection that column `n` of the kernel's weight is. -/
def scol (n : Fin 2560) : Fin 10256 := if h : n.val < 1536 then ⟨1536 + n.val, by omega⟩ else ⟨2048 + n.val, by omega⟩

theorem blk2 (t : Fin cfg0.N) (k : Fin 1024) (n : Fin 2560) :
    iblk m c 2 t (ix2 k n) = m ((c : Thread nD τ).loc main_arg2) (ix2 k (scol n)) := by
  obtain ⟨⟨-, -, e⟩, -⟩ := index_facts t
  have h : iblk m c 2 t (ix2 k n) = V m c main_v3 (ix2 k n) := by
    blk_simp [iblk]
    refine congrArg _ (funext fun a => Fin.ext ?_)
    match a with
    | ⟨0, _⟩ => blk_simp [e]
    | ⟨1, _⟩ => blk_simp [e]
  rw [h]
  unfold V
  after_reads_at
  unfold scol
  split_ifs with hn
  · after_reads_at
  · after_reads_at
    exact congrArg (fun z => m ((c : Thread nD τ).loc main_arg2) (ix2 k z)) (Fin.ext (by show 3584 + (n.val - 1536) = 2048 + n.val; omega))
  · exact absurd rfl ‹_›

theorem blk3 (t : Fin cfg0.N) (k : Fin 1024) (n : Fin 128) :
    iblk m c 3 t (ix2 k n) = if h : n.val < 16 then (m ((c : Thread nD τ).loc main_arg2) (ix2 k ⟨4608 + n.val, by omega⟩) : EReal) else (0 : EReal) := by
  obtain ⟨-, e, -⟩ := index_facts t
  have h : iblk m c 3 t (ix2 k n) = V m c main_v6 (ix2 k n) := by
    blk_simp [iblk]
    refine congrArg _ (funext fun a => Fin.ext ?_)
    match a with
    | ⟨0, _⟩ => blk_simp [e]
    | ⟨1, _⟩ => blk_simp [e]
  rw [h]
  unfold V
  after_reads_at
  split_ifs with hn
  · rfl
  · simp [FloatOps.sitofp]

theorem blk4 (t : Fin cfg0.N) (k : Fin 128) (n : Fin 256) :
    iblk m c 4 t (ix2 k n) = if h : k.val < 16 then (m ((c : Thread nD τ).loc main_arg3) (ix2 ⟨k.val, h⟩ n) : EReal) else (0 : EReal) := by
  obtain ⟨-, -, e, -⟩ := index_facts t
  have h : iblk m c 4 t (ix2 k n) = V m c main_v8 (ix2 k n) := by
    blk_simp [iblk]
    refine congrArg _ (funext fun a => Fin.ext ?_)
    match a with
    | ⟨0, _⟩ => blk_simp [e]
    | ⟨1, _⟩ => blk_simp [e]
  rw [h]
  unfold V
  after_reads_at
  split_ifs with hn
  · rfl
  · simp [FloatOps.sitofp]

theorem blk5 (t : Fin cfg0.N) (k : Fin 256) :
    iblk m c 5 t (ix2 0 k) = m ((c : Thread nD τ).loc main_arg4) (ix1 k) := by
  obtain ⟨-, -, -, e⟩ := index_facts t
  have h : iblk m c 5 t (ix2 0 k) = V m c main_v10 (ix2 0 k) := by
    blk_simp [iblk]
    refine congrArg _ (funext fun a => Fin.ext ?_)
    match a with
    | ⟨0, _⟩ => blk_simp [e]
    | ⟨1, _⟩ => blk_simp [e]
  rw [h]
  unfold V
  after_reads_at

/-- Column `j` of the projection of token `s` of entry `b`. -/
def projAt (x0 : (Shape.mk 3 ![8, 4096, 1024]).Idx → EReal) (x1 : (Shape.mk 1 ![1024]).Idx → EReal) (x2 : (Shape.mk 2 ![1024, 10256]).Idx → EReal)
    (b : Fin 8) (s : Fin 4096) (j : Fin 10256) : EReal :=
  ∑ k, rms (fun k => x0 (ix3 b s k)) (fun k => x1 (ix1 k)) k * x2 (ix2 k j)

/-- The projection as the arguments in memory give it. -/
abbrev pj (b : Fin 8) (s : Fin 4096) (j : Fin 10256) : EReal :=
  projAt (m ((c : Thread nD τ).loc main_arg0)) (m ((c : Thread nD τ).loc main_arg1)) (m ((c : Thread nD τ).loc main_arg2)) b s j

theorem norm_apply (x0 : Vec Ideal S1x512x1024 .f32) (x1 : Vec Ideal S1x1024 .f32) (r : Fin 512) (k : Fin 1024) :
    k0_pay2 x0 x1 (ix2 r k) = rms (fun k => x0 (ix3 0 r k)) (fun k => x1 (ix2 0 k)) k := by
  pointwise [k0_pay2]
  rfl

theorem row_apply (x0 : Vec Ideal S1x512x1024 .f32) (x1 : Vec Ideal S1x1024 .f32) (x2 : Vec Ideal S1024x2560 .bf16) (x3 : Vec Ideal S1024x128 .bf16)
    (x4 : Vec Ideal S128x256 .bf16) (x5 : Vec Ideal S1x256 .f32) (r : Fin 512) (k : Fin 1024) :
    k0_pay15 x0 x1 x2 x3 x4 x5 (ix2 r k) = rms (fun k => x0 (ix3 0 r k)) (fun k => x1 (ix2 0 k)) k := by
  pointwise [k0_pay15, k0_pay2]
  rfl

theorem scol_low (a k : Nat) (h : a + k < 1536) : scol ⟨a + k, by omega⟩ = ⟨1536 + (a + k), by omega⟩ := dif_pos h
theorem scol_high (a k : Nat) (h : a + k < 1024) : scol ⟨1536 + a + k, by omega⟩ = ⟨3584 + (a + k), by omega⟩ := by
  unfold scol
  rw [dif_neg (by show ¬1536 + a + k < 1536; omega)]
  exact Fin.ext (by show 2048 + (1536 + a + k) = 3584 + (a + k); omega)

theorem pj_congr {b b' : Fin 8} {s s' : Fin 4096} {j j' : Nat} {h : j < 10256} {h' : j' < 10256} (hb : b.val = b'.val) (hs : s.val = s'.val) (hj : j = j') :
    pj m c b s ⟨j, h⟩ = pj m c b' s' ⟨j', h'⟩ := by
  subst hj
  rw [Fin.ext hb, Fin.ext hs]

/-- A row of the tile against a column of the kernel's weight. -/
theorem lin_at (t : Fin cfg0.N) (h : FVec Ideal S512x1024 .bf16) (r : Fin 512)
    (hh : ∀ k, h (ix2 r k) = rms (fun k => iblk m c 0 t (ix3 0 r k)) (fun k => iblk m c 1 t (ix2 0 k)) k) (n : Fin 2560) (j : Fin 10256) (hj : scol n = j) :
    (∑ k, h (ix2 r k) * iblk m c 2 t (ix2 k n) : EReal) = pj m c (bat t) (tok t r) j := by
  subst hj
  simp only [hh, blk0, blk1, blk2]
  rfl

theorem at3 {n : Nat} (y : (Shape.mk 3 ![1, 512, n]).Idx) : ∃ (r : Fin 512) (k : Fin n), y = ix3 (0 : Fin 1) r k :=
  ⟨y 1, y 2, funext fun a => by
    match a with
    | ⟨0, _⟩ => exact Subsingleton.elim (α := Fin 1) _ _
    | ⟨1, _⟩ => rfl
    | ⟨2, _⟩ => rfl⟩

/-- The block attention's queries after the run. -/
theorem query_eq : (dats m 0 c).arrAt 6 cfg0.N
    = fun i : S8x4096x512.Idx => pj m c (i 0) (i 1) ⟨1536 + (i 2).val, by have : (i 2).val < 512 := (i 2).isLt; omega⟩ * word 0x3DB504F3#32 := by
  refine (dats m 0 c).arrAt_eq_of_covers 6 _ (by decide +kernel) fun t hf y => ?_
  blk_simp
  rw [after0_6]
  frame_out
  obtain ⟨r, k, rfl⟩ := at3 y
  pointwise [k0_pay3]
  have e : win0_6.index t = ![t.val / 8, t.val % 8, 0] := by simp only [out_facts t]
  refine congrArg (· * word 0x3DB504F3#32) ((lin_at m c t _ r (norm_apply _ _ r) ⟨k.val, by omega⟩ _ ((congrArg scol (Fin.ext (Nat.zero_add _).symm)).trans (scol_low 0 k.val (by omega)))).trans ?_)
  refine pj_congr m c ?_ ?_ ?_
  · blk_simp [e]; exact (Nat.add_zero _).symm
  · blk_simp [e]; show 512 * (t.val % 8) + r.val = t.val % 8 * 512 + r.val; omega
  · blk_simp [e] <;> omega

/-- The block attention's keys after the run. -/
theorem key_eq : (dats m 0 c).arrAt 7 cfg0.N
    = fun i : S8x4096x512.Idx => pj m c (i 0) (i 1) ⟨2048 + (i 2).val, by have : (i 2).val < 512 := (i 2).isLt; omega⟩ := by
  refine (dats m 0 c).arrAt_eq_of_covers 7 _ (by decide +kernel) fun t hf y => ?_
  blk_simp
  rw [after0_7]
  frame_out
  obtain ⟨r, k, rfl⟩ := at3 y
  pointwise [k0_pay5, k0_pay4]
  have e : win0_7.index t = ![t.val / 8, t.val % 8, 0] := by simp only [out_facts t]
  refine (lin_at m c t _ r (norm_apply _ _ r) ⟨512 + k.val, by omega⟩ _ (scol_low 512 k.val (by omega))).trans ?_
  refine pj_congr m c ?_ ?_ ?_
  · blk_simp [e]; exact (Nat.add_zero _).symm
  · blk_simp [e]; show 512 * (t.val % 8) + r.val = t.val % 8 * 512 + r.val; omega
  · blk_simp [e] <;> omega

/-- The block attention's values after the run. -/
theorem value_eq : (dats m 0 c).arrAt 8 cfg0.N
    = fun i : S8x4096x512.Idx => pj m c (i 0) (i 1) ⟨2560 + (i 2).val, by have : (i 2).val < 512 := (i 2).isLt; omega⟩ := by
  refine (dats m 0 c).arrAt_eq_of_covers 8 _ (by decide +kernel) fun t hf y => ?_
  blk_simp
  rw [after0_8]
  frame_out
  obtain ⟨r, k, rfl⟩ := at3 y
  pointwise [k0_pay9]
  have e : win0_8.index t = ![t.val / 8, t.val % 8, 0] := by simp only [out_facts t]
  refine (lin_at m c t _ r (row_apply _ _ _ _ _ _ r) ⟨1024 + k.val, by omega⟩ _ (scol_low 1024 k.val (by omega))).trans ?_
  refine pj_congr m c ?_ ?_ ?_
  · blk_simp [e]; exact (Nat.add_zero _).symm
  · blk_simp [e]; show 512 * (t.val % 8) + r.val = t.val % 8 * 512 + r.val; omega
  · blk_simp [e] <;> omega

/-- The linear attention's queries after the run. -/
theorem gq_eq : (dats m 0 c).arrAt 10 cfg0.N
    = fun i : S8x4096x256.Idx => pj m c (i 0) (i 1) ⟨3584 + (i 2).val, by have : (i 2).val < 256 := (i 2).isLt; omega⟩ := by
  refine (dats m 0 c).arrAt_eq_of_covers 10 _ (by decide +kernel) fun t hf y => ?_
  blk_simp
  rw [after0_10]
  frame_out
  obtain ⟨r, k, rfl⟩ := at3 y
  pointwise [k0_pay10]
  have e : win0_10.index t = ![t.val / 8, t.val % 8, 0] := by simp only [out_facts t]
  refine (lin_at m c t _ r (row_apply _ _ _ _ _ _ r) ⟨1536 + k.val, by omega⟩ _ (scol_high 0 k.val (by omega))).trans ?_
  refine pj_congr m c ?_ ?_ ?_
  · blk_simp [e]; exact (Nat.add_zero _).symm
  · blk_simp [e]; show 512 * (t.val % 8) + r.val = t.val % 8 * 512 + r.val; omega
  · blk_simp [e] <;> omega

/-- The linear attention's keys after the run. -/
theorem gk_eq : (dats m 0 c).arrAt 11 cfg0.N
    = fun i : S8x4096x256.Idx => pj m c (i 0) (i 1) ⟨3840 + (i 2).val, by have : (i 2).val < 256 := (i 2).isLt; omega⟩ := by
  refine (dats m 0 c).arrAt_eq_of_covers 11 _ (by decide +kernel) fun t hf y => ?_
  blk_simp
  rw [after0_11]
  frame_out
  obtain ⟨r, k, rfl⟩ := at3 y
  pointwise [k0_pay12, k0_pay11]
  have e : win0_11.index t = ![t.val / 8, t.val % 8, 0] := by simp only [out_facts t]
  refine (lin_at m c t _ r (row_apply _ _ _ _ _ _ r) ⟨1792 + k.val, by omega⟩ _ (scol_high 256 k.val (by omega))).trans ?_
  refine pj_congr m c ?_ ?_ ?_
  · blk_simp [e]; exact (Nat.add_zero _).symm
  · blk_simp [e]; show 512 * (t.val % 8) + r.val = t.val % 8 * 512 + r.val; omega
  · blk_simp [e] <;> omega

/-- The linear attention's values after the run. -/
theorem gv_eq : (dats m 0 c).arrAt 12 cfg0.N
    = fun i : S8x4096x512.Idx => pj m c (i 0) (i 1) ⟨4096 + (i 2).val, by have : (i 2).val < 512 := (i 2).isLt; omega⟩ := by
  refine (dats m 0 c).arrAt_eq_of_covers 12 _ (by decide +kernel) fun t hf y => ?_
  blk_simp
  rw [after0_12]
  frame_out
  obtain ⟨r, k, rfl⟩ := at3 y
  pointwise [k0_pay13]
  have e : win0_12.index t = ![t.val / 8, t.val % 8, 0] := by simp only [out_facts t]
  refine (lin_at m c t _ r (row_apply _ _ _ _ _ _ r) ⟨2048 + k.val, by omega⟩ _ (scol_high 512 k.val (by omega))).trans ?_
  refine pj_congr m c ?_ ?_ ?_
  · blk_simp [e]; exact (Nat.add_zero _).symm
  · blk_simp [e]; show 512 * (t.val % 8) + r.val = t.val % 8 * 512 + r.val; omega
  · blk_simp [e] <;> omega

theorem half0 (P : FVec Ideal S512x512 .f32) (i : S512.Idx) :
    multiReduction .add [0] S512 (extractStridedSlice S256x512 ![0, 0] P slices_S512x512_o0_0_S256x512) 0x00000000#32 reduces_S256x512_S512 (.inl rfl) rfl i
      = ∑ r : Fin 256, P (ix2 ⟨256 * 0 + r.val, by omega⟩ (i 0)) := by
  pointwise []

theorem half1 (P : FVec Ideal S512x512 .f32) (i : S512.Idx) :
    multiReduction .add [0] S512 (extractStridedSlice S256x512 ![256, 0] P slices_S512x512_o256_0_S256x512) 0x00000000#32 reduces_S256x512_S512 (.inl rfl) rfl i
      = ∑ r : Fin 256, P (ix2 ⟨256 * 1 + r.val, by omega⟩ (i 0)) := by
  pointwise []

theorem norm_ld (x0 : Vec Ideal S1x512x1024 .f32) (x1 : Vec Ideal S1x1024 .f32) (r : Fin 512) (k : Fin 1024) :
    k0_pay2 (View.ld x0 r0_0) (View.ld x1 r0_1) (ix2 r k) = rms (fun k => x0 (ix3 0 r k)) (fun k => x1 (ix2 0 k)) k := by
  pointwise [k0_pay2]
  rfl

theorem key_row (x0 : Vec Ideal S1x512x1024 .f32) (x1 : Vec Ideal S1x1024 .f32) (x2 : Vec Ideal S1024x2560 .bf16) (r k : Fin 512) :
    k0_pay4 (View.ld x0 r0_0) (View.ld x1 r0_1) (View.ld x2 r0_4) (ix2 r k)
      = ∑ x, k0_pay2 (View.ld x0 r0_0) (View.ld x1 r0_1) (ix2 r x) * x2 (ix2 x ⟨512 + k.val, by omega⟩) := by
  pointwise [k0_pay4]

theorem kmean_eq : (dats m 0 c).arrAt 9 cfg0.N
    = fun i : S8x16x1x512.Idx => Ideal.div (∑ r : Fin 256, pj m c (i 0) ⟨256 * (i 1).val + r.val, by have : (i 1).val < 16 := (i 1).isLt; omega⟩
        ⟨2048 + (i 3).val, by have : (i 3).val < 512 := (i 3).isLt; omega⟩) (word 0x43800000#32) := by
  refine (dats m 0 c).arrAt_eq_of_covers 9 _ (by decide +kernel) fun t hf y => ?_
  blk_simp
  rw [after0_9]
  unfold out0_9
  rw [Cert.ProjKernelIdeal.Value.canon9_eq]
  obtain ⟨n, k, rfl⟩ : ∃ (n : Fin 2) (k : Fin 512), y = ix4 (0 : Fin 1) n (0 : Fin 1) k := ⟨y 1, y 3, funext fun a => by
    match a with
    | ⟨0, _⟩ => exact Subsingleton.elim (α := Fin 1) _ _
    | ⟨1, _⟩ => rfl
    | ⟨2, _⟩ => exact Subsingleton.elim (α := Fin 1) _ _
    | ⟨3, _⟩ => rfl⟩
  have hn : Cert.ProjKernelIdeal.Value.E9 (View.ld (iblk m c 0 t) r0_0) (View.ld (iblk m c 1 t) r0_1) (View.ld (iblk m c 2 t) r0_4) (ix4 (0 : Fin 1) n (0 : Fin 1) k)
      = Ideal.div (∑ r : Fin 256, k0_pay4 (View.ld (iblk m c 0 t) r0_0) (View.ld (iblk m c 1 t) r0_1) (View.ld (iblk m c 2 t) r0_4) (ix2 ⟨256 * n.val + r.val, by omega⟩ k)) (word 0x43800000#32) := by
    fin_cases n
    · exact congrArg (fun z => Ideal.div z (word 0x43800000#32)) (half0 _ _)
    · exact congrArg (fun z => Ideal.div z (word 0x43800000#32)) (half1 _ _)
  refine hn.trans ?_
  have e : win0_9.index t = ![t.val / 8, t.val % 8, 0, 0] := by simp only [out_facts t]
  refine congrArg (fun z => Ideal.div z (word 0x43800000#32)) (Finset.sum_congr rfl fun r _ => ?_)
  refine (key_row (iblk m c 0 t) (iblk m c 1 t) (iblk m c 2 t) ⟨256 * n.val + r.val, by omega⟩ k).trans ((lin_at m c t
    (k0_pay2 (View.ld (iblk m c 0 t) r0_0) (View.ld (iblk m c 1 t) r0_1)) ⟨256 * n.val + r.val, by omega⟩ (norm_ld (iblk m c 0 t) (iblk m c 1 t) _)
    ⟨512 + k.val, by omega⟩ _ (scol_low 512 k.val (by omega))).trans (pj_congr m c ?_ ?_ ?_))
  · blk_simp [e]; exact (Nat.add_zero _).symm
  · blk_simp [e]
    show 512 * (t.val % 8) + (256 * n.val + r.val) = 256 * (t.val % 8 * 2 + n.val) + r.val
    omega
  · blk_simp [e] <;> omega

/-- The gate's logarithm. -/
def logsig (z : EReal) : EReal := min z 0 - Ideal.log (1 + Ideal.exp (0 - max z (-z)))

/-- What the gate's logarithm is taken of. -/
def lowAt (x0 : (Shape.mk 3 ![8, 4096, 1024]).Idx → EReal) (x1 : (Shape.mk 1 ![1024]).Idx → EReal) (x2 : (Shape.mk 2 ![1024, 10256]).Idx → EReal)
    (x3 : (Shape.mk 2 ![16, 256]).Idx → EReal) (x4 : (Shape.mk 1 ![256]).Idx → EReal) (b : Fin 8) (s : Fin 4096) (d : Fin 256) : EReal :=
  (∑ j : Fin 16, projAt x0 x1 x2 b s ⟨4608 + j.val, by omega⟩ * x3 (ix2 j d)) + x4 (ix1 d)

/-- A sum over 128 lanes of which only 16 count. -/
theorem sum_lanes (f : Fin 128 → EReal) (g : Fin 16 → EReal) (h : ∀ x : Fin 128, f x = if h : x.val < 16 then g ⟨x.val, h⟩ else 0) :
    ∑ x, f x = ∑ j, g j := by
  have e1 : ∀ j : Fin 16, f (Fin.castAdd 112 j) = g j := fun j => (h _).trans (dif_pos (by simp))
  have e2 : ∀ j : Fin 112, f (Fin.natAdd 16 j) = 0 := fun j => (h _).trans (dif_neg (by simp))
  rw [show ∑ x, f x = ∑ x : Fin (16 + 112), f x from rfl, Fin.sum_univ_add]
  simp only [e1, e2, Finset.sum_const_zero, add_zero]

theorem low_at (t : Fin cfg0.N) (h : FVec Ideal S512x1024 .bf16) (r : Fin 512) (d : Fin 256)
    (hh : ∀ k, h (ix2 r k) = rms (fun k => iblk m c 0 t (ix3 0 r k)) (fun k => iblk m c 1 t (ix2 0 k)) k) :
    ((∑ x : Fin 128, (∑ k, h (ix2 r k) * iblk m c 3 t (ix2 k x) : EReal) * iblk m c 4 t (ix2 x d) : EReal) + iblk m c 5 t (ix2 0 d) : EReal)
      = lowAt (m ((c : Thread nD τ).loc main_arg0)) (m ((c : Thread nD τ).loc main_arg1)) (m ((c : Thread nD τ).loc main_arg2))
          (m ((c : Thread nD τ).loc main_arg3)) (m ((c : Thread nD τ).loc main_arg4)) (bat t) (tok t r) d := by
  unfold lowAt
  rw [blk5]
  refine congrArg (· + _) (sum_lanes _ _ fun x => ?_)
  rw [blk4]
  split_ifs with hx
  · simp only [hh, blk0, blk1, blk3, dif_pos hx]
    rfl
  · exact mul_zero _

theorem gate_eq : (dats m 0 c).arrAt 13 cfg0.N
    = fun i : S8x4096x256.Idx => Ideal.div (logsig (lowAt (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1) (i 2)))
        (word 0x41800000#32) := by
  refine (dats m 0 c).arrAt_eq_of_covers 13 _ (by decide +kernel) fun t hf y => ?_
  blk_simp
  rw [after0_13]
  frame_out
  obtain ⟨r, k, rfl⟩ := at3 y
  pointwise [k0_pay1, k0_pay14]
  have e : win0_13.index t = ![t.val / 8, t.val % 8, 0] := by simp only [out_facts t]
  rw [low_at m c t _ r k (row_apply _ _ _ _ _ _ r)]
  refine congrArg (fun z => Ideal.div (logsig z) (word 0x41800000#32)) ?_
  refine congr (congr (congrArg _ (Fin.ext ?_)) (Fin.ext ?_)) (Fin.ext ?_)
  · blk_simp [e]; exact (Nat.add_zero _).symm
  · blk_simp [e]; show 512 * (t.val % 8) + r.val = t.val % 8 * 512 + r.val; omega
  · blk_simp [e] <;> omega

end Cert.ProjKernelIdeal.Array
-- ==== Proof.ProjRef.lean ====
/-
  The sequence projection's reference at one element: the normalised token times the weight's columns, their block means,
  and the gate's logarithm.
-/
module
public import proofs.«01_k».proof.Proof.Gen.ProjReferenceIdeal.Read
public import proofs.«01_k».proof.Proof.ProjArray

@[expose] public section
set_option maxRecDepth 16384
noncomputable section
open Idealize.ShloMosaic Idealize.ShloMosaic.TcCoe Idealize.SL.Sem
namespace Cert.ProjReferenceIdeal.Rows
open Cert.ProjReferenceIdeal Cert.ProjReferenceIdeal.Gen Cert.ProjReferenceIdeal.Read Cert.Merge
open Cert.ProjKernelIdeal.Array (projAt logsig lowAt)

variable (x0 : (⟨S8x4096x1024, .f32⟩ : BufTy).Contents (Elt Ideal)) (x1 : (⟨S1024, .f32⟩ : BufTy).Contents (Elt Ideal))
  (x2 : (⟨S1024x10256, .f32⟩ : BufTy).Contents (Elt Ideal)) (x3 : (⟨S16x256, .f32⟩ : BufTy).Contents (Elt Ideal))
  (x4 : (⟨S256, .f32⟩ : BufTy).Contents (Elt Ideal))

theorem norm_at (b : Fin 8) (s : Fin 4096) (k : Fin 1024) :
    val_main_v12 x0 x1 (ix3 b s k) = rms (fun k => x0 (ix3 b s k)) (fun k => x1 (ix1 k)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem proj_at (b : Fin 8) (s : Fin 4096) (j : Fin 10256) : val_main_v13 x0 x1 x2 (ix3 b s j) = projAt x0 x1 x2 b s j := by
  pointwise [val_main_v13]
  simp only [norm_at]
  rfl

theorem query_at (b : Fin 8) (s : Fin 4096) (k : Fin 512) :
    val_main_v43 x0 x1 x2 (ix3 b s k) = projAt x0 x1 x2 b s ⟨1536 + k.val, by omega⟩ * word 0x3DB504F3#32 := by
  pointwise [val_main_v43, val_main_v42, val_main_v41, val_main_v17, val_main_cst_5]
  rw [proj_at]

theorem key_at (b : Fin 8) (s : Fin 4096) (k : Fin 512) :
    val_main_v44 x0 x1 x2 (ix3 b s k) = projAt x0 x1 x2 b s ⟨2048 + k.val, by omega⟩ := by
  pointwise [val_main_v44, val_main_v18]
  exact proj_at x0 x1 x2 b s _

theorem value_at (b : Fin 8) (s : Fin 4096) (k : Fin 512) :
    val_main_v45 x0 x1 x2 (ix3 b s k) = projAt x0 x1 x2 b s ⟨2560 + k.val, by omega⟩ := by
  pointwise [val_main_v45, val_main_v19]
  exact proj_at x0 x1 x2 b s _

theorem kmean_at (b : Fin 8) (n : Fin 16) (k : Fin 512) :
    val_main_v33 x0 x1 x2 (ix4 b n (0 : Fin 1) k)
      = Ideal.div (∑ r : Fin 256, projAt x0 x1 x2 b ⟨256 * n.val + r.val, by omega⟩ ⟨2048 + k.val, by omega⟩) (word 0x43800000#32) := by
  pointwise [val_main_v33, val_main_v32, val_main_v31, val_main_v30, val_main_v29, val_main_v18, val_main_cst_2, val_main_cst_3]
  simp only [proj_at]
  refine congrArg (fun z => Ideal.div z (word 0x43800000#32)) (Finset.sum_congr rfl fun r _ => ?_)
  exact congrArg (fun s => projAt x0 x1 x2 b s _) (Fin.ext (congrArg (· + r.val) (Nat.mul_comm _ _)))

theorem gq_at (b : Fin 8) (s : Fin 4096) (k : Fin 256) :
    val_main_v21 x0 x1 x2 (ix3 b s k) = projAt x0 x1 x2 b s ⟨3584 + k.val, by omega⟩ := by
  pointwise [val_main_v21]
  exact proj_at x0 x1 x2 b s _

theorem gk_at (b : Fin 8) (s : Fin 4096) (k : Fin 256) :
    val_main_v22 x0 x1 x2 (ix3 b s k) = projAt x0 x1 x2 b s ⟨3840 + k.val, by omega⟩ := by
  pointwise [val_main_v22]
  exact proj_at x0 x1 x2 b s _

theorem gv_at (b : Fin 8) (s : Fin 4096) (k : Fin 512) :
    val_main_v46 x0 x1 x2 (ix3 b s k) = projAt x0 x1 x2 b s ⟨4096 + k.val, by omega⟩ := by
  pointwise [val_main_v46, val_main_v23]
  exact proj_at x0 x1 x2 b s _

theorem low_at (b : Fin 8) (s : Fin 4096) (d : Fin 256) :
    val_main_v37 x0 x1 x2 x3 x4 (ix3 b s d) = lowAt x0 x1 x2 x3 x4 b s d := by
  pointwise [val_main_v37, val_main_v36, val_main_v35, val_main_v34, val_main_v24]
  simp only [proj_at]
  rfl

/-- The logarithm in the gate is a real number, whatever it is taken of. -/
theorem log_real (z : EReal) : ∃ l : ℝ, Ideal.log (1 + Ideal.exp (0 - max z (-z))) = l := by
  have key : ∀ e : ℝ, 0 ≤ e → ∃ l : ℝ, Ideal.log (1 + (e : EReal)) = l := fun e he => ⟨Real.log (1 + e), by
    rw [show (1 : EReal) + (e : EReal) = ((1 + e : ℝ) : EReal) from (EReal.coe_add 1 e).symm]
    exact if_neg (by linarith)⟩
  induction z using EReal.rec with
  | bot => simpa [Ideal.exp_bot] using key 0 le_rfl
  | top => simpa [Ideal.exp_bot] using key 0 le_rfl
  | coe r =>
    have h : (0 : EReal) - max (r : EReal) (-(r : EReal)) = ((-|r| : ℝ) : EReal) := by
      rw [zero_sub, abs_eq_max_neg, EReal.coe_neg, EReal.coe_strictMono.monotone.map_max, EReal.coe_neg]
    rw [h]
    exact key (Real.exp (-|r|)) (Real.exp_pos _).le

/-- The log-sigmoid as the softplus of the negation, negated. -/
theorem logsig_eq (z : EReal) :
    (-if -z ≠ -z then -z else max (-z) 0 + Ideal.log1p (Ideal.exp (-max (-z) (- -z)))) = logsig z := by
  rw [if_neg (not_not.mpr rfl), neg_neg, max_comm (-z) z]
  unfold logsig Ideal.log1p
  rw [zero_sub]
  obtain ⟨l, hl⟩ := log_real z
  rw [zero_sub] at hl
  rw [hl, EReal.neg_add (.inr (EReal.coe_ne_top l)) (.inr (EReal.coe_ne_bot l))]
  congr 1
  rcases le_total z 0 with h | h
  · rw [min_eq_left h, max_eq_left (EReal.neg_le_neg_iff.mp (by simpa using h)), neg_neg]
  · rw [min_eq_right h, max_eq_right (EReal.neg_le_neg_iff.mp (by simpa using h)), neg_zero]

theorem gate_at (b : Fin 8) (s : Fin 4096) (d : Fin 256) :
    val_main_v40 x0 x1 x2 x3 x4 (ix3 b s d) = Ideal.div (logsig (lowAt x0 x1 x2 x3 x4 b s d)) (word 0x41800000#32) := by
  pointwise [val_main_v40, val_main_v39, val_main_v38, val_main_call0_v1, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_cst_4]
  rw [low_at]
  exact congrArg (fun z => Ideal.div z (word 0x41800000#32)) (logsig_eq _)

end Cert.ProjReferenceIdeal.Rows
-- ==== Proof.ProjClaim.lean ====
/-
  The sequence projection's claim: the kernel's eight arrays and the reference's eight results are the same sums,
  block means and gate, element by element.
-/
module
public import proofs.«01_k».proof.Defs
public import proofs.«01_k».proof.Proof.Gen.ProjReferenceIdeal.Run
public import proofs.«01_k».proof.Proof.ProjArray
public import proofs.«01_k».proof.Proof.ProjRef
public import Idealize.ShloMosaic.Adequacy
public import Idealize.ShloMosaic.Init
public import Idealize.ShloMosaic.Lib.Quiescent

@[expose] public section
noncomputable section
namespace Cert.Proof
open Idealize.ShloMosaic Idealize.SL.Sem Cert.Merge

/-- The projection reference's frame. -/
theorem frame_proj_reference : quiescent_ProjReferenceIdeal := fun m ρ _ =>
  (θ_run Cert.ProjReferenceIdeal.defs _ _).mono (fun r h => ⟨fun c => (h c).2.2.2.2.2.2.2.2, sem_eq_zero_of_no_sems (by decide) r.2⟩)
    (Cert.ProjReferenceIdeal.Value.run (F := Ideal) m ρ)

/-- A batch entry, a token and a column name an element of a projected sequence. -/
theorem proj_idx {n : Nat} (i : (Shape.mk 3 ![8, 4096, n]).Idx) : ∃ (b : Fin 8) (s : Fin 4096) (k : Fin n), i = ix3 b s k :=
  ⟨i 0, i 1, i 2, funext fun a => by fin_cases a <;> rfl⟩

/-- A batch entry, a block and a column name an element of the block means. -/
theorem kmean_idx (i : (Shape.mk 4 ![8, 16, 1, 512]).Idx) : ∃ (b : Fin 8) (n : Fin 16) (k : Fin 512), i = ix4 b n (0 : Fin 1) k :=
  ⟨i 0, i 1, i 3, funext fun a => by
    match a with
    | ⟨0, _⟩ => rfl
    | ⟨1, _⟩ => rfl
    | ⟨2, _⟩ => exact Subsingleton.elim (α := Fin 1) _ _
    | ⟨3, _⟩ => rfl⟩

theorem algebraic_proj : algebraic_ProjKernelIdeal_ProjReferenceIdeal := by
  intro m ρ m' ρ' _ hagree
  refine ⟨_, _, _, _, _, _, _, _, Cert.ProjKernelIdeal.Value.run_blocks (F := Ideal) m ρ, ?_⟩
  refine (θ_run Cert.ProjReferenceIdeal.defs _ _).mono (fun _ h c => ⟨?_, ?_, ?_, ?_, ?_, ?_, ?_, ?_, (h c).2.2.2.2.2.2.2.2⟩)
    (Cert.ProjReferenceIdeal.Value.run (F := Ideal) m' ρ')
  all_goals obtain ⟨e0, e1, e2, e3, e4⟩ := hagree c
  · refine ((h c).1.trans (Cert.ProjReferenceIdeal.Read.val_main_v43_eq _ _ _)).trans ?_
    rw [e0, e1, e2, Cert.ProjKernelIdeal.Array.query_eq]
    funext i
    obtain ⟨b, s, k, rfl⟩ := proj_idx i
    exact Cert.ProjReferenceIdeal.Rows.query_at _ _ _ b s k
  · refine ((h c).2.1.trans (Cert.ProjReferenceIdeal.Read.val_main_v44_eq _ _ _)).trans ?_
    rw [e0, e1, e2, Cert.ProjKernelIdeal.Array.key_eq]
    funext i
    obtain ⟨b, s, k, rfl⟩ := proj_idx i
    exact Cert.ProjReferenceIdeal.Rows.key_at _ _ _ b s k
  · refine ((h c).2.2.1.trans (Cert.ProjReferenceIdeal.Read.val_main_v45_eq _ _ _)).trans ?_
    rw [e0, e1, e2, Cert.ProjKernelIdeal.Array.value_eq]
    funext i
    obtain ⟨b, s, k, rfl⟩ := proj_idx i
    exact Cert.ProjReferenceIdeal.Rows.value_at _ _ _ b s k
  · refine ((h c).2.2.2.1.trans (Cert.ProjReferenceIdeal.Read.val_main_v33_eq _ _ _)).trans ?_
    rw [e0, e1, e2, Cert.ProjKernelIdeal.Array.kmean_eq]
    funext i
    obtain ⟨b, s, k, rfl⟩ := kmean_idx i
    exact Cert.ProjReferenceIdeal.Rows.kmean_at _ _ _ b s k
  · refine ((h c).2.2.2.2.1.trans (Cert.ProjReferenceIdeal.Read.val_main_v21_eq _ _ _)).trans ?_
    rw [e0, e1, e2, Cert.ProjKernelIdeal.Array.gq_eq]
    funext i
    obtain ⟨b, s, k, rfl⟩ := proj_idx i
    exact Cert.ProjReferenceIdeal.Rows.gq_at _ _ _ b s k
  · refine ((h c).2.2.2.2.2.1.trans (Cert.ProjReferenceIdeal.Read.val_main_v22_eq _ _ _)).trans ?_
    rw [e0, e1, e2, Cert.ProjKernelIdeal.Array.gk_eq]
    funext i
    obtain ⟨b, s, k, rfl⟩ := proj_idx i
    exact Cert.ProjReferenceIdeal.Rows.gk_at _ _ _ b s k
  · refine ((h c).2.2.2.2.2.2.1.trans (Cert.ProjReferenceIdeal.Read.val_main_v46_eq _ _ _)).trans ?_
    rw [e0, e1, e2, Cert.ProjKernelIdeal.Array.gv_eq]
    funext i
    obtain ⟨b, s, k, rfl⟩ := proj_idx i
    exact Cert.ProjReferenceIdeal.Rows.gv_at _ _ _ b s k
  · refine ((h c).2.2.2.2.2.2.2.1.trans (Cert.ProjReferenceIdeal.Read.val_main_v40_eq _ _)).trans ?_
    rw [e0, e1, e2, e3, e4, Cert.ProjKernelIdeal.Array.gate_eq]
    funext i
    obtain ⟨b, s, k, rfl⟩ := proj_idx i
    exact Cert.ProjReferenceIdeal.Rows.gate_at _ _ _ _ _ b s k

end Cert.Proof
end
-- ==== Proof.GlaBlock.lean ====
/-
  One grid point of the gated linear attention, as a value. A point holds 512 tokens in eight chunks of 64 and four heads:
  for each head the state goes from chunk to chunk (`stV`), and each chunk's output rows come from the chunk itself and the
  state before it (`outV`). What the point stores is shown to be these, in its output tile and in its scratch.
-/
module
public import proofs.«01_k».proof.Proof.Gen.GlaKernelIdeal.Value
public import Idealize.ShloMosaic.Lib.Tactic
public import Idealize.ShloMosaic.Lib.Pointwise
public import Idealize.ShloMosaic.Lib.WritesUnit

@[expose] public section
set_option maxRecDepth 16384
noncomputable section
open Idealize.ShloMosaic Idealize.ShloMosaic.TcCoe Idealize.SL.Sem
namespace Cert.GlaKernelIdeal.Block
open Cert.GlaKernelIdeal Cert.GlaKernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem inb_rows (n : Nat) (hn : n < 8) : ∀ a, (![0, 64 * n, 0] : Fin 3 → Nat) a + S1x64x256.size a ≤ S1x512x256.size a := fun a => by
  match a with
  | ⟨0, _⟩ => show 0 + 1 ≤ 1; omega
  | ⟨1, _⟩ => show 64 * n + 64 ≤ 512; omega
  | ⟨2, _⟩ => show 0 + 256 ≤ 256; omega

theorem inb_vrows (n : Nat) (hn : n < 8) : ∀ a, (![0, 64 * n, 0] : Fin 3 → Nat) a + S1x64x512.size a ≤ S1x512x512.size a := fun a => by
  match a with
  | ⟨0, _⟩ => show 0 + 1 ≤ 1; omega
  | ⟨1, _⟩ => show 64 * n + 64 ≤ 512; omega
  | ⟨2, _⟩ => show 0 + 512 ≤ 512; omega

theorem inb_tile (n h : Nat) (hn : n < 8) (hh : h < 4) : ∀ a, (![0, 64 * n, 128 * h] : Fin 3 → Nat) a + S1x64x128.size a ≤ S1x512x512.size a := fun a => by
  match a with
  | ⟨0, _⟩ => show 0 + 1 ≤ 1; omega
  | ⟨1, _⟩ => show 64 * n + 64 ≤ 512; omega
  | ⟨2, _⟩ => show 128 * h + 128 ≤ 512; omega

theorem inb_head (h : Nat) (hh : h < 4) : ∀ a, (![h, 0, 0] : Fin 3 → Nat) a + S1x128x64.size a ≤ S4x128x64.size a := fun a => by
  match a with
  | ⟨0, _⟩ => show h + 1 ≤ 4; omega
  | ⟨1, _⟩ => show 0 + 128 ≤ 128; omega
  | ⟨2, _⟩ => show 0 + 64 ≤ 64; omega

theorem sl_row (h : Nat) (hh : h < 4) : S1x256.Slices ![0, 64 * h] S1x64 := ⟨rfl, fun a => by
  match a with
  | ⟨0, _⟩ => show 0 + 1 ≤ 1; omega
  | ⟨1, _⟩ => show 64 * h + 64 ≤ 256; omega⟩

theorem sl_cols (h : Nat) (hh : h < 4) : S64x256.Slices ![0, 64 * h] S64x64 := ⟨rfl, fun a => by
  match a with
  | ⟨0, _⟩ => show 0 + 64 ≤ 64; omega
  | ⟨1, _⟩ => show 64 * h + 64 ≤ 256; omega⟩

theorem sl_vcols (h : Nat) (hh : h < 4) : S64x512.Slices ![0, 128 * h] S64x128 := ⟨rfl, fun a => by
  match a with
  | ⟨0, _⟩ => show 0 + 64 ≤ 64; omega
  | ⟨1, _⟩ => show 128 * h + 128 ≤ 512; omega⟩

/-- The rows of chunk `n` of a block. -/
def rowsV (x : Vec F S1x512x256 .f32) (n : Nat) (hn : n < 8) : Vec F S1x64x256 .f32 := View.ld x (Rect.unit ![0, 64 * n, 0] S1x64x256.size (inb_rows n hn))
/-- The value rows of chunk `n`. -/
def valV (x : Vec F S1x512x512 .bf16) (n : Nat) (hn : n < 8) : FVec F S64x512 .bf16 := k0_pay19 (View.ld x (Rect.unit ![0, 64 * n, 0] S1x64x512.size (inb_vrows n hn)))

/-- One head's state after a chunk: the decayed state and the chunk's products. -/
def stepV (S : FVec F S128x64 .f32) (a : FVec F S1x256 .f32) (k : FVec F S64x256 .bf16) (v : FVec F S64x512 .bf16) (h : Nat) (hh : h < 4) : FVec F S128x64 .f32 :=
  addf (mulf (broadcastTo S128x64 (extractStridedSlice S1x64 ![0, 64 * h] a (sl_row h hh)) broadcasts_S1x64_S128x64) S)
    (matmul dot_S64x128_S64x64_S128x64_0_0_1_1_n_n none (extractStridedSlice S64x128 ![0, 128 * h] v (sl_vcols h hh))
      (extractStridedSlice S64x64 ![0, 64 * h] k (sl_cols h hh)) (constant S128x64 .f32 0x00000000#32))

/-- One head's output rows of a chunk before their norm. -/
def rawV (S : FVec F S128x64 .f32) (q k : FVec F S64x256 .bf16) (v : FVec F S64x512 .bf16) (h : Nat) (hh : h < 4) : FVec F S64x128 .f32 :=
  addf (matmul dot_S64x64_S64x128_S64x128_1_0_0_1_n_n none (truncf .bf16 (select k0_pay4
        (matmul dot_S64x64_S64x64_S64x64_1_1_0_0_n_n none (extractStridedSlice S64x64 ![0, 64 * h] q (sl_cols h hh))
          (extractStridedSlice S64x64 ![0, 64 * h] k (sl_cols h hh)) (constant S64x64 .f32 0x00000000#32))
        (broadcast S64x64 (Scalar.ofBits .f32 0x00000000#32))) bitsLt_bf16_f32)
      (extractStridedSlice S64x128 ![0, 128 * h] v (sl_vcols h hh)) (constant S64x128 .f32 0x00000000#32))
    (matmul dot_S64x64_S128x64_S64x128_1_1_0_0_n_n none (extractStridedSlice S64x64 ![0, 64 * h] q (sl_cols h hh))
      (truncf .bf16 S bitsLt_bf16_f32) (constant S64x128 .f32 0x00000000#32))

/-- The norm of a head's rows. -/
def normV (o : FVec F S64x128 .f32) (w : FVec F S1x128 .f32) : FVec F S1x64x128 .bf16 :=
  shapeCast S1x64x128 (truncf .bf16 (mulf (mulf o (broadcastTo S64x128 (rsqrt (addf (divf (shapeCast S64x1
    (multiReduction .add [1] S64 (mulf o o) 0x00000000#32 reduces_S64x128_S64 (.inl rfl) rfl) shapeCasts_S64_S64x1)
    (broadcast S64x1 (Scalar.ofBits .f32 0x43000000#32))) (broadcast S64x1 (Scalar.ofBits .f32 0x358637BD#32)))) broadcasts_S64x1_S64x128))
    (broadcastTo S64x128 w broadcasts_S1x128_S64x128)) bitsLt_bf16_f32) shapeCasts_S64x128_S1x64x128

/-- One head's state before chunk `n`, the scratch holding `z` before the point. -/
def stV (z : Vec F S4x128x64 .f32) (x1 : Vec F S1x512x256 .f32) (x2 : Vec F S1x512x512 .bf16) (x3 : Vec F S1x512x256 .f32) (h : Nat) (hh : h < 4) :
    (n : Nat) → n ≤ 8 → FVec F S128x64 .f32
  | 0, _ => shapeCast S128x64 (View.ld z (Rect.unit ![h, 0, 0] S1x128x64.size (inb_head h hh))) shapeCasts_S1x128x64_S128x64
  | n + 1, hn => stepV (stV z x1 x2 x3 h hh n (Nat.le_of_succ_le hn)) (k0_pay18 (k0_pay12 (rowsV x3 n hn)))
      (k0_pay17 (k0_pay11 (rowsV x3 n hn)) (k0_pay12 (rowsV x3 n hn)) (rowsV x1 n hn)) (valV x2 n hn) h hh

/-- One head's output rows of chunk `n`. -/
def outV (z : Vec F S4x128x64 .f32) (x0 x1 : Vec F S1x512x256 .f32) (x2 : Vec F S1x512x512 .bf16) (x3 : Vec F S1x512x256 .f32) (x4 : Vec F S1x128 .f32)
    (h : Nat) (hh : h < 4) (n : Nat) (hn : n < 8) : FVec F S1x64x128 .bf16 :=
  normV (rawV (stV z x1 x2 x3 h hh n (Nat.le_of_lt hn)) (k0_pay15 (k0_pay11 (rowsV x3 n hn)) (k0_pay13 (rowsV x0 n hn)))
    (k0_pay16 (k0_pay11 (rowsV x3 n hn)) (rowsV x1 n hn)) (valV x2 n hn) h hh) (k0_pay6 x4)

/-- The output tile's pieces, the last store first. -/
def pieces (z : Vec F S4x128x64 .f32) (x0 x1 : Vec F S1x512x256 .f32) (x2 : Vec F S1x512x512 .bf16) (x3 : Vec F S1x512x256 .f32) (x4 : Vec F S1x128 .f32) :
    List (View.Piece (Elt F) S1x512x512 .bf16) :=
  List.ofFn (n := 32) fun k => ⟨Rect.unit ![0, 64 * ((31 - k.val) / 4), 128 * ((31 - k.val) % 4)] S1x64x128.size (inb_tile _ _ (by omega) (by omega)),
    outV z x0 x1 x2 x3 x4 ((31 - k.val) % 4) (by omega) ((31 - k.val) / 4) (by omega)⟩

variable (c : Dev nD) (i : grid0.Coords) (a2 : Memref sig .tc .vmem S1x512x256 .f32) (h2 : a2.IsWhole) (a3 : Memref sig .tc .vmem S1x512x256 .f32) (h3 : a3.IsWhole)
  (a4 : Memref sig .tc .vmem S1x512x512 .bf16) (h4 : a4.IsWhole) (a5 : Memref sig .tc .vmem S1x512x256 .f32) (h5 : a5.IsWhole)
  (a6 : Memref sig .tc .vmem S1x128 .f32) (h6 : a6.IsWhole) (a7 : Memref sig .tc .vmem S1x512x512 .bf16) (h7 : a7.IsWhole)
  (a8 : Memref sig .tc .vmem S4x128x64 .f32) (h8 : a8.IsWhole)
  (x0 x1 : Vec F S1x512x256 .f32) (x2 : Vec F S1x512x512 .bf16) (x3 : Vec F S1x512x256 .f32) (x4 : Vec F S1x128 .f32)

/-- A scratch of zeros. -/
def zeros : Vec F S4x128x64 .f32 := k0_pay3

/-- The scratch's heads read back right after the whole of it is filled with zeros. -/
theorem load_filled (h : Nat) (inb0 inb) :
    View.readCov (Val := Elt F) a8.view [⟨Rect.unit (s := S4x128x64) ![0, 0, 0] S4x128x64.size inb0, k0_pay3 (F := F)⟩] (Rect.unit (s := S4x128x64) ![h, 0, 0] S1x128x64.size inb).toLoadRect
      = View.ld (zeros (F := F)) (Rect.unit (s := S4x128x64) ![h, 0, 0] S1x128x64.size inb) := by
  rw [View.readCov_eq_canon', View.canon_unit_zero hz3]
  rfl

set_option maxHeartbeats 800000 in
theorem out_B (hc : ¬cond0_0 i) (xs : Vec F S4x128x64 .f32) :
    out0_B_5 c i a2 h2 a3 h3 a4 h4 a5 h5 a6 h6 a7 h7 a8 h8 hc x0 x1 x2 x3 x4 xs = View.canon (pieces xs x0 x1 x2 x3 x4) := by
  unfold out0_B_5
  rw [View.read_writes_eq_canon _ _ _ (cover0_B_5 c i a2 h2 a3 h3 a4 h4 a5 h5 a6 h6 a7 h7 a8 h8 hc x0 x1 x2 x3 x4 xs)]
  refine congrArg _ ?_
  unfold kernelRun0_B
  dsimp only
  sl_unfold_words
  simp only [View.readAt_eq_ld, h2.read_unread, h3.read_unread, h4.read_unread, h5.read_unread, h6.read_unread, h8.read_unread,
    View.ld_unit_zero (S := S1x128) hz2]
  rfl

set_option maxHeartbeats 800000 in
theorem out_A (hc : cond0_0 i) :
    out0_A_5 c i a2 h2 a3 h3 a4 h4 a5 h5 a6 h6 a7 h7 a8 h8 hc x0 x1 x2 x3 x4 = View.canon (pieces zeros x0 x1 x2 x3 x4) := by
  unfold out0_A_5
  rw [View.read_writes_eq_canon _ _ _ (cover0_A_5 c i a2 h2 a3 h3 a4 h4 a5 h5 a6 h6 a7 h7 a8 h8 hc x0 x1 x2 x3 x4)]
  refine congrArg _ ?_
  unfold kernelRun0_A
  dsimp only
  sl_unfold_words
  simp only [View.readAt_eq_ld, h2.read_unread, h3.read_unread, h4.read_unread, h5.read_unread, h6.read_unread, h8.read_unread,
    View.ld_unit_zero (S := S1x128) hz2]
  generalize e0 : View.readCov (Val := Elt F) a8.view _ (Rect.unit (s := S4x128x64) ![0, 0, 0] S1x128x64.size inb_S4x128x64_S1x128x64_0_0_0).toLoadRect = X0
  generalize e1 : View.readCov (Val := Elt F) a8.view _ (Rect.unit (s := S4x128x64) ![1, 0, 0] S1x128x64.size inb_S4x128x64_S1x128x64_1_0_0).toLoadRect = X1
  generalize e2 : View.readCov (Val := Elt F) a8.view _ (Rect.unit (s := S4x128x64) ![2, 0, 0] S1x128x64.size inb_S4x128x64_S1x128x64_2_0_0).toLoadRect = X2
  generalize e3 : View.readCov (Val := Elt F) a8.view _ (Rect.unit (s := S4x128x64) ![3, 0, 0] S1x128x64.size inb_S4x128x64_S1x128x64_3_0_0).toLoadRect = X3
  rw [load_filled a8 0] at e0
  rw [load_filled a8 1] at e1
  rw [load_filled a8 2] at e2
  rw [load_filled a8 3] at e3
  subst e0 e1 e2 e3
  rfl

/-- A head of the scratch under a list of stores that begins with another head's. -/
theorem canon_other (h : Nat) (inb) (w : Vec F S1x128x64 .f32) (L : List (View.Piece (Elt F) S4x128x64 .f32)) (r : Fin 4) (e : Fin 128) (d : Fin 64)
    (hr : r.val ≠ h) :
    View.canon ((⟨Rect.unit (s := S4x128x64) ![h, 0, 0] S1x128x64.size inb, w⟩ : View.Piece (Elt F) S4x128x64 .f32) :: L) (ix3 r e d : S4x128x64.Idx)
      = View.canon L (ix3 r e d : S4x128x64.Idx) := by
  rw [View.canon_cons_of_not_mem]
  intro hm
  have := ((Rect.mem_set_unit (inb := inb)).mp hm) 0
  change h ≤ r.val ∧ r.val < h + 1 at this
  omega

/-- A head of the scratch under a list of stores that begins with its own. -/
theorem canon_own (h : Nat) (inb) (w : Vec F S1x128x64 .f32) (L : List (View.Piece (Elt F) S4x128x64 .f32)) (r : Fin 4) (e : Fin 128) (d : Fin 64)
    (hr : r.val = h) :
    View.canon ((⟨Rect.unit (s := S4x128x64) ![h, 0, 0] S1x128x64.size inb, w⟩ : View.Piece (Elt F) S4x128x64 .f32) :: L) (ix3 r e d : S4x128x64.Idx)
      = w (ix3 0 e d) := by
  have he : (ix3 r e d : S4x128x64.Idx) = (Rect.unit (s := S4x128x64) ![h, 0, 0] S1x128x64.size inb).emb (ix3 0 e d : S1x128x64.Idx) := by
    funext a
    apply Fin.ext
    match a with
    | ⟨0, _⟩ => show r.val = h + 1 * 0; omega
    | ⟨1, _⟩ => show e.val = 0 + 1 * e.val; omega
    | ⟨2, _⟩ => show d.val = 0 + 1 * d.val; omega
  rw [he, View.canon_cons_emb]

/-- The stores of the four heads' states, the last first. -/
def headPieces (z : Vec F S4x128x64 .f32) (x1 : Vec F S1x512x256 .f32) (x2 : Vec F S1x512x512 .bf16) (x3 : Vec F S1x512x256 .f32)
    (L : List (View.Piece (Elt F) S4x128x64 .f32)) : List (View.Piece (Elt F) S4x128x64 .f32) :=
  ⟨Rect.unit (s := S4x128x64) ![3, 0, 0] S1x128x64.size (inb_head 3 (by decide)), shapeCast S1x128x64 (stV z x1 x2 x3 3 (by decide) 8 (by decide)) shapeCasts_S128x64_S1x128x64⟩
    :: ⟨Rect.unit (s := S4x128x64) ![2, 0, 0] S1x128x64.size (inb_head 2 (by decide)), shapeCast S1x128x64 (stV z x1 x2 x3 2 (by decide) 8 (by decide)) shapeCasts_S128x64_S1x128x64⟩
    :: ⟨Rect.unit (s := S4x128x64) ![1, 0, 0] S1x128x64.size (inb_head 1 (by decide)), shapeCast S1x128x64 (stV z x1 x2 x3 1 (by decide) 8 (by decide)) shapeCasts_S128x64_S1x128x64⟩
    :: ⟨Rect.unit (s := S4x128x64) ![0, 0, 0] S1x128x64.size (inb_head 0 (by decide)), shapeCast S1x128x64 (stV z x1 x2 x3 0 (by decide) 8 (by decide)) shapeCasts_S128x64_S1x128x64⟩
    :: L

/-- The four heads' states as the last stores leave them. -/
theorem canon_heads (z : Vec F S4x128x64 .f32) (L : List (View.Piece (Elt F) S4x128x64 .f32)) (r : Fin 4) (e : Fin 128) (d : Fin 64) :
    View.canon (headPieces z x1 x2 x3 L) (ix3 r e d : S4x128x64.Idx)
      = shapeCast S1x128x64 (stV z x1 x2 x3 r.val r.isLt 8 (by decide)) shapeCasts_S128x64_S1x128x64 (ix3 0 e d) := by
  unfold headPieces
  by_cases h3 : r = 3
  · subst h3; exact canon_own _ _ _ _ _ _ _ rfl
  rw [canon_other 3 _ _ _ _ _ _ fun h => h3 (Fin.ext h)]
  by_cases h2 : r = 2
  · subst h2; exact canon_own _ _ _ _ _ _ _ rfl
  rw [canon_other 2 _ _ _ _ _ _ fun h => h2 (Fin.ext h)]
  by_cases h1 : r = 1
  · subst h1; exact canon_own _ _ _ _ _ _ _ rfl
  rw [canon_other 1 _ _ _ _ _ _ fun h => h1 (Fin.ext h)]
  have h0 : r = 0 := by omega
  subst h0
  exact canon_own _ _ _ _ _ _ _ rfl

set_option maxHeartbeats 800000 in
theorem stores_A (hc : cond0_0 i) :
    (kernelRun0_A c i a2 h2 a3 h3 a4 h4 a5 h5 a6 h6 a7 h7 a8 h8 hc x0 x1 x2 x3 x4).2.1
      = headPieces zeros x1 x2 x3 [⟨Rect.unit (s := S4x128x64) ![0, 0, 0] S4x128x64.size inb_S4x128x64_S4x128x64_0_0_0, k0_pay3⟩] := by
  unfold kernelRun0_A
  dsimp only
  sl_unfold_words
  simp only [View.readAt_eq_ld, h2.read_unread, h3.read_unread, h4.read_unread, h5.read_unread, h6.read_unread, h8.read_unread,
    View.ld_unit_zero (S := S1x128) hz2]
  generalize e0 : View.readCov (Val := Elt F) a8.view _ (Rect.unit (s := S4x128x64) ![0, 0, 0] S1x128x64.size inb_S4x128x64_S1x128x64_0_0_0).toLoadRect = X0
  generalize e1 : View.readCov (Val := Elt F) a8.view _ (Rect.unit (s := S4x128x64) ![1, 0, 0] S1x128x64.size inb_S4x128x64_S1x128x64_1_0_0).toLoadRect = X1
  generalize e2 : View.readCov (Val := Elt F) a8.view _ (Rect.unit (s := S4x128x64) ![2, 0, 0] S1x128x64.size inb_S4x128x64_S1x128x64_2_0_0).toLoadRect = X2
  generalize e3 : View.readCov (Val := Elt F) a8.view _ (Rect.unit (s := S4x128x64) ![3, 0, 0] S1x128x64.size inb_S4x128x64_S1x128x64_3_0_0).toLoadRect = X3
  rw [load_filled a8 0] at e0
  rw [load_filled a8 1] at e1
  rw [load_filled a8 2] at e2
  rw [load_filled a8 3] at e3
  subst e0 e1 e2 e3
  rfl

set_option maxHeartbeats 800000 in
theorem stores_B (hc : ¬cond0_0 i) (xs : Vec F S4x128x64 .f32) :
    (kernelRun0_B c i a2 h2 a3 h3 a4 h4 a5 h5 a6 h6 a7 h7 a8 h8 hc x0 x1 x2 x3 x4 xs).2.1 = headPieces xs x1 x2 x3 [] := by
  unfold kernelRun0_B
  dsimp only
  sl_unfold_words
  simp only [View.readAt_eq_ld, h2.read_unread, h3.read_unread, h4.read_unread, h5.read_unread, h6.read_unread, h8.read_unread,
    View.ld_unit_zero (S := S1x128) hz2]
  rfl

/-- What case A leaves in the scratch. -/
theorem scr_A (hc : cond0_0 i) (r : Fin 4) (e : Fin 128) (d : Fin 64) :
    sout0_A_0 c i a2 h2 a3 h3 a4 h4 a5 h5 a6 h6 a7 h7 a8 h8 hc x0 x1 x2 x3 x4 (ix3 r e d)
      = shapeCast S1x128x64 (stV zeros x1 x2 x3 r.val r.isLt 8 (by decide)) shapeCasts_S128x64_S1x128x64 (ix3 0 e d) := by
  unfold sout0_A_0
  rw [View.read_writes_eq_canon _ _ _ (scover0_A_0 c i a2 h2 a3 h3 a4 h4 a5 h5 a6 h6 a7 h7 a8 h8 hc x0 x1 x2 x3 x4), stores_A, canon_heads]

/-- What case B leaves in the scratch. -/
theorem scr_B (hc : ¬cond0_0 i) (xs : Vec F S4x128x64 .f32) (r : Fin 4) (e : Fin 128) (d : Fin 64) :
    sout0_B_0 c i a2 h2 a3 h3 a4 h4 a5 h5 a6 h6 a7 h7 a8 h8 hc x0 x1 x2 x3 x4 xs (ix3 r e d)
      = shapeCast S1x128x64 (stV xs x1 x2 x3 r.val r.isLt 8 (by decide)) shapeCasts_S128x64_S1x128x64 (ix3 0 e d) := by
  unfold sout0_B_0
  rw [View.read_writes_eq_canon _ _ _ (scover0_B_0 c i a2 h2 a3 h3 a4 h4 a5 h5 a6 h6 a7 h7 a8 h8 hc x0 x1 x2 x3 x4 xs), stores_B, canon_heads]

end Cert.GlaKernelIdeal.Block
-- ==== Proof.GlaSpec.lean ====
/-
  The gated linear attention of one head, chunk by chunk, in plain terms. A chunk has 64 tokens with queries, keys and gates of
  width 64 and values of width 128. `cum` sums the gates of a chunk up to a token, `next` is the state after a chunk, `raw` an
  output row before its norm, `norm` the norm.
-/
module
public import proofs.«01_k».proof.Proof.Spec

@[expose] public section
noncomputable section
open Idealize.ShloMosaic
namespace Cert.Gla
open Cert.Merge (word)

/-- The gates of a chunk summed up to token `i`. -/
def cum (g : Fin 64 → Fin 64 → EReal) (i d : Fin 64) : EReal := ∑ j, if j ≤ i then g j d else 0

/-- A query scaled and weighted by the gates up to its token. -/
def qIn (q g : Fin 64 → Fin 64 → EReal) (i d : Fin 64) : EReal := q i d * word 0x3E000000#32 * Ideal.exp (cum g i d)

/-- A key weighted by the gates of the tokens after it. -/
def kSt (k g : Fin 64 → Fin 64 → EReal) (j d : Fin 64) : EReal := k j d * Ideal.exp (cum g 63 d - cum g j d)

/-- How much token `i` takes from token `j` of its chunk. -/
def score (q k g : Fin 64 → Fin 64 → EReal) (i j : Fin 64) : EReal :=
  if j ≤ i then ∑ d, qIn q g i d * (k j d * Ideal.exp (0 - cum g j d)) else 0

/-- The state after a chunk. -/
def next (S : Fin 64 → Fin 128 → EReal) (k g : Fin 64 → Fin 64 → EReal) (v : Fin 64 → Fin 128 → EReal) (d : Fin 64) (e : Fin 128) : EReal :=
  Ideal.exp (cum g 63 d) * S d e + ∑ j, kSt k g j d * v j e

/-- An output row of a chunk, given the state before it. -/
def raw (S : Fin 64 → Fin 128 → EReal) (q k g : Fin 64 → Fin 64 → EReal) (v : Fin 64 → Fin 128 → EReal) (i : Fin 64) (e : Fin 128) : EReal :=
  (∑ j, score q k g i j * v j e) + ∑ d, qIn q g i d * S d e

/-- A row divided by its root mean square, with weights `w`. -/
def norm (o w : Fin 128 → EReal) (e : Fin 128) : EReal :=
  o e * Ideal.rsqrt (Ideal.div (∑ x, o x * o x) (word 0x43000000#32) + word 0x358637BD#32) * w e

/-- The state before chunk `n`. -/
def state (k g : ℕ → Fin 64 → Fin 64 → EReal) (v : ℕ → Fin 64 → Fin 128 → EReal) : ℕ → Fin 64 → Fin 128 → EReal
  | 0 => fun _ _ => 0
  | n + 1 => next (state k g v n) (k n) (g n) (v n)

/-- Columns `64 * h` on of a chunk's 64 tokens. -/
def chunk (x : (Shape.mk 3 ![8, 4096, 256]).Idx → EReal) (b : Fin 8) (h : Fin 4) (n : ℕ) (i d : Fin 64) : EReal :=
  x (ix3 b ⟨(64 * n + i.val) % 4096, Nat.mod_lt _ (by decide)⟩ ⟨64 * h.val + d.val, by omega⟩)

/-- Columns `128 * h` on of a chunk's 64 tokens. -/
def vchunk (x : (Shape.mk 3 ![8, 4096, 512]).Idx → EReal) (b : Fin 8) (h : Fin 4) (n : ℕ) (i : Fin 64) (e : Fin 128) : EReal :=
  x (ix3 b ⟨(64 * n + i.val) % 4096, Nat.mod_lt _ (by decide)⟩ ⟨128 * h.val + e.val, by omega⟩)

/-- Head `h` of the result at token `i` of chunk `n`. -/
def glaAt (q k g : (Shape.mk 3 ![8, 4096, 256]).Idx → EReal) (v : (Shape.mk 3 ![8, 4096, 512]).Idx → EReal) (w : (Shape.mk 1 ![128]).Idx → EReal)
    (b : Fin 8) (h : Fin 4) (n : ℕ) (i : Fin 64) (e : Fin 128) : EReal :=
  norm (raw (state (chunk k b h) (chunk g b h) (vchunk v b h) n) (chunk q b h n) (chunk k b h n) (chunk g b h n) (vchunk v b h n) i) (fun e => w (ix1 e)) e

/-- The exponential of a sum is the product of the exponentials, infinities included. -/
theorem exp_add (a c : EReal) : Ideal.exp (a + c) = Ideal.exp a * Ideal.exp c := by
  have hb : Ideal.exp ⊥ = 0 := rfl
  have ht : Ideal.exp ⊤ = ⊤ := rfl
  have hr (r : ℝ) : Ideal.exp (r : EReal) = ((Real.exp r : ℝ) : EReal) := rfl
  induction a with
  | bot => rw [EReal.bot_add, hb, zero_mul]
  | top =>
    induction c with
    | bot => rw [EReal.add_bot, hb, mul_zero]
    | top => rw [EReal.top_add_top, ht, EReal.top_mul_top]
    | coe r => rw [EReal.top_add_coe, ht, hr, EReal.top_mul_coe_of_pos (Real.exp_pos r)]
  | coe x =>
    induction c with
    | bot => rw [EReal.add_bot, hb, mul_zero]
    | top => rw [EReal.coe_add_top, ht, hr, EReal.coe_mul_top_of_pos (Real.exp_pos x)]
    | coe r => rw [← EReal.coe_add, hr, hr, hr, ← EReal.coe_mul, Real.exp_add]

/-- The score with the two exponentials as one of a difference. -/
theorem score_eq (q k g : Fin 64 → Fin 64 → EReal) (i j : Fin 64) (h : j ≤ i) :
    score q k g i j = ∑ d, q i d * word 0x3E000000#32 * Ideal.exp (cum g i d - cum g j d) * k j d := by
  unfold score
  rw [if_pos h]
  refine Finset.sum_congr rfl fun d _ => ?_
  unfold qIn
  rw [zero_sub, sub_eq_add_neg (cum g i d), exp_add, mul_comm (k j d), ← mul_assoc, ← mul_assoc]

end Cert.Gla
-- ==== Proof.GlaArray.lean ====
/-
  The gated linear attention's result array at one element. A grid point holds 512 tokens of one batch entry; the scratch
  carries the four heads' states from a point to the next one of the same entry.
-/
module
public import proofs.«01_k».proof.Proof.GlaBlock
public import proofs.«01_k».proof.Proof.GlaSpec
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
namespace Cert.GlaKernelIdeal.Array
open Cert.GlaKernelIdeal Cert.GlaKernelIdeal.Gen Cert.GlaKernelIdeal.Block Cert.Gla
open Cert.Merge (word)

/-! ## A point's vectors at one element -/

theorem mask_apply (i j : Fin 64) : k0_pay4 (ix2 i j) = if j ≤ i then 1#1 else 0#1 := by
  pointwise [k0_pay4]
  revert i j
  decide +kernel

theorem select_mask (i j : Fin 64) (a : EReal) : Scalar.select (k0_pay4 (ix2 i j)) a 0 = if j ≤ i then a else 0 := by
  rw [mask_apply]
  split_ifs <;> rfl

theorem rows_apply (x : Vec Ideal S1x512x256 .f32) (n : Nat) (hn : n < 8) (i : Fin 64) (c : Fin 256) :
    rowsV x n hn (ix3 0 i c) = x (ix3 0 ⟨64 * n + i.val, by omega⟩ c) := by
  pointwise [rowsV]

theorem sums_apply (x : Vec Ideal S1x512x256 .f32) (n : Nat) (hn : n < 8) (g : Fin 64 → Fin 64 → EReal) (h : Nat) (hh : h < 4)
    (hg : ∀ i d : Fin 64, x (ix3 0 ⟨64 * n + i.val, by omega⟩ ⟨64 * h + d.val, by omega⟩) = g i d) (i d : Fin 64) :
    k0_pay11 (rowsV x n hn) (ix2 i ⟨64 * h + d.val, by omega⟩) = cum g i d := by
  pointwise [k0_pay11, k0_pay5]
  unfold cum
  refine Finset.sum_congr rfl fun j _ => ?_
  rw [select_mask, rows_apply, hg]

theorem last_apply (x : Vec Ideal S1x512x256 .f32) (n : Nat) (hn : n < 8) (c : Fin 256) :
    k0_pay12 (rowsV x n hn) (ix2 0 c) = k0_pay11 (rowsV x n hn) (ix2 63 c) := by
  pointwise [k0_pay12]

theorem query_apply (G : FVec Ideal S64x256 .f32) (x : Vec Ideal S1x512x256 .f32) (n : Nat) (hn : n < 8) (i : Fin 64) (c : Fin 256) :
    k0_pay15 G (k0_pay13 (rowsV x n hn)) (ix2 i c) = x (ix3 0 ⟨64 * n + i.val, by omega⟩ c) * word 0x3E000000#32 * Ideal.exp (G (ix2 i c)) := by
  pointwise [k0_pay15, k0_pay13, rowsV]

theorem key_apply (G : FVec Ideal S64x256 .f32) (x : Vec Ideal S1x512x256 .f32) (n : Nat) (hn : n < 8) (i : Fin 64) (c : Fin 256) :
    k0_pay16 G (rowsV x n hn) (ix2 i c) = x (ix3 0 ⟨64 * n + i.val, by omega⟩ c) * Ideal.exp (0 - G (ix2 i c)) := by
  pointwise [k0_pay16, k0_pay14, rowsV]

theorem kept_apply (G : FVec Ideal S64x256 .f32) (L : FVec Ideal S1x256 .f32) (x : Vec Ideal S1x512x256 .f32) (n : Nat) (hn : n < 8) (i : Fin 64) (c : Fin 256) :
    k0_pay17 G L (rowsV x n hn) (ix2 i c) = x (ix3 0 ⟨64 * n + i.val, by omega⟩ c) * Ideal.exp (L (ix2 0 c) - G (ix2 i c)) := by
  pointwise [k0_pay17, k0_pay14, rowsV]

theorem decay_apply (L : FVec Ideal S1x256 .f32) (c : Fin 256) : k0_pay18 L (ix2 0 c) = Ideal.exp (L (ix2 0 c)) := by
  pointwise [k0_pay18]

theorem val_apply (x : Vec Ideal S1x512x512 .bf16) (n : Nat) (hn : n < 8) (i : Fin 64) (c : Fin 512) :
    valV x n hn (ix2 i c) = x (ix3 0 ⟨64 * n + i.val, by omega⟩ c) := by
  pointwise [valV, k0_pay19]

theorem step_apply (S : FVec Ideal S128x64 .f32) (a : FVec Ideal S1x256 .f32) (k : FVec Ideal S64x256 .bf16) (v : FVec Ideal S64x512 .bf16) (h : Nat)
    (hh : h < 4) (e : Fin 128) (d : Fin 64) :
    stepV S a k v h hh (ix2 e d) = (a (ix2 0 ⟨64 * h + d.val, by omega⟩) * S (ix2 e d)
      + ∑ x : Fin 64, v (ix2 x ⟨128 * h + e.val, by omega⟩) * k (ix2 x ⟨64 * h + d.val, by omega⟩) : EReal) := by
  pointwise [stepV]

theorem raw_apply (S : FVec Ideal S128x64 .f32) (q k : FVec Ideal S64x256 .bf16) (v : FVec Ideal S64x512 .bf16) (h : Nat) (hh : h < 4)
    (i : Fin 64) (e : Fin 128) :
    rawV S q k v h hh (ix2 i e) = ((∑ x : Fin 64, (if x ≤ i then (∑ y : Fin 64, q (ix2 i ⟨64 * h + y.val, by omega⟩) * k (ix2 x ⟨64 * h + y.val, by omega⟩) : EReal) else 0)
        * v (ix2 x ⟨128 * h + e.val, by omega⟩) : EReal)
      + ∑ x : Fin 64, q (ix2 i ⟨64 * h + x.val, by omega⟩) * S (ix2 e x) : EReal) := by
  pointwise [rawV]
  refine congrArg (· + _) (Finset.sum_congr rfl fun x _ => ?_)
  rw [select_mask]
  split_ifs
  · rfl
  · exact (zero_mul _).symm

theorem norm_apply (o : FVec Ideal S64x128 .f32) (w : FVec Ideal S1x128 .f32) (i : Fin 64) (e : Fin 128) :
    normV o w (ix3 0 i e) = norm (fun e => o (ix2 i e)) (fun e => w (ix2 0 e)) e := by
  pointwise [normV]
  rfl

theorem weight_apply (x4 : Vec Ideal S1x128 .f32) (e : Fin 128) : k0_pay6 x4 (ix2 0 e) = x4 (ix2 0 e) := by
  pointwise [k0_pay6]

theorem head_apply (y : FVec Ideal S1x128x64 .f32) (e : Fin 128) (d : Fin 64) :
    shapeCast S128x64 y shapeCasts_S1x128x64_S128x64 (ix2 e d) = y (ix3 0 e d) := by
  pointwise []

theorem first_apply (z : Vec Ideal S4x128x64 .f32) (h : Nat) (hh : h < 4) (e : Fin 128) (d : Fin 64) :
    shapeCast S128x64 (View.ld z (Rect.unit ![h, 0, 0] S1x128x64.size (inb_head h hh))) shapeCasts_S1x128x64_S128x64 (ix2 e d)
      = z (ix3 ⟨h, hh⟩ e d) := by
  refine (head_apply _ e d).trans (congrArg z (funext fun a => Fin.ext ?_))
  match a with
  | ⟨0, _⟩ => show h + 1 * 0 = h; omega
  | ⟨1, _⟩ => show 0 + 1 * e.val = e.val; omega
  | ⟨2, _⟩ => show 0 + 1 * d.val = d.val; omega

theorem last_head (y : FVec Ideal S128x64 .f32) (e : Fin 128) (d : Fin 64) :
    shapeCast S1x128x64 y shapeCasts_S128x64_S1x128x64 (ix3 0 e d) = y (ix2 e d) := by
  pointwise []

theorem zeros_apply (h : Fin 4) (e : Fin 128) (d : Fin 64) : zeros (F := Ideal) (ix3 h e d) = (0 : EReal) := by
  pointwise [zeros, k0_pay3]

section Point
variable (z : Vec Ideal S4x128x64 .f32) (x0 x1 : Vec Ideal S1x512x256 .f32) (x2 : Vec Ideal S1x512x512 .bf16) (x3 : Vec Ideal S1x512x256 .f32) (x4 : Vec Ideal S1x128 .f32)
  (q k g : ℕ → Fin 64 → Fin 64 → EReal) (v : ℕ → Fin 64 → Fin 128 → EReal) (N : ℕ) (h : Nat) (hh : h < 4)
  (hq : ∀ (n : Nat) (hn : n < 8) (i d : Fin 64), x0 (ix3 0 ⟨64 * n + i.val, by omega⟩ ⟨64 * h + d.val, by omega⟩) = q (N + n) i d)
  (hk : ∀ (n : Nat) (hn : n < 8) (i d : Fin 64), x1 (ix3 0 ⟨64 * n + i.val, by omega⟩ ⟨64 * h + d.val, by omega⟩) = k (N + n) i d)
  (hv : ∀ (n : Nat) (hn : n < 8) (i : Fin 64) (e : Fin 128), x2 (ix3 0 ⟨64 * n + i.val, by omega⟩ ⟨128 * h + e.val, by omega⟩) = v (N + n) i e)
  (hg : ∀ (n : Nat) (hn : n < 8) (i d : Fin 64), x3 (ix3 0 ⟨64 * n + i.val, by omega⟩ ⟨64 * h + d.val, by omega⟩) = g (N + n) i d)
  (hz : ∀ (e : Fin 128) (d : Fin 64), z (ix3 ⟨h, hh⟩ e d) = state k g v N d e)
include hk hv hg hz

/-- A head's state before a chunk of the point. -/
theorem st_apply (e : Fin 128) (d : Fin 64) : ∀ (n : Nat) (hn : n ≤ 8), stV z x1 x2 x3 h hh n hn (ix2 e d) = state k g v (N + n) d e
  | 0, _ => (first_apply z h hh e d).trans (hz e d)
  | n + 1, hn => by
    have ih := st_apply e d n (Nat.le_of_succ_le hn)
    unfold stV
    rw [step_apply, ih, decay_apply, last_apply, sums_apply x3 n hn _ h hh (hg n hn)]
    show _ = next (state k g v (N + n)) (k (N + n)) (g (N + n)) (v (N + n)) d e
    unfold next
    refine congrArg (_ + ·) (Finset.sum_congr rfl fun j _ => ?_)
    rw [kept_apply, val_apply, last_apply, sums_apply x3 n hn _ h hh (hg n hn), sums_apply x3 n hn _ h hh (hg n hn), hk n hn, hv n hn, mul_comm]
    rfl

include hq in
/-- A head's output rows of a chunk of the point. -/
theorem out_apply (n : Nat) (hn : n < 8) (i : Fin 64) (e : Fin 128) :
    outV z x0 x1 x2 x3 x4 h hh n hn (ix3 0 i e)
      = norm (raw (state k g v (N + n)) (q (N + n)) (k (N + n)) (g (N + n)) (v (N + n)) i) (fun e => x4 (ix2 0 e)) e := by
  unfold outV
  rw [norm_apply]
  refine congrArg₂ (fun o w => norm o w e) (funext fun e => ?_) (funext fun e => weight_apply x4 e)
  rw [raw_apply]
  unfold raw score qIn
  simp only [query_apply, key_apply, val_apply, st_apply z x1 x2 x3 k g v N h hh hk hv hg hz, sums_apply x3 n hn _ h hh (hg n hn), hq n hn, hk n hn, hv n hn]

end Point

/-! ## The result array -/
variable (m : (ℓ : Loc nD τ sig) → Buf (Elt Ideal) ℓ) (c : Dev nD)

theorem index_facts : ∀ t : Fin cfg0.N,
    (win0_0.index t = ![t.val / 8, t.val % 8, 0] ∧ win0_1.index t = ![t.val / 8, t.val % 8, 0] ∧ win0_2.index t = ![t.val / 8, t.val % 8, 0])
    ∧ (win0_3.index t = ![t.val / 8, t.val % 8, 0] ∧ win0_4.index t = ![0, 0]) :=
  (by decide +kernel : ∀ t : Fin grid0.N, _)

theorem pt_lt (t : Fin cfg0.N) : t.val < 64 := lt_of_lt_of_eq t.isLt N_0

/-- A point's batch entry. -/
abbrev bat (t : Fin cfg0.N) : Fin 8 := ⟨t.val / 8, by have := pt_lt t; omega⟩
/-- The token of row `r` of a point's tile. -/
abbrev tok (t : Fin cfg0.N) (r : Fin 512) : Fin 4096 := ⟨512 * (t.val % 8) + r.val, by omega⟩

theorem blk0 (t : Fin cfg0.N) (r : Fin 512) (k : Fin 256) :
    iblk m c 0 t (ix3 0 r k) = m ((c : Thread nD τ).loc main_arg0) (ix3 (bat t) (tok t r) k) := by
  obtain ⟨⟨e, -⟩, -⟩ := index_facts t
  blk_simp [iblk]
  rw [V_main_arg0]
  refine congrArg _ (funext fun a => Fin.ext ?_)
  match a with
  | ⟨0, _⟩ => blk_simp [e]; exact Nat.add_zero _
  | ⟨1, _⟩ => blk_simp [e]; show t.val % 8 * 512 + r.val = 512 * (t.val % 8) + r.val; omega
  | ⟨2, _⟩ => blk_simp [e]

theorem blk1 (t : Fin cfg0.N) (r : Fin 512) (k : Fin 256) :
    iblk m c 1 t (ix3 0 r k) = m ((c : Thread nD τ).loc main_arg1) (ix3 (bat t) (tok t r) k) := by
  obtain ⟨⟨-, e, -⟩, -⟩ := index_facts t
  blk_simp [iblk]
  rw [V_main_arg1]
  refine congrArg _ (funext fun a => Fin.ext ?_)
  match a with
  | ⟨0, _⟩ => blk_simp [e]; exact Nat.add_zero _
  | ⟨1, _⟩ => blk_simp [e]; show t.val % 8 * 512 + r.val = 512 * (t.val % 8) + r.val; omega
  | ⟨2, _⟩ => blk_simp [e]

theorem blk2 (t : Fin cfg0.N) (r : Fin 512) (k : Fin 512) :
    iblk m c 2 t (ix3 0 r k) = m ((c : Thread nD τ).loc main_arg2) (ix3 (bat t) (tok t r) k) := by
  obtain ⟨⟨-, -, e⟩, -⟩ := index_facts t
  blk_simp [iblk]
  rw [V_main_arg2]
  refine congrArg _ (funext fun a => Fin.ext ?_)
  match a with
  | ⟨0, _⟩ => blk_simp [e]; exact Nat.add_zero _
  | ⟨1, _⟩ => blk_simp [e]; show t.val % 8 * 512 + r.val = 512 * (t.val % 8) + r.val; omega
  | ⟨2, _⟩ => blk_simp [e]

theorem blk3 (t : Fin cfg0.N) (r : Fin 512) (k : Fin 256) :
    iblk m c 3 t (ix3 0 r k) = m ((c : Thread nD τ).loc main_arg3) (ix3 (bat t) (tok t r) k) := by
  obtain ⟨-, e, -⟩ := index_facts t
  blk_simp [iblk]
  rw [V_main_arg3]
  refine congrArg _ (funext fun a => Fin.ext ?_)
  match a with
  | ⟨0, _⟩ => blk_simp [e]; exact Nat.add_zero _
  | ⟨1, _⟩ => blk_simp [e]; show t.val % 8 * 512 + r.val = 512 * (t.val % 8) + r.val; omega
  | ⟨2, _⟩ => blk_simp [e]

theorem blk4 (t : Fin cfg0.N) (k : Fin 128) :
    iblk m c 4 t (ix2 0 k) = m ((c : Thread nD τ).loc main_arg4) (ix1 k) := by
  obtain ⟨-, -, e⟩ := index_facts t
  have h : iblk m c 4 t (ix2 0 k) = V m c main_v0 (ix2 0 k) := by
    blk_simp [iblk]
    refine congrArg _ (funext fun a => Fin.ext ?_)
    match a with
    | ⟨0, _⟩ => blk_simp [e]
    | ⟨1, _⟩ => blk_simp [e]
  rw [h]
  unfold V
  after_reads_at

/-- Row `i` of chunk `n` of a point's tile is row `i` of the sequence's chunk `8 * (t % 8) + n`. -/
theorem chunk_at (x : (Shape.mk 3 ![8, 4096, 256]).Idx → EReal) (t : Fin cfg0.N) (h : Fin 4) (n : Nat) (hn : n < 8) (i d : Fin 64) :
    x (ix3 (bat t) (tok t ⟨64 * n + i.val, by omega⟩) ⟨64 * h.val + d.val, by omega⟩) = chunk x (bat t) h (8 * (t.val % 8) + n) i d :=
  congrArg (fun s => x (ix3 (bat t) s ⟨64 * h.val + d.val, by omega⟩)) (Fin.ext (by
    show 512 * (t.val % 8) + (64 * n + i.val) = (64 * (8 * (t.val % 8) + n) + i.val) % 4096
    omega))

theorem vchunk_at (x : (Shape.mk 3 ![8, 4096, 512]).Idx → EReal) (t : Fin cfg0.N) (h : Fin 4) (n : Nat) (hn : n < 8) (i : Fin 64) (e : Fin 128) :
    x (ix3 (bat t) (tok t ⟨64 * n + i.val, by omega⟩) ⟨128 * h.val + e.val, by omega⟩) = vchunk x (bat t) h (8 * (t.val % 8) + n) i e :=
  congrArg (fun s => x (ix3 (bat t) s ⟨128 * h.val + e.val, by omega⟩)) (Fin.ext (by
    show 512 * (t.val % 8) + (64 * n + i.val) = (64 * (8 * (t.val % 8) + n) + i.val) % 4096
    omega))

/-- The state of head `h` of entry `b` before chunk `n`, from the arguments in memory. -/
abbrev stAt (b : Fin 8) (h : Fin 4) (n : ℕ) : Fin 64 → Fin 128 → EReal :=
  state (chunk (m ((c : Thread nD τ).loc main_arg1)) b h) (chunk (m ((c : Thread nD τ).loc main_arg3)) b h) (vchunk (m ((c : Thread nD τ).loc main_arg2)) b h) n

/-- A head's state after a point, given the scratch before it. -/
theorem kept_at (t : Fin cfg0.N) (z : Vec Ideal S4x128x64 .f32) (hz : ∀ (h : Fin 4) (e : Fin 128) (d : Fin 64), z (ix3 h e d) = stAt m c (bat t) h (8 * (t.val % 8)) d e)
    (h : Fin 4) (e : Fin 128) (d : Fin 64) :
    shapeCast S1x128x64 (stV z (iblk m c 1 t) (iblk m c 2 t) (iblk m c 3 t) h.val h.isLt 8 (by decide)) shapeCasts_S128x64_S1x128x64 (ix3 0 e d)
      = stAt m c (bat t) h (8 * (t.val % 8) + 8) d e := by
  rw [last_head]
  exact st_apply z _ _ _ _ _ _ _ h.val h.isLt (fun n hn i d => (blk1 m c t _ _).trans (chunk_at _ t h n hn i d))
    (fun n hn i e => (blk2 m c t _ _).trans (vchunk_at _ t h n hn i e)) (fun n hn i d => (blk3 m c t _ _).trans (chunk_at _ t h n hn i d))
    (fun e d => hz h e d) e d 8 (by decide)

/-- What the scratch holds after a point. -/
theorem scratch_at : ∀ (n : ℕ) (hn : n < cfg0.N) (h : Fin 4) (e : Fin 128) (d : Fin 64),
    (outsAt0 m c n hn).2 (ix3 h e d) = stAt m c (bat ⟨n, hn⟩) h (8 * (n % 8) + 8) d e := by
  intro n
  induction n with
  | zero =>
    intro hn h e d
    rw [outsAt0_A m c ⟨0, hn⟩ rfl]
    dsimp only
    rw [scr_A]
    exact kept_at m c ⟨0, hn⟩ zeros (fun h e d => zeros_apply h e d) h e d
  | succ n ih =>
    intro hn h e d
    by_cases h0 : (n + 1) % 8 = 0
    · rw [outsAt0_A m c ⟨n + 1, hn⟩ h0]
      dsimp only
      rw [scr_A]
      refine kept_at m c ⟨n + 1, hn⟩ zeros (fun h e d => ?_) h e d
      rw [zeros_apply]
      show _ = stAt m c _ h (8 * ((n + 1) % 8)) d e
      rw [h0]
      rfl
    · rw [outsAt0_B m c ⟨n + 1, hn⟩ h0]
      dsimp only
      rw [scr_B]
      refine kept_at m c ⟨n + 1, hn⟩ _ (fun h e d => ?_) h e d
      refine (ih (by omega) h e d).trans ?_
      refine congrArg₂ (fun b n => stAt m c b h n d e) (Fin.ext ?_) ?_
      · show n / 8 = (n + 1) / 8
        omega
      · show 8 * (n % 8) + 8 = 8 * ((n + 1) % 8)
        omega

theorem glaAt_congr (q k g v w) (b : Fin 8) {h h' : Fin 4} {n n' : ℕ} {i i' : Fin 64} {e e' : Fin 128} (hh : h.val = h'.val) (hn : n = n')
    (hi : i.val = i'.val) (he : e.val = e'.val) : glaAt q k g v w b h n i e = glaAt q k g v w b h' n' i' e' := by
  rw [Fin.ext hh, hn, Fin.ext hi, Fin.ext he]

/-- The result from the arguments in memory. -/
abbrev resAt (b : Fin 8) (h : Fin 4) (n : ℕ) (i : Fin 64) (e : Fin 128) : EReal :=
  glaAt (m ((c : Thread nD τ).loc main_arg0)) (m ((c : Thread nD τ).loc main_arg1)) (m ((c : Thread nD τ).loc main_arg3)) (m ((c : Thread nD τ).loc main_arg2))
    (m ((c : Thread nD τ).loc main_arg4)) b h n i e

/-- The output tile of a point, given the scratch before it. -/
theorem tile_at (t : Fin cfg0.N) (z : Vec Ideal S4x128x64 .f32) (hz : ∀ (h : Fin 4) (e : Fin 128) (d : Fin 64), z (ix3 h e d) = stAt m c (bat t) h (8 * (t.val % 8)) d e)
    (r j : Fin 512) :
    View.canon (pieces z (iblk m c 0 t) (iblk m c 1 t) (iblk m c 2 t) (iblk m c 3 t) (iblk m c 4 t)) (ix3 0 r j : S1x512x512.Idx)
      = resAt m c (bat t) ⟨j.val / 128, by omega⟩ (8 * (t.val % 8) + r.val / 64) ⟨r.val % 64, by omega⟩ ⟨j.val % 128, by omega⟩ := by
  unfold pieces
  refine View.canon_ofFn_unit_eq_of_forall (S := S1x512x512) _ _ _ _ _ _ ⟨⟨31 - (4 * (r.val / 64) + j.val / 128), by omega⟩, fun a => ?_⟩ fun k => ?_
  · match a with
    | ⟨0, _⟩ => exact ⟨Nat.le_refl 0, Nat.lt_succ_self 0⟩
    | ⟨1, _⟩ =>
      show 64 * ((31 - (31 - (4 * (r.val / 64) + j.val / 128))) / 4) ≤ r.val ∧ r.val < 64 * ((31 - (31 - (4 * (r.val / 64) + j.val / 128))) / 4) + 64
      omega
    | ⟨2, _⟩ =>
      show 128 * ((31 - (31 - (4 * (r.val / 64) + j.val / 128))) % 4) ≤ j.val ∧ j.val < 128 * ((31 - (31 - (4 * (r.val / 64) + j.val / 128))) % 4) + 128
      omega
  · intro x hx
    obtain ⟨i, e, rfl⟩ : ∃ (i : Fin 64) (e : Fin 128), x = ix3 (0 : Fin 1) i e := ⟨x 1, x 2, funext fun a => by
      match a with
      | ⟨0, _⟩ => exact Subsingleton.elim (α := Fin 1) _ _
      | ⟨1, _⟩ => rfl
      | ⟨2, _⟩ => rfl⟩
    have h1 : r.val = 64 * ((31 - k.val) / 4) + i.val := hx 1
    have h2 : j.val = 128 * ((31 - k.val) % 4) + e.val := hx 2
    have hlt : (31 - k.val) % 4 < 4 := Nat.mod_lt _ (by decide)
    have hnt : (31 - k.val) / 4 < 8 := by omega
    refine (out_apply z _ _ _ _ _ _ _ _ _ _ _ hlt (fun n hn i d => (blk0 m c t _ _).trans (chunk_at _ t ⟨_, hlt⟩ n hn i d))
      (fun n hn i d => (blk1 m c t _ _).trans (chunk_at _ t ⟨_, hlt⟩ n hn i d)) (fun n hn i e => (blk2 m c t _ _).trans (vchunk_at _ t ⟨_, hlt⟩ n hn i e))
      (fun n hn i d => (blk3 m c t _ _).trans (chunk_at _ t ⟨_, hlt⟩ n hn i d)) (fun e d => hz ⟨_, hlt⟩ e d) _ hnt i e).trans ?_
    simp only [blk4]
    refine glaAt_congr _ _ _ _ _ _ ?_ ?_ ?_ ?_
    · show (31 - k.val) % 4 = j.val / 128
      omega
    · show 8 * (t.val % 8) + (31 - k.val) / 4 = 8 * (t.val % 8) + r.val / 64
      omega
    · show i.val = r.val % 64
      omega
    · show e.val = j.val % 128
      omega

/-- What a point leaves in its output tile. -/
theorem out_at (t : Fin cfg0.N) (r j : Fin 512) :
    (outsAt0 m c t.val t.isLt).1 (ix3 0 r j)
      = resAt m c (bat t) ⟨j.val / 128, by omega⟩ (8 * (t.val % 8) + r.val / 64) ⟨r.val % 64, by omega⟩ ⟨j.val % 128, by omega⟩ := by
  by_cases h : t.val % 8 = 0
  · rw [outsAt0_A m c t h]
    dsimp only
    rw [out_A]
    refine tile_at m c t _ (fun h' e d => ?_) r j
    rw [zeros_apply, h]
    rfl
  · rw [outsAt0_B m c t h]
    dsimp only
    rw [out_B]
    refine tile_at m c t _ (fun h' e d => ?_) r j
    refine (scratch_at m c (t.val - 1) (by have := t.isLt; omega) h' e d).trans ?_
    refine congrArg₂ (fun b n => stAt m c b h' n d e) (Fin.ext ?_) ?_
    · show (t.val - 1) / 8 = t.val / 8
      omega
    · show 8 * ((t.val - 1) % 8) + 8 = 8 * (t.val % 8)
      omega

theorem outs_congr {n n' : ℕ} (e : n = n') (h : n < cfg0.N) (h' : n' < cfg0.N) : outsAt0 m c n h = outsAt0 m c n' h' := by
  subst e; rfl

/-- The result array at one element. -/
theorem result_at (b : Fin 8) (s : Fin 4096) (j : Fin 512) :
    Cert.GlaKernelIdeal.Value.G5 m c (ix3 b s j) = resAt m c b ⟨j.val / 128, by omega⟩ (s.val / 64) ⟨s.val % 64, by omega⟩ ⟨j.val % 128, by omega⟩ := by
  have hp : Cert.GlaKernelIdeal.Value.pt5Of (ix3 b s j) = 8 * b.val + s.val / 512 := by
    show 8 * (b.val / 1 - 0) + 1 * (s.val / 512 - 0) + 1 * (j.val / 512 - 0) = _
    omega
  have hlt : 8 * b.val + s.val / 512 < cfg0.N := lt_of_lt_of_eq (by omega) N_0.symm
  unfold Cert.GlaKernelIdeal.Value.G5
  rw [dif_pos (by rw [hp]; exact hlt), ← Cert.GlaKernelIdeal.Value.outsAt0_sweep m c _ (by rw [hp]; exact hlt)]
  have h := out_at m c ⟨8 * b.val + s.val / 512, hlt⟩ ⟨s.val % 512, by omega⟩ j
  have eb : bat ⟨8 * b.val + s.val / 512, hlt⟩ = b := Fin.ext (by show (8 * b.val + s.val / 512) / 8 = b.val; omega)
  have el : Cert.GlaKernelIdeal.Value.loc5Of (ix3 b s j) = ix3 0 ⟨s.val % 512, by omega⟩ j := by
    funext a
    match a with
    | ⟨0, _⟩ => exact Fin.ext (by show b.val % 1 = 0; omega)
    | ⟨1, _⟩ => rfl
    | ⟨2, _⟩ => exact Fin.ext (by show j.val % 512 = j.val; omega)
  rw [eb] at h
  rw [el, outs_congr m c hp _ hlt, h]
  refine glaAt_congr _ _ _ _ _ _ rfl ?_ ?_ rfl
  · show 8 * ((8 * b.val + s.val / 512) % 8) + s.val % 512 / 64 = s.val / 64
    omega
  · show s.val % 512 % 64 = s.val % 64
    omega

end Cert.GlaKernelIdeal.Array
-- ==== Proof.GlaRun.lean ====
/-
  The loop of the gated linear attention's reference as a recursion: the values it carries after `n` trips are `carried n`,
  one `step` after another from `init`, and the run's result is `R_main_v67` of the values after the last trip.
-/
module
public import proofs.«01_k».proof.Proof.Gen.GlaReferenceIdeal.Run
public import proofs.«01_k».proof.Proof.Gen.GlaReferenceIdeal.Step

@[expose] public section
set_option maxRecDepth 16384
noncomputable section
open Idealize.ShloMosaic Idealize.ShloMosaic.TcCoe Idealize.SL.Sem Idealize.ShloMosaic.StableHlo
namespace Cert.GlaReferenceIdeal.Loop
open Cert.GlaReferenceIdeal Cert.GlaReferenceIdeal.Gen Cert.GlaReferenceIdeal.Value Cert.GlaReferenceIdeal.Step
variable {F : FTy → Type} [FloatOps F]

/-- The loop's values as a valuation of the buffers has them. -/
def valuesOf (V : Valuation τ sig (Elt F)) : State F :=
  { main_v50_6 := V (Proc.devRef .tc main_v50_6), main_v50_7 := V (Proc.devRef .tc main_v50_7), main_v50_0 := V (Proc.devRef .tc main_v50_0),
    main_v50_1 := V (Proc.devRef .tc main_v50_1), main_v50_2 := V (Proc.devRef .tc main_v50_2), main_v50_3 := V (Proc.devRef .tc main_v50_3),
    main_v50_4 := V (Proc.devRef .tc main_v50_4) }

theorem state_eq {s t : State F} (h6 : s.main_v50_6 = t.main_v50_6) (h7 : s.main_v50_7 = t.main_v50_7) (h0 : s.main_v50_0 = t.main_v50_0)
    (h1 : s.main_v50_1 = t.main_v50_1) (h2 : s.main_v50_2 = t.main_v50_2) (h3 : s.main_v50_3 = t.main_v50_3) (h4 : s.main_v50_4 = t.main_v50_4) : s = t := by
  cases s; cases t; simp only at h6 h7 h0 h1 h2 h3 h4; subst h6 h7 h0 h1 h2 h3 h4; rfl

theorem trip_state (V : Valuation τ sig (Elt F)) (n : ℕ) (h : V (Proc.devRef .tc main_v50_5) = constantI S_ 32 (BitVec.ofNat 32 n)) :
    Value.step_main_v50_6 V = b35 n (valuesOf V) := by
  unfold Value.step_main_v50_6
  rw [h]
  rfl

theorem trip_out (V : Valuation τ sig (Elt F)) (n : ℕ) (h : V (Proc.devRef .tc main_v50_5) = constantI S_ 32 (BitVec.ofNat 32 n)) :
    Value.step_main_v50_7 V = b41 n (valuesOf V) := by
  unfold Value.step_main_v50_7
  rw [h]
  rfl

theorem trip_count (V : Valuation τ sig (Elt F)) (n : ℕ) (h : V (Proc.devRef .tc main_v50_5) = constantI S_ 32 (BitVec.ofNat 32 n)) :
    step_main_v50_5 V = constantI S_ 32 (BitVec.ofNat 32 (n + 1)) := by
  unfold step_main_v50_5
  rw [h]
  funext i
  show BitVec.ofNat 32 n + 1#32 = BitVec.ofNat 32 (n + 1)
  rw [BitVec.ofNat_add]

theorem trip (V : Valuation τ sig (Elt F)) (n : ℕ) (h : V (Proc.devRef .tc main_v50_5) = constantI S_ 32 (BitVec.ofNat 32 n)) :
    valuesOf (STEP V) = step n (valuesOf V) :=
  state_eq ((STEP_main_v50_6 V).trans (trip_state V n h)) ((STEP_main_v50_7 V).trans (trip_out V n h)) (STEP_main_v50_0 V) (STEP_main_v50_1 V)
    (STEP_main_v50_2 V) (STEP_main_v50_3 V) (STEP_main_v50_4 V)

variable (m : (ℓ : Loc nD τ sig) → Buf (Elt F) ℓ) (c : Dev nD)

/-- The loop's values after `n` trips. -/
def carried : ℕ → State F
  | 0 => init (m ((c.tc : Thread nD τ).loc main_arg0)) (m ((c.tc : Thread nD τ).loc main_arg1)) (m ((c.tc : Thread nD τ).loc main_arg2)) (m ((c.tc : Thread nD τ).loc main_arg3))
  | n + 1 => step n (carried n)

set_option maxHeartbeats 1000000 in
theorem entry_values : valuesOf (entryContents preI m c) = carried m c 0 := by
  apply state_eq <;> (simp only [valuesOf, entryContents, afterL_cons, afterL_nil]; after_reads_simp) <;> rfl

set_option maxHeartbeats 1000000 in
theorem entry_count : (entryContents preI m c) (Proc.devRef .tc main_v50_5) = constantI S_ 32 (BitVec.ofNat 32 0) := by
  (simp only [entryContents, afterL_cons, afterL_nil]; after_reads_simp) <;> rfl

theorem after_trips : ∀ n, valuesOf (STEP^[n] (entryContents preI m c)) = carried m c n
    ∧ (STEP^[n] (entryContents preI m c)) (Proc.devRef .tc main_v50_5) = constantI S_ 32 (BitVec.ofNat 32 n)
  | 0 => ⟨entry_values m c, entry_count m c⟩
  | n + 1 => by
    obtain ⟨hv, hn⟩ := after_trips n
    rw [Function.iterate_succ_apply']
    refine ⟨?_, (STEP_main_v50_5 _).trans (trip_count _ n hn)⟩
    rw [trip _ n hn, hv, carried]

/-- The result of the operations after the loop. -/
theorem result_eq : out_main_v67 (STEP^[64] (entryContents preI m c)) = R_main_v67 (carried m c 64) (m ((c.tc : Thread nD τ).loc main_arg4)) := by
  have h := (after_trips m c 64).1
  have h4 := iter_main_arg4 m c 64
  generalize STEP^[64] (entryContents preI m c) = V at h h4 ⊢
  rw [← h, ← h4]
  rfl

end Cert.GlaReferenceIdeal.Loop
-- ==== Proof.GlaRef.lean ====
/-
  The gated linear attention's reference at one element: what its loop carries, and its result, in the plain terms of the
  specification.
-/
module
public import proofs.«01_k».proof.Proof.Gen.GlaReferenceIdeal.Step
public import proofs.«01_k».proof.Proof.GlaRun
public import proofs.«01_k».proof.Proof.GlaSpec
public import proofs.«01_k».proof.Proof.Softmax
public import Idealize.ShloMosaic.Lib.Pointwise
public import Idealize.ShloMosaic.Lib.DynamicIndex
public import Idealize.ShloMosaic.Lib.WordCmp
public import Idealize.ShloMosaic.PureOps.Ideal.Laws

@[expose] public section
set_option maxRecDepth 16384
noncomputable section
open Idealize.ShloMosaic Idealize.ShloMosaic.TcCoe Idealize.SL.Sem
namespace Cert.GlaReferenceIdeal.Rows
open Cert.GlaReferenceIdeal Cert.GlaReferenceIdeal.Gen Cert.GlaReferenceIdeal.Step Cert.Gla Cert.Merge

/-! ## The running sum -/

/-- A window that ends at `i`, its positions below the first element left out, is the elements up to `i`. -/
theorem window_sum (x : Fin 64 → EReal) (i : Fin 64) :
    (∑ w : Fin 64, if h : 63 ≤ i.val + w.val then x ⟨i.val + w.val - 63, by omega⟩ else 0) = ∑ j, if j ≤ i then x j else 0 := by
  rw [← Equiv.sum_comp (Equiv.addRight (⟨63 - i.val, by omega⟩ : Fin 64))]
  refine Finset.sum_congr rfl fun j _ => ?_
  have hw : (Equiv.addRight (⟨63 - i.val, by omega⟩ : Fin 64) j).val = (j.val + (63 - i.val)) % 64 := rfl
  by_cases hj : j ≤ i
  · have hj' : j.val ≤ i.val := hj
    rw [if_pos hj, dif_pos (by rw [hw]; omega)]
    refine congrArg x (Fin.ext ?_)
    show i.val + (Equiv.addRight (⟨63 - i.val, by omega⟩ : Fin 64) j).val - 63 = j.val
    rw [hw]
    omega
  · have hj' : ¬ j.val ≤ i.val := hj
    rw [if_neg hj, dif_neg (by rw [hw]; omega)]

/-- The positions of the running sum's window. -/
def positions : (⟨5, ![1, 1, 1, 64, 1]⟩ : Shape).Idx ≃ Fin 64 where
  toFun w := w 3
  invFun k := ix5 (0 : Fin 1) (0 : Fin 1) (0 : Fin 1) k (0 : Fin 1)
  left_inv w := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv k := rfl

theorem foldl_add {ι : Type} (f : ι → EReal) : ∀ (l : List ι) (v : EReal), l.foldl (fun r n => r + f n) v = v + (l.map f).sum
  | [], v => (add_zero v).symm
  | a :: l, v => by rw [List.foldl_cons, foldl_add f l, List.map_cons, List.sum_cons, add_assoc]

theorem cumsum_at (x : FVec Ideal S8x4x64x64x64 .f32) (z : FVec Ideal S_ .f32) (hz : z (Shape.Idx.first h_S_) = (0 : EReal)) (b : Fin 8) (h : Fin 4) (n i d : Fin 64) :
    Host.reduceWindowAdd ![1, 1, 1, 64, 1] ![1, 1, 1, 1, 1] ![0, 0, 0, 63, 0] ![0, 0, 0, 0, 0] x z
        reduceWindows_S8x4x64x64x64_S8x4x64x64x64_w1s1p0_0_w1s1p0_0_w1s1p0_0_w64s1p63_0_w1s1p0_0 h_S_ (ix5 b h n i d)
      = ∑ j : Fin 64, if j ≤ i then x (ix5 b h n j d) else (0 : EReal) := by
  rw [← window_sum (fun j => x (ix5 b h n j d)) i]
  show Host.reduceWindow (s := S8x4x64x64x64) (t := S8x4x64x64x64) (· + ·) ![1, 1, 1, 64, 1] ![1, 1, 1, 1, 1] ![0, 0, 0, 63, 0] ![0, 0, 0, 0, 0] x
    (fun _ : (⟨0, ![]⟩ : Shape).Idx => z (Shape.Idx.first h_S_)) reduceWindows_S8x4x64x64x64_S8x4x64x64x64_w1s1p0_0_w1s1p0_0_w1s1p0_0_w64s1p63_0_w1s1p0_0
    (by decide) (ix5 b h n i d) = _
  rw [hz]
  unfold Host.reduceWindow
  dsimp only
  refine (foldl_add _ _ _).trans ?_
  rw [zero_add, ← Fin.sum_univ_def]
  refine Fintype.sum_equiv ((⟨5, ![1, 1, 1, 64, 1]⟩ : Shape).rowMajor.symm.trans positions) _ _ fun w => ?_
  rw [Equiv.trans_apply]
  obtain ⟨k, hw⟩ : ∃ k, k = positions ((⟨5, ![1, 1, 1, 64, 1]⟩ : Shape).rowMajor.symm w) := ⟨_, rfl⟩
  rw [← hw]
  have h3 : ∀ a : Fin 5, ((⟨5, ![1, 1, 1, 64, 1]⟩ : Shape).rowMajor.symm w a).val = (positions.symm k a).val := fun a =>
    congrArg (fun y => (y a).val) (positions.symm_apply_eq.2 hw).symm
  by_cases hk : 63 ≤ i.val + k.val
  · rw [dif_pos hk, dif_pos]
    · refine congrArg x (funext fun a => Fin.ext ?_)
      match a with
      | ⟨0, _⟩ => show b.val * 1 + _ - 0 = b.val; rw [h3]; show b.val * 1 + 0 - 0 = b.val; omega
      | ⟨1, _⟩ => show h.val * 1 + _ - 0 = h.val; rw [h3]; show h.val * 1 + 0 - 0 = h.val; omega
      | ⟨2, _⟩ => show n.val * 1 + _ - 0 = n.val; rw [h3]; show n.val * 1 + 0 - 0 = n.val; omega
      | ⟨3, _⟩ => show i.val * 1 + _ - 63 = i.val + k.val - 63; rw [h3]; show i.val * 1 + k.val - 63 = _; omega
      | ⟨4, _⟩ => show d.val * 1 + _ - 0 = d.val; rw [h3]; show d.val * 1 + 0 - 0 = d.val; omega
    · intro a
      match a with
      | ⟨0, _⟩ => show 0 ≤ b.val * 1 + _ ∧ b.val * 1 + _ - 0 < 8; rw [h3]; show 0 ≤ b.val * 1 + 0 ∧ b.val * 1 + 0 - 0 < 8; omega
      | ⟨1, _⟩ => show 0 ≤ h.val * 1 + _ ∧ h.val * 1 + _ - 0 < 4; rw [h3]; show 0 ≤ h.val * 1 + 0 ∧ h.val * 1 + 0 - 0 < 4; omega
      | ⟨2, _⟩ => show 0 ≤ n.val * 1 + _ ∧ n.val * 1 + _ - 0 < 64; rw [h3]; show 0 ≤ n.val * 1 + 0 ∧ n.val * 1 + 0 - 0 < 64; omega
      | ⟨3, _⟩ => show 63 ≤ i.val * 1 + _ ∧ i.val * 1 + _ - 63 < 64; rw [h3]; show 63 ≤ i.val * 1 + k.val ∧ i.val * 1 + k.val - 63 < 64; omega
      | ⟨4, _⟩ => show 0 ≤ d.val * 1 + _ ∧ d.val * 1 + _ - 0 < 64; rw [h3]; show 0 ≤ d.val * 1 + 0 ∧ d.val * 1 + 0 - 0 < 64; omega
  · rw [dif_neg hk, dif_neg]
    intro hin
    have h0 := (hin 3).1
    change 63 ≤ i.val * 1 + _ at h0
    rw [h3] at h0
    change 63 ≤ i.val * 1 + k.val at h0
    omega

/-! ## What the loop is handed -/

variable (x0 x1 : (⟨S8x4096x256, .f32⟩ : BufTy).Contents (Elt Ideal)) (x2 : (⟨S8x4096x512, .bf16⟩ : BufTy).Contents (Elt Ideal))
  (x3 : (⟨S8x4096x256, .f32⟩ : BufTy).Contents (Elt Ideal)) (b : Fin 8) (h : Fin 4) (n : Fin 64)

theorem chunk_at (x : (⟨S8x4096x256, .f32⟩ : BufTy).Contents (Elt Ideal)) (i d : Fin 64) :
    x (ix3 b ⟨n.val * 64 + i.val, by omega⟩ ⟨h.val * 64 + d.val, by omega⟩) = chunk x b h n.val i d :=
  congrArg₂ (fun s d => x (ix3 b s d)) (Fin.ext (by show n.val * 64 + i.val = (64 * n.val + i.val) % 4096; omega))
    (Fin.ext (by show h.val * 64 + d.val = 64 * h.val + d.val; omega))

theorem heads_q (i d : Fin 64) : A_main_v1 x0 x1 x2 x3 (ix5 b h n i d) = chunk x0 b h n.val i d := by
  pointwise [A_main_v0, A_main_v1]
  exact chunk_at b h n x0 i d

theorem heads_k (i d : Fin 64) : A_main_v5 x0 x1 x2 x3 (ix5 b h n i d) = chunk x1 b h n.val i d := by
  pointwise [A_main_v4, A_main_v5]
  exact chunk_at b h n x1 i d

theorem heads_g (i d : Fin 64) : A_main_v10 x0 x1 x2 x3 (ix5 b h n i d) = chunk x3 b h n.val i d := by
  pointwise [A_main_v9, A_main_v10]
  exact chunk_at b h n x3 i d

theorem heads_v (i : Fin 64) (e : Fin 128) : A_main_v8 x0 x1 x2 x3 (ix5 b h n i e) = vchunk x2 b h n.val i e := by
  pointwise [A_main_v6, A_main_v7, A_main_v8]
  exact congrArg₂ (fun s d => x2 (ix3 b s d)) (Fin.ext (by show n.val * 64 + i.val = (64 * n.val + i.val) % 4096; omega))
    (Fin.ext (by show h.val * 128 + e.val = 128 * h.val + e.val; omega))

theorem scaled_at (i d : Fin 64) : A_main_v3 x0 x1 x2 x3 (ix5 b h n i d) = chunk x0 b h n.val i d * word 0x3E000000#32 := by
  pointwise [A_main_v3, K_main_v2, K_main_cst]
  rw [heads_q]

theorem cum_at (i d : Fin 64) : A_main_v11 x0 x1 x2 x3 (ix5 b h n i d) = cum (chunk x3 b h n.val) i d := by
  unfold A_main_v11
  rw [cumsum_at _ _ (by pointwise [K_main_call0_call0_v0, K_main_call0_call0_cst])]
  simp only [heads_g]
  rfl

theorem mask_at (i j d : Fin 64) : K_main_call1_v1 (F := Ideal) (ix6 b h n i j d) = if j ≤ i then 1#1 else 0#1 := by
  pointwise [K_main_call1_v1, K_main_v18, K_main_v17, K_main_v16, K_main_v15, K_main_v14, K_main_v13, K_main_v12]
  revert i j
  decide

theorem weight_at (i j d : Fin 64) :
    A_main_v25 x0 x1 x2 x3 (ix6 b h n i j d) = if j ≤ i then Ideal.exp (cum (chunk x3 b h n.val) i d - cum (chunk x3 b h n.val) j d) else 0 := by
  pointwise [A_main_v25, A_main_v24, A_main_v23, A_main_v22, A_main_v21, A_main_v20, A_main_v19, K_main_call1_v2, K_main_call1_v0, K_main_cst_0]
  rw [mask_at, cum_at, cum_at]
  split_ifs
  · rfl
  · exact congrArg Ideal.exp word_low

theorem term_at (i j d : Fin 64) :
    A_main_v31 x0 x1 x2 x3 (ix6 b h n i j d)
      = chunk x0 b h n.val i d * word 0x3E000000#32
        * (if j ≤ i then Ideal.exp (cum (chunk x3 b h n.val) i d - cum (chunk x3 b h n.val) j d) else 0) * chunk x1 b h n.val j d := by
  pointwise [A_main_v31, A_main_v30, A_main_v29, A_main_v28, A_main_v27, A_main_v26]
  rw [scaled_at, weight_at, heads_k]

theorem sum_last (x : FVec Ideal S8x4x64x64x64x64 .f32) (i j : Fin 64) :
    Host.reduceAdd x (K_main_cst_1 (F := Ideal)) reducesTo_S8x4x64x64x64x64_S8x4x64x64x64_d5 h_S_ (ix5 b h n i j) = ∑ d : Fin 64, x (ix6 b h n i j d) := by
  have hr : S8x4x64x64x64x64.Reduces [5] S8x4x64x64x64 := by decide
  refine (Ideal.hostReduceAdd_single reducesTo_S8x4x64x64x64x64_S8x4x64x64x64_d5 hr x _ _).trans ?_
  rw [show K_main_cst_1 (F := Ideal) (Shape.Idx.first h_S_) = (0 : EReal) from Ideal.ofBits_zero_f32, zero_add]
  refine Finset.sum_congr rfl fun d _ => congrArg x (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

theorem score_at (i j : Fin 64) :
    A_main_v32 x0 x1 x2 x3 (ix5 b h n i j) = score (chunk x0 b h n.val) (chunk x1 b h n.val) (chunk x3 b h n.val) i j := by
  unfold A_main_v32
  rw [sum_last]
  simp only [term_at]
  by_cases hj : j ≤ i
  · rw [score_eq _ _ _ _ _ hj]
    simp only [if_pos hj]
  · unfold score
    simp only [if_neg hj, mul_zero, zero_mul, Finset.sum_const_zero]

theorem intra_at (i : Fin 64) (e : Fin 128) :
    A_main_v43 x0 x1 x2 x3 (ix5 n b h i e)
      = ∑ j, score (chunk x0 b h n.val) (chunk x1 b h n.val) (chunk x3 b h n.val) i j * vchunk x2 b h n.val j e := by
  pointwise [A_main_v43, A_main_v33]
  simp only [score_at, heads_v]

theorem query_at (i d : Fin 64) : A_main_v44 x0 x1 x2 x3 (ix5 n b h i d) = qIn (chunk x0 b h n.val) (chunk x3 b h n.val) i d := by
  pointwise [A_main_v44, A_main_v36, A_main_v35]
  rw [scaled_at, cum_at]
  rfl

theorem key_at (j d : Fin 64) : A_main_v45 x0 x1 x2 x3 (ix5 n b h j d) = kSt (chunk x1 b h n.val) (chunk x3 b h n.val) j d := by
  pointwise [A_main_v45, A_main_v40, A_main_v39, A_main_v38, A_main_v37, A_main_v34]
  rw [heads_k, cum_at, cum_at]
  rfl

theorem value_at (j : Fin 64) (e : Fin 128) : A_main_v46 x0 x1 x2 x3 (ix5 n b h j e) = vchunk x2 b h n.val j e := by
  pointwise [A_main_v46]
  exact heads_v x0 x1 x2 x3 b h n j e

theorem decay_at (d : Fin 64) : A_main_v47 x0 x1 x2 x3 (ix4 n b h d) = Ideal.exp (cum (chunk x3 b h n.val) 63 d) := by
  pointwise [A_main_v47, A_main_v42, A_main_v41, A_main_v34]
  rw [cum_at]

/-! ## The loop -/

theorem start5 (n : ℕ) (hn : n < 64) (a : Fin 5) :
    ((![(constantI S_ 32 (BitVec.ofNat 32 n) : (⟨S_, .i32⟩ : BufTy).Contents (Elt Ideal)), constantI S_ 32 0#32, constantI S_ 32 0#32, constantI S_ 32 0#32,
      constantI S_ 32 0#32] : Fin 5 → (⟨S_, .i32⟩ : BufTy).Contents (Elt Ideal)) a (Shape.Idx.first h_S_)).toInt = ((![n, 0, 0, 0, 0] : Fin 5 → ℕ) a : Int) := by
  match a with
  | ⟨0, _⟩ => exact toInt_ofNat_of_lt (by omega)
  | ⟨1, _⟩ => rfl
  | ⟨2, _⟩ => rfl
  | ⟨3, _⟩ => rfl
  | ⟨4, _⟩ => rfl

theorem start4 (n : ℕ) (hn : n < 64) (a : Fin 4) :
    ((![(constantI S_ 32 (BitVec.ofNat 32 n) : (⟨S_, .i32⟩ : BufTy).Contents (Elt Ideal)), constantI S_ 32 0#32, constantI S_ 32 0#32, constantI S_ 32 0#32]
      : Fin 4 → (⟨S_, .i32⟩ : BufTy).Contents (Elt Ideal)) a (Shape.Idx.first h_S_)).toInt = ((![n, 0, 0, 0] : Fin 4 → ℕ) a : Int) := by
  match a with
  | ⟨0, _⟩ => exact toInt_ofNat_of_lt (by omega)
  | ⟨1, _⟩ => rfl
  | ⟨2, _⟩ => rfl
  | ⟨3, _⟩ => rfl

theorem fits_wide (n : ℕ) (hn : n < 64) : S64x8x4x64x128.Slices ![n, 0, 0, 0, 0] S1x8x4x64x128 := ⟨rfl, fun a => by
  match a with
  | ⟨0, _⟩ => show n + 1 ≤ 64; omega
  | ⟨1, _⟩ => exact Nat.le_refl 8
  | ⟨2, _⟩ => exact Nat.le_refl 4
  | ⟨3, _⟩ => exact Nat.le_refl 64
  | ⟨4, _⟩ => exact Nat.le_refl 128⟩

theorem fits_narrow (n : ℕ) (hn : n < 64) : S64x8x4x64x64.Slices ![n, 0, 0, 0, 0] S1x8x4x64x64 := ⟨rfl, fun a => by
  match a with
  | ⟨0, _⟩ => show n + 1 ≤ 64; omega
  | ⟨1, _⟩ => exact Nat.le_refl 8
  | ⟨2, _⟩ => exact Nat.le_refl 4
  | ⟨3, _⟩ => exact Nat.le_refl 64
  | ⟨4, _⟩ => exact Nat.le_refl 64⟩

theorem fits_row (n : ℕ) (hn : n < 64) : S64x8x4x64.Slices ![n, 0, 0, 0] S1x8x4x64 := ⟨rfl, fun a => by
  match a with
  | ⟨0, _⟩ => show n + 1 ≤ 64; omega
  | ⟨1, _⟩ => exact Nat.le_refl 8
  | ⟨2, _⟩ => exact Nat.le_refl 4
  | ⟨3, _⟩ => exact Nat.le_refl 64⟩

section Trip
variable (t : ℕ) (ht : t < 64) (s : State Ideal)
include ht

theorem b5_at (i : Fin 64) (e : Fin 128) : b5 t s (ix4 b h i e) = s.main_v50_0 (ix5 ⟨t, ht⟩ b h i e) := by
  unfold b5 b4
  rw [Host.dynamicSlice_eq_extractStridedSlice _ _ _ ![t, 0, 0, 0, 0] _ (fits_wide t ht) (start5 t ht)]
  pointwise []

theorem b11_at (i d : Fin 64) : b11 t s (ix4 b h i d) = s.main_v50_1 (ix5 ⟨t, ht⟩ b h i d) := by
  unfold b11 b10
  rw [Host.dynamicSlice_eq_extractStridedSlice _ _ _ ![t, 0, 0, 0, 0] _ (fits_narrow t ht) (start5 t ht)]
  pointwise []

theorem b17_at (j d : Fin 64) : b17 t s (ix4 b h j d) = s.main_v50_2 (ix5 ⟨t, ht⟩ b h j d) := by
  unfold b17 b16
  rw [Host.dynamicSlice_eq_extractStridedSlice _ _ _ ![t, 0, 0, 0, 0] _ (fits_narrow t ht) (start5 t ht)]
  pointwise []

theorem b23_at (j : Fin 64) (e : Fin 128) : b23 t s (ix4 b h j e) = s.main_v50_3 (ix5 ⟨t, ht⟩ b h j e) := by
  unfold b23 b22
  rw [Host.dynamicSlice_eq_extractStridedSlice _ _ _ ![t, 0, 0, 0, 0] _ (fits_wide t ht) (start5 t ht)]
  pointwise []

theorem b28_at (d : Fin 64) : b28 t s (ix3 b h d) = s.main_v50_4 (ix4 ⟨t, ht⟩ b h d) := by
  unfold b28 b27
  rw [Host.dynamicSlice_eq_extractStridedSlice _ _ _ ![t, 0, 0, 0] _ (fits_row t ht) (start4 t ht)]
  pointwise []

theorem b30_at (i : Fin 64) (e : Fin 128) :
    b30 t s (ix4 b h i e) = s.main_v50_0 (ix5 ⟨t, ht⟩ b h i e) + ∑ d : Fin 64, s.main_v50_1 (ix5 ⟨t, ht⟩ b h i d) * s.main_v50_6 (ix4 b h d e) := by
  pointwise [b30, b29]
  simp only [b5_at b h t ht, b11_at b h t ht]

theorem b35_at (d : Fin 64) (e : Fin 128) :
    b35 t s (ix4 b h d e) = s.main_v50_4 (ix4 ⟨t, ht⟩ b h d) * s.main_v50_6 (ix4 b h d e)
      + ∑ j : Fin 64, s.main_v50_2 (ix5 ⟨t, ht⟩ b h j d) * s.main_v50_3 (ix5 ⟨t, ht⟩ b h j e) := by
  pointwise [b35, b34, b33, b32, b31]
  simp only [b17_at b h t ht, b23_at b h t ht, b28_at b h t ht]

theorem b41_at (i : Fin 64) (e : Fin 128) : b41 t s (ix5 n b h i e) = if n.val = t then b30 t s (ix4 b h i e) else s.main_v50_7 (ix5 n b h i e) := by
  unfold b41
  rw [WordCmp.dynamicUpdateSlice_eq_update _ _ _ _ ![t, 0, 0, 0, 0] (fits_wide t ht) (start5 t ht)]
  unfold updateSlice
  by_cases hn : n.val = t
  · rw [if_pos hn, dif_pos]
    · have hr : b36 t s (ix5 (0 : Fin 1) b h i e) = b30 t s (ix4 b h i e) := by
        unfold b36
        generalize b30 t s = y
        pointwise []
      refine Eq.trans (congrArg (b36 t s) (funext fun a => Fin.ext ?_)) hr
      match a with
      | ⟨0, _⟩ => show n.val - t = 0; omega
      | ⟨1, _⟩ => rfl
      | ⟨2, _⟩ => rfl
      | ⟨3, _⟩ => rfl
      | ⟨4, _⟩ => rfl
    · intro a
      match a with
      | ⟨0, _⟩ => show t ≤ n.val ∧ n.val < t + 1; omega
      | ⟨1, _⟩ => show 0 ≤ b.val ∧ b.val < 0 + 8; omega
      | ⟨2, _⟩ => show 0 ≤ h.val ∧ h.val < 0 + 4; omega
      | ⟨3, _⟩ => show 0 ≤ i.val ∧ i.val < 0 + 64; omega
      | ⟨4, _⟩ => show 0 ≤ e.val ∧ e.val < 0 + 128; omega
  · rw [if_neg hn, dif_neg]
    intro hin
    have h0 := hin 0
    change t ≤ n.val ∧ n.val < t + 1 at h0
    omega

end Trip

/-- The result, from the rows. -/
theorem result_apply (s : State Ideal) (w : (⟨S128, .f32⟩ : BufTy).Contents (Elt Ideal)) (t : Fin 4096) (j : Fin 512) :
    R_main_v67 s w (ix3 b t j)
      = norm (fun e => s.main_v50_7 (ix5 ⟨t.val / 64, by omega⟩ b ⟨j.val / 128, by omega⟩ ⟨t.val % 64, by omega⟩ e)) (fun e => w (ix1 e)) ⟨j.val % 128, by omega⟩ := by
  unfold R_main_v67
  generalize s.main_v50_7 = y
  pointwise []
  rfl

section Run
variable (m : (ℓ : Loc nD τ sig) → Buf (Elt Ideal) ℓ) (c : Dev nD)
open Cert.GlaReferenceIdeal.Loop

abbrev aq := m ((c.tc : Thread nD τ).loc main_arg0)
abbrev ak := m ((c.tc : Thread nD τ).loc main_arg1)
abbrev av := m ((c.tc : Thread nD τ).loc main_arg2)
abbrev ag := m ((c.tc : Thread nD τ).loc main_arg3)

/-- What no trip changes. -/
theorem kept (t : ℕ) : (carried m c t).main_v50_0 = A_main_v43 (aq m c) (ak m c) (av m c) (ag m c)
    ∧ (carried m c t).main_v50_1 = A_main_v44 (aq m c) (ak m c) (av m c) (ag m c)
    ∧ (carried m c t).main_v50_2 = A_main_v45 (aq m c) (ak m c) (av m c) (ag m c)
    ∧ (carried m c t).main_v50_3 = A_main_v46 (aq m c) (ak m c) (av m c) (ag m c)
    ∧ (carried m c t).main_v50_4 = A_main_v47 (aq m c) (ak m c) (av m c) (ag m c) := by
  induction t with
  | zero => exact ⟨rfl, rfl, rfl, rfl, rfl⟩
  | succ t ih => exact ih

/-- The state before a trip. -/
theorem state_at : ∀ (t : ℕ) (_ : t ≤ 64) (d : Fin 64) (e : Fin 128),
    (carried m c t).main_v50_6 (ix4 b h d e) = state (chunk (ak m c) b h) (chunk (ag m c) b h) (vchunk (av m c) b h) t d e := by
  intro t
  induction t with
  | zero =>
    intro _ d e
    show K_main_v48 (F := Ideal) (ix4 b h d e) = 0
    pointwise [K_main_v48, K_main_cst_2]
  | succ t ih =>
    intro ht d e
    obtain ⟨-, -, h2, h3, h4⟩ := kept m c t
    show b35 t (carried m c t) (ix4 b h d e) = next _ _ _ _ d e
    rw [b35_at b h t (by omega), ih (by omega), h2, h3, h4, decay_at]
    simp only [key_at, value_at]
    rfl

/-- The output rows made by the trips so far. -/
theorem rows_at : ∀ (t : ℕ) (_ : t ≤ 64) (_ : n.val < t) (i : Fin 64) (e : Fin 128),
    (carried m c t).main_v50_7 (ix5 n b h i e)
      = raw (state (chunk (ak m c) b h) (chunk (ag m c) b h) (vchunk (av m c) b h) n.val) (chunk (aq m c) b h n.val) (chunk (ak m c) b h n.val)
          (chunk (ag m c) b h n.val) (vchunk (av m c) b h n.val) i e := by
  intro t
  induction t with
  | zero => intro _ hn; exact absurd hn (Nat.not_lt_zero _)
  | succ t ih =>
    intro ht hn i e
    show b41 t (carried m c t) (ix5 n b h i e) = _
    rw [b41_at b h n t (by omega)]
    by_cases hnt : n.val = t
    · obtain ⟨h0, h1, -⟩ := kept m c t
      subst hnt
      rw [if_pos rfl, b30_at b h n.val n.isLt, h0, h1]
      show A_main_v43 _ _ _ _ (ix5 n b h i e) + ∑ d : Fin 64, A_main_v44 _ _ _ _ (ix5 n b h i d) * _ = _
      rw [intra_at]
      simp only [query_at, state_at b h m c n.val (by omega)]
      rfl
    · rw [if_neg hnt]
      exact ih (by omega) (by omega) i e

/-- The result the run leaves, at one element. -/
theorem result_at (t : Fin 4096) (j : Fin 512) :
    R_main_v67 (carried m c 64) (m ((c.tc : Thread nD τ).loc main_arg4)) (ix3 b t j)
      = glaAt (aq m c) (ak m c) (ag m c) (av m c) (m ((c.tc : Thread nD τ).loc main_arg4)) b ⟨j.val / 128, by omega⟩ (t.val / 64) ⟨t.val % 64, by omega⟩
          ⟨j.val % 128, by omega⟩ := by
  rw [result_apply]
  unfold glaAt
  refine congrArg (fun o => norm o _ _) (funext fun e => ?_)
  exact rows_at b _ ⟨t.val / 64, by omega⟩ m c 64 (Nat.le_refl _) (by show t.val / 64 < 64; omega) _ e

end Run

end Cert.GlaReferenceIdeal.Rows
-- ==== Proof.GlaClaim.lean ====
/-
  The gated linear attention's claim: the kernel's array and the reference's result are the attention of the arguments, head
  by head and chunk by chunk, element by element.
-/
module
public import proofs.«01_k».proof.Defs
public import proofs.«01_k».proof.Proof.Gen.GlaReferenceIdeal.Run
public import proofs.«01_k».proof.Proof.GlaArray
public import proofs.«01_k».proof.Proof.GlaRef
public import Idealize.ShloMosaic.Adequacy
public import Idealize.ShloMosaic.Init
public import Idealize.ShloMosaic.Lib.Quiescent

@[expose] public section
noncomputable section
namespace Cert.Proof
open Idealize.ShloMosaic Idealize.SL.Sem Cert.Merge

/-- The gated linear attention reference's frame. -/
theorem frame_gla_reference : quiescent_GlaReferenceIdeal := fun m ρ _ =>
  (θ_run Cert.GlaReferenceIdeal.defs _ _).mono (fun r h => ⟨fun c => (h c).2, sem_eq_zero_of_no_sems (by decide) r.2⟩)
    (Cert.GlaReferenceIdeal.Value.run (F := Ideal) m ρ)

theorem algebraic_gla : algebraic_GlaKernelIdeal_GlaReferenceIdeal := by
  intro m ρ m' ρ' _ hagree
  refine ⟨_, Cert.GlaKernelIdeal.Value.run (F := Ideal) m ρ, ?_⟩
  refine (θ_run Cert.GlaReferenceIdeal.defs _ _).mono (fun _ h c => ⟨?_, (h c).2⟩) (Cert.GlaReferenceIdeal.Value.run (F := Ideal) m' ρ')
  obtain ⟨e0, e1, e2, e3, e4⟩ := hagree c
  refine ((h c).1.trans (Cert.GlaReferenceIdeal.Loop.result_eq m' c)).trans ?_
  funext i
  obtain ⟨b, s, j, rfl⟩ : ∃ (b : Fin 8) (s : Fin 4096) (j : Fin 512), i = ix3 b s j :=
    ⟨i 0, i 1, i 2, funext fun a => by fin_cases a <;> rfl⟩
  refine (Cert.GlaReferenceIdeal.Rows.result_at b m' c s j).trans ?_
  unfold Cert.GlaReferenceIdeal.Rows.aq Cert.GlaReferenceIdeal.Rows.ak Cert.GlaReferenceIdeal.Rows.ag Cert.GlaReferenceIdeal.Rows.av
  rw [e0, e1, e2, e3, e4]
  exact (Cert.GlaKernelIdeal.Array.result_at m c b s j).symm

end Cert.Proof
end
-- ==== Proof.MobaBlock.lean ====
/-
  One grid point of the block attention, as a value: 256 queries of one head and one batch entry. What the point stores is
  the quotient of the two running values which its loop over the blocks before its own leaves, from its own block's.
-/
module
public import proofs.«01_k».proof.Proof.Gen.MobaKernelIdeal.Value
public import Idealize.ShloMosaic.Lib.Tactic
public import Idealize.ShloMosaic.Lib.Pointwise
public import Idealize.ShloMosaic.Lib.WritesUnit

@[expose] public section
set_option maxRecDepth 16384
noncomputable section
open Idealize.ShloMosaic Idealize.ShloMosaic.TcCoe Idealize.SL.Sem
namespace Cert.MobaKernelIdeal.Block
open Cert.MobaKernelIdeal Cert.MobaKernelIdeal.Gen
variable {F : FTy → Type} [FloatOps F]

theorem hz3 : (![0, 0, 0] : Fin 3 → Nat) = fun _ => 0 := funext fun a => by fin_cases a <;> rfl

/-- Block `n` of the keys, or of the values. -/
def piece (x : Vec F S1x4096x128 .bf16) (n : Nat) (hn : n < 16) : Vec F S1x256x128 .bf16 :=
  View.ld x (Rect.unit (s := S1x4096x128) ![0, 256 * n, 0] S1x256x128.size (fun a => by
    match a with
    | ⟨0, _⟩ => show 0 + 1 ≤ 1; omega
    | ⟨1, _⟩ => show 256 * n + 256 ≤ 4096; omega
    | ⟨2, _⟩ => show 0 + 128 ≤ 128; omega))

/-- The chosen blocks, as the point's first part marks them. -/
def marks (i : grid0.Coords) (x0 : Vec F S1x256x128 .bf16) (x3 : Vec F S1x16x128 .f32) : FVec F S256x16 .f32 :=
  k0_pay24 (iota .tc S256x16 32 [1] iota_S256x16_d1_w32) (k0_pay20 i x0 x3) (k0_pay21 i x0 x3) (k0_pay22 i x0 x3) (k0_pay23 i x0 x3)

theorem own_lt (i : grid0.Coords) : (i 2).val < 16 := (i 2).isLt

theorem trips1 (i : grid0.Coords) : (k0_t1_loop i).trips = (i 2).val :=
  (by decide +kernel : ∀ i : grid0.Coords, (k0_t1_loop i).trips = (i 2).val) i

theorem trips2 (i : grid0.Coords) : (k0_t2_loop i).trips = 0 :=
  (by decide +kernel : ∀ i : grid0.Coords, (k0_t2_loop i).trips = 0) i

theorem off1 (i : grid0.Coords) : k0_off1 i = ![0, 256 * (i 2).val, 0] :=
  (by decide +kernel : ∀ i : grid0.Coords, k0_off1 i = ![0, 256 * (i 2).val, 0]) i

theorem off2 (i : grid0.Coords) (k : Fin (k0_t1_loop i).trips) : k0_off2 i k = ![0, 256 * k.val, 0] :=
  (by decide +kernel : ∀ i : grid0.Coords, ∀ k : Fin (k0_t1_loop i).trips, k0_off2 i k = ![0, 256 * k.val, 0]) i k

theorem ld_off (x : Vec F S1x4096x128 .bf16) (o : Fin 3 → Nat) (n : Nat) (hn : n < 16) (ho : o = ![0, 256 * n, 0]) (inb) :
    View.ld x (Rect.unit (s := S1x4096x128) o S1x256x128.size inb) = piece x n hn := by
  subst ho
  rfl

/-- One trip of the loop: block `k`, from the three running values before it. -/
def stepV (i : grid0.Coords) (v1 : FVec F S256x128 .bf16) (v6 : IVec S256x16 32) (v67 : FVec F S256x16 .f32) (x1 x2 : Vec F S1x4096x128 .bf16)
    (k : Fin (k0_t1_loop i).trips) (acc : FVec F S256x1 .f32 × FVec F S256x1 .f32 × FVec F S256x128 .f32) :
    FVec F S256x1 .f32 × FVec F S256x1 .f32 × FVec F S256x128 .f32 :=
  have hk : k.val < 16 := lt_trans (lt_of_lt_of_eq k.isLt (trips1 i)) (own_lt i)
  (k0_pay4 i v1 v6 v67 k acc.1 (piece x1 k.val hk), k0_pay7 i v1 v6 v67 k acc.1 acc.2.1 (piece x1 k.val hk),
    k0_pay8 i v1 v6 v67 k acc.1 acc.2.2 (piece x1 k.val hk) (piece x2 k.val hk))

section
variable (c : Dev nD) (i : grid0.Coords)
  (a3 : Memref sig .tc .vmem S1x256x128 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S1x16x128 .f32) (h6 : a6.IsWhole)
  (a7 : Memref sig .tc .vmem S1x256x128 .bf16) (h7 : a7.IsWhole)
  (x0 : Vec F S1x256x128 .bf16) (x1 x2 : Vec F S1x4096x128 .bf16) (x3 : Vec F S1x16x128 .f32)

theorem trip_eq (v1 : FVec F S256x128 .bf16) (v6 : IVec S256x16 32) (v67 : FVec F S256x16 .f32) (k : Fin (k0_t1_loop i).trips)
    (acc : FVec F S256x1 .f32 × FVec F S256x1 .f32 × FVec F S256x128 .f32) :
    tripR_k0_t1 Variants.none c none i a3 h3 a4 h4 a5 h5 a6 h6 a7 h7 v1 v6 v67 (h4.unread x1) (h5.unread x2) k acc = stepV i v1 v6 v67 x1 x2 k acc := by
  have hk : k.val < 16 := lt_trans (lt_of_lt_of_eq k.isLt (trips1 i)) (own_lt i)
  unfold tripR_k0_t1 trip_k0_t1
  dsimp only
  simp only [View.readAt_eq_ld, h4.read_unread, h5.read_unread, ld_off x1 _ _ hk (off2 i k), ld_off x2 _ _ hk (off2 i k)]
  rfl

/-- The three running values of the own block. -/
def firstV : FVec F S256x1 .f32 × FVec F S256x1 .f32 × FVec F S256x128 .f32 :=
  (k0_pay26 (k0_pay16 x0) (piece x1 (i 2).val (own_lt i)), k0_pay1 (k0_pay27 (k0_pay16 x0) (piece x1 (i 2).val (own_lt i))),
    k0_pay2 (k0_pay27 (k0_pay16 x0) (piece x1 (i 2).val (own_lt i))) (piece x2 (i 2).val (own_lt i)))

/-- The three running values before block `n` of the loop. -/
def loopV : ℕ → FVec F S256x1 .f32 × FVec F S256x1 .f32 × FVec F S256x128 .f32
  | 0 => firstV i x0 x1 x2
  | n + 1 => if h : n < (k0_t1_loop i).trips then
      stepV i (k0_pay16 x0) (iota .tc S256x16 32 [1] iota_S256x16_d1_w32) (marks i x0 x3) x1 x2 ⟨n, h⟩ (loopV n) else loopV n

theorem loopV_zero : loopV i x0 x1 x2 x3 0 = firstV i x0 x1 x2 := rfl

theorem loopV_succ (n : ℕ) (h : n < (k0_t1_loop i).trips) :
    loopV i x0 x1 x2 x3 (n + 1)
      = stepV i (k0_pay16 x0) (iota .tc S256x16 32 [1] iota_S256x16_d1_w32) (marks i x0 x3) x1 x2 ⟨n, h⟩ (loopV i x0 x1 x2 x3 n) := by
  rw [loopV.eq_2, dif_pos h]

theorem loop_eq (n : ℕ) (hn : n ≤ (k0_t1_loop i).trips) :
    st_k0_t1 Variants.none c none i a3 h3 a4 h4 a5 h5 a6 h6 a7 h7 (k0_pay16 x0) (iota .tc S256x16 32 [1] iota_S256x16_d1_w32) (marks i x0 x3)
      (h4.unread x1) (h5.unread x2) (firstV i x0 x1 x2) n = loopV i x0 x1 x2 x3 n := by
  induction n with
  | zero => rfl
  | succ n ih =>
    rw [st_k0_t1_succ (k := ⟨n, hn⟩), ih (Nat.le_of_succ_le hn), trip_eq]
    exact (loopV_succ i x0 x1 x2 x3 n hn).symm

set_option maxHeartbeats 800000 in
theorem out_eq :
    out0_A_4 c i a3 h3 a4 h4 a5 h5 a6 h6 a7 h7 x0 x1 x2 x3
      = k0_pay15 (loopV i x0 x1 x2 x3 (i 2).val).2.1 (loopV i x0 x1 x2 x3 (i 2).val).2.2 := by
  unfold out0_A_4
  rw [View.read_writes_eq_canon _ _ _ (cover0_A_4 c i a3 h3 a4 h4 a5 h5 a6 h6 a7 h7 x0 x1 x2 x3)]
  unfold kernelRun0_A
  dsimp only
  sl_unfold_words
  simp only [View.readAt_eq_ld, h3.read_unread, h4.read_unread, h5.read_unread, h6.read_unread, View.ld_unit_zero (S := S1x256x128) hz3,
    View.ld_unit_zero (S := S1x16x128) hz3]
  have e1 : Scf.trips (0#32) (Scalar.addi (0#32) (Scalar.muli (Scalar.divsi (Scalar.subi (BitVec.ofNat 32 (i 2).val) 0#32) 1#32) 1#32)) 1#32 = (i 2).val :=
    trips1 i
  have e2 : Scf.trips (Scalar.addi (0#32) (Scalar.muli (Scalar.divsi (Scalar.subi (BitVec.ofNat 32 (i 2).val) 0#32) 1#32) 1#32))
      (Scalar.addi (0#32) (Scalar.subi (BitVec.ofNat 32 (i 2).val) 0#32)) 1#32 = 0 := trips2 i
  have key := loop_eq c i a3 h3 a4 h4 a5 h5 a6 h6 a7 h7 x0 x1 x2 x3 (i 2).val (trips1 i).ge
  unfold firstV marks at key
  rw [← ld_off x1 _ _ (own_lt i) (off1 i) (k0_off1_inb i), ← ld_off x2 _ _ (own_lt i) (off1 i) (k0_off1_inb i)] at key
  simp only [e1, e2, st_k0_t2_zero]
  refine (View.canon_unit_zero (Val := Elt F) (S := S1x256x128) hz3 _ _).trans ?_
  rw [← key]
  rfl
end

end Cert.MobaKernelIdeal.Block
-- ==== Proof.MobaMath.lean ====
/-
  The mathematics of the block-sparse attention. A softmax's quotient does not depend on which real number is subtracted from
  the scores, so the running maximum of a pass over the blocks may be any. The passes keep the sums of the blocks seen so far;
  a block that is not seen has scores `⊥`, and adds nothing. The chosen blocks: a block is among the first three of the
  stable descending sort exactly when fewer than three blocks come before it, and three rounds of "the first largest, then
  removed" choose the same blocks, as far as their scores are above `⊥`.
-/
module
public import proofs.«01_k».proof.Proof.Softmax
public import Idealize.ShloMosaic.Lib.SortPrefix

@[expose] public section
noncomputable section
open Idealize.ShloMosaic
namespace Cert.Moba
open Cert.Merge (word Real' real_mul real_add real_sum sum_mul_real word_low)

/-! ## The quotient -/

/-- The weights of scores `s` against `M`, applied to the values, over their sum. -/
def quot {ι : Type} [Fintype ι] (s v : ι → EReal) (M : EReal) : EReal :=
  Ideal.div (∑ i, Ideal.exp (s i - M) * v i) (∑ i, Ideal.exp (s i - M))

/-- A score below infinity against a real number is a nonnegative real weight. -/
theorem exp_real {x : EReal} (hx : x ≠ ⊤) (M : ℝ) : ∃ r : ℝ, 0 ≤ r ∧ Ideal.exp (x - M) = (r : EReal) := by
  induction x with
  | bot => exact ⟨0, le_rfl, by rw [EReal.bot_sub]; exact Ideal.exp_bot⟩
  | top => exact absurd rfl hx
  | coe a => exact ⟨Real.exp (a - M), (Real.exp_pos _).le, by rw [← EReal.coe_sub, Ideal.exp_coe]⟩

theorem exp_low (M : ℝ) : Ideal.exp ((⊥ : EReal) - M) = 0 := by rw [EReal.bot_sub]; exact Ideal.exp_bot

theorem exp_shift {x : EReal} (hx : x ≠ ⊤) (M M' : ℝ) :
    Ideal.exp ((M : EReal) - (M' : EReal)) * Ideal.exp (x - M) = Ideal.exp (x - M') := by
  induction x with
  | bot => rw [exp_low, exp_low, mul_zero]
  | top => exact absurd rfl hx
  | coe a =>
    rw [← EReal.coe_sub, ← EReal.coe_sub, ← EReal.coe_sub, Ideal.exp_coe, Ideal.exp_coe, Ideal.exp_coe, ← EReal.coe_mul, ← Real.exp_add]
    congr 2
    ring

theorem real_mul_sum {ι : Type} (S : Finset ι) (f : ι → EReal) (r : ℝ) (hr : 0 ≤ r) :
    (r : EReal) * (∑ i ∈ S, f i) = ∑ i ∈ S, (r : EReal) * f i := by
  rw [mul_comm, sum_mul_real S f r hr]
  exact Finset.sum_congr rfl fun i _ => mul_comm _ _

theorem exp_mul_sum {ι : Type} (S : Finset ι) (f : ι → EReal) (M M' : ℝ) :
    Ideal.exp ((M : EReal) - (M' : EReal)) * (∑ i ∈ S, f i) = ∑ i ∈ S, Ideal.exp ((M : EReal) - (M' : EReal)) * f i := by
  rw [← EReal.coe_sub, Ideal.exp_coe]
  exact real_mul_sum S f _ (Real.exp_pos _).le

theorem sum_pos_real {ι : Type} [Fintype ι] (s : ι → EReal) (hs : ∀ i, s i ≠ ⊤) (i₀ : ι) (h₀ : s i₀ ≠ ⊥) (M : ℝ) :
    ∃ L : ℝ, 0 < L ∧ ∑ i, Ideal.exp (s i - M) = (L : EReal) := by
  choose r hr he using fun i => exp_real (hs i) M
  refine ⟨∑ i, r i, ?_, ?_⟩
  · refine Finset.sum_pos' (fun i _ => hr i) ⟨i₀, Finset.mem_univ _, ?_⟩
    have h := he i₀
    have hr0 := hr i₀
    generalize s i₀ = x at h h₀
    induction x with
    | bot => exact absurd rfl h₀
    | top =>
      rw [EReal.top_sub_coe] at h
      have := Ideal.exp_top
      rw [this] at h
      exact absurd h (EReal.top_ne_coe _)
    | coe a =>
      rw [← EReal.coe_sub, Ideal.exp_coe, EReal.coe_eq_coe_iff] at h
      rw [← h]
      exact Real.exp_pos _
  · simp only [he]
    exact (map_sum (⟨⟨Real.toEReal, EReal.coe_zero⟩, EReal.coe_add⟩ : ℝ →+ EReal) _ _).symm

theorem quot_shift {ι : Type} [Fintype ι] (s v : ι → EReal) (hs : ∀ i, s i ≠ ⊤) (i₀ : ι) (h₀ : s i₀ ≠ ⊥) (M M' : ℝ) :
    quot s v M' = quot s v M := by
  unfold quot
  obtain ⟨L, hL, eL⟩ := sum_pos_real s hs i₀ h₀ M
  have e1 : ∑ i, Ideal.exp (s i - M') = ((Real.exp (M - M') * L : ℝ) : EReal) := by
    rw [EReal.coe_mul, ← eL, ← Ideal.exp_coe, EReal.coe_sub, exp_mul_sum]
    exact Finset.sum_congr rfl fun i _ => (exp_shift (hs i) M M').symm
  have e2 : ∑ i, Ideal.exp (s i - M') * v i = ((Real.exp (M - M') : ℝ) : EReal) * ∑ i, Ideal.exp (s i - M) * v i := by
    rw [← Ideal.exp_coe, EReal.coe_sub, exp_mul_sum]
    exact Finset.sum_congr rfl fun i _ => by rw [← mul_assoc, exp_shift (hs i) M M']
  have hc := Real.exp_pos (M - M')
  rw [e1, e2, eL, Ideal.div_coe (mul_pos hc hL).ne', Ideal.div_coe hL.ne', mul_comm ((Real.exp (M - M') : ℝ) : EReal), mul_assoc,
    ← EReal.coe_mul]
  congr 2
  field_simp

/-- A softmax applied to the values is the quotient. -/
theorem quot_of_softmax {ι : Type} [Fintype ι] (s v : ι → EReal) (hs : ∀ i, s i ≠ ⊤) (i₀ : ι) (h₀ : s i₀ ≠ ⊥) (M : ℝ) :
    ∑ i, Ideal.div (Ideal.exp (s i - M)) (∑ i, Ideal.exp (s i - M)) * v i = quot s v M := by
  unfold quot
  obtain ⟨L, hL, eL⟩ := sum_pos_real s hs i₀ h₀ M
  rw [eL, Ideal.div_coe hL.ne', sum_mul_real _ _ _ (by positivity)]
  refine Finset.sum_congr rfl fun i _ => ?_
  rw [Ideal.div_coe hL.ne', mul_right_comm]

/-- The largest of finitely many scores below infinity, one of them real, is real. -/
theorem real_fold {ι : Type} [Fintype ι] (s : ι → EReal) (hs : ∀ i, s i ≠ ⊤) (i₀ : ι) (h₀ : s i₀ ≠ ⊥) :
    Real' (Finset.univ.fold max (⊥ : EReal) s) := by
  have hlo : (⊥ : EReal) < Finset.univ.fold max (⊥ : EReal) s :=
    lt_of_lt_of_le (bot_lt_iff_ne_bot.mpr h₀) (Finset.le_fold_max _ |>.mpr (Or.inr ⟨i₀, Finset.mem_univ _, le_rfl⟩))
  have hhi : Finset.univ.fold max (⊥ : EReal) s < ⊤ :=
    Finset.fold_max_lt _ |>.mpr ⟨bot_lt_top, fun i _ => lt_top_iff_ne_top.mpr (hs i)⟩
  generalize Finset.univ.fold max (⊥ : EReal) s = M at hlo hhi
  exact ⟨M.toReal, (EReal.coe_toReal hhi.ne hlo.ne').symm⟩

/-- The running maximum stays real. -/
theorem real_running {ι : Type} [Fintype ι] (m : EReal) (hm : Real' m) (s : ι → EReal) (hs : ∀ i, s i ≠ ⊤) :
    Real' (max m (Finset.univ.fold max (⊥ : EReal) s)) := by
  obtain ⟨r, rfl⟩ := hm
  have hlo : (⊥ : EReal) < max (r : EReal) (Finset.univ.fold max (⊥ : EReal) s) := lt_of_lt_of_le (EReal.bot_lt_coe r) (le_max_left _ _)
  have hhi : max (r : EReal) (Finset.univ.fold max (⊥ : EReal) s) < ⊤ :=
    max_lt (EReal.coe_lt_top r) (Finset.fold_max_lt _ |>.mpr ⟨bot_lt_top, fun i _ => lt_top_iff_ne_top.mpr (hs i)⟩)
  generalize max (r : EReal) (Finset.univ.fold max (⊥ : EReal) s) = M at hlo hhi
  exact ⟨M.toReal, (EReal.coe_toReal hhi.ne hlo.ne').symm⟩

/-! ## A pass over the blocks -/

/-- The sum of the blocks of `S`, weighed against `M`. -/
def blocks (s v : ℕ → Fin 256 → EReal) (M : EReal) (S : Finset ℕ) : EReal := ∑ n ∈ S, ∑ j, Ideal.exp (s n j - M) * v n j

theorem blocks_step (s v : ℕ → Fin 256 → EReal) (hs : ∀ n j, s n j ≠ ⊤) (M M' : ℝ) (S : Finset ℕ) (n : ℕ) (hn : n ∉ S) :
    Ideal.exp ((M : EReal) - (M' : EReal)) * blocks s v M S + ∑ j, Ideal.exp (s n j - M') * v n j = blocks s v M' (insert n S) := by
  unfold blocks
  rw [Finset.sum_insert hn, add_comm, exp_mul_sum]
  refine congrArg (_ + ·) (Finset.sum_congr rfl fun n _ => ?_)
  rw [exp_mul_sum]
  exact Finset.sum_congr rfl fun j _ => by rw [← mul_assoc, exp_shift (hs n j) M M']

/-- The blocks of a whole row. -/
theorem blocks_row (s v : Fin 4096 → EReal) (M : ℝ) (own : ℕ) (hown : own < 16) (s' v' : ℕ → Fin 256 → EReal)
    (hs : ∀ (n : ℕ) (h : n < 16) (j : Fin 256), s' n j = s ⟨256 * n + j.val, by omega⟩)
    (hv : ∀ (n : ℕ) (h : n < 16) (j : Fin 256), v' n j = v ⟨256 * n + j.val, by omega⟩)
    (hlow : ∀ n j, own < n → s' n j = ⊥) :
    blocks s' v' M (insert own (Finset.range own)) = ∑ x, Ideal.exp (s x - M) * v x := by
  have e : insert own (Finset.range own) = Finset.range (own + 1) := Finset.range_add_one.symm
  rw [e]
  have e16 : blocks s' v' M (Finset.range (own + 1)) = blocks s' v' M (Finset.range 16) := by
    unfold blocks
    refine Finset.sum_subset (Finset.range_subset_range.mpr (by omega)) fun n _ hn => ?_
    refine Finset.sum_eq_zero fun j _ => ?_
    rw [hlow n j (by simpa using hn), exp_low, zero_mul]
  rw [e16]
  unfold blocks
  rw [Finset.sum_range, ← Finset.sum_product', Finset.univ_product_univ]
  refine Fintype.sum_equiv (finProdFinEquiv (m := 16) (n := 256)) _ (fun x : Fin (16 * 256) => Ideal.exp (s x - M) * v x) fun p => ?_
  have hx : (finProdFinEquiv p : Fin (16 * 256)) = (⟨256 * p.1.val + p.2.val, by have := p.1.isLt; have := p.2.isLt; omega⟩ : Fin 4096) :=
    Fin.ext (by show p.2.val + 256 * p.1.val = 256 * p.1.val + p.2.val; omega)
  rw [hs p.1.val p.1.isLt, hv p.1.val p.1.isLt, hx]

/-! ## The chosen blocks -/

/-- Block `a` comes before block `b`: a larger score, or an equal one and a lower index. -/
def before (x : Fin 16 → EReal) (a b : Fin 16) : Bool := decide (x b < x a) || (decide (x a = x b) && decide (a < b))

theorem before_order (x : Fin 16 → EReal) : StrictTotalBefore (before x) :=
  StrictTotalBefore.of_key_then_position (κ := EReal) (fun a b => decide (b < a)) x (fun a => by simp)
    (fun a b c h h' => by simp only [decide_eq_true_eq] at *; exact lt_trans h' h)
    (fun a b => by simp only [decide_eq_true_eq]; rcases lt_trichotomy a b with h | h | h <;> simp [h])

/-- How many blocks come before one. -/
def rank (x : Fin 16 → EReal) (n : Fin 16) : ℕ := (Finset.univ.filter fun a => before x a n = true).card

/-- Inserting from the right, equal scores keep their order: the stable sort by the score alone is the sort by `before`. -/
theorem stableSort_before (x : Fin 16 → EReal) : ∀ l : List (Fin 16), l.Pairwise (· < ·) →
    stableSort (fun a b => decide (x b < x a)) l = stableSort (before x) l
  | [], _ => rfl
  | a :: l, h => by
    rw [List.pairwise_cons] at h
    unfold stableSort
    rw [stableSort_before x l h.2]
    refine insertBefore_congr _ _ a _ fun b hb => ?_
    have hab : a < b := h.1 b ((perm_stableSort _ l).mem_iff.mp hb)
    simp [before, hab.not_gt]

theorem get_cast {l l' : List (Fin 16)} (e : l = l') (h : l.length = 16) (h' : l'.length = 16) (k : Fin 16) :
    l.get (k.cast h.symm) = l'.get (k.cast h'.symm) := by
  subst e
  rfl

theorem sortedFrom_before (x : Fin 16 → EReal) : sortedFrom (fun a b => decide (x b < x a)) = sortedFrom (before x) :=
  funext fun k => get_cast (stableSort_before x (List.finRange 16) (List.pairwise_lt_finRange 16))
    (length_sortPositions 16 (fun a b => decide (x b < x a))) (length_sortPositions 16 (before x)) k

theorem rank_sorted (x : Fin 16 → EReal) (t : Fin 16) : rank x (sortedFrom (before x) t) = t.val := by
  have hB := before_order x
  have hlt : ∀ i j, i < j → before x (sortedFrom (before x) i) (sortedFrom (before x) j) = true := fun i j hij => by
    have h := sortedFrom_noInversion (before x) (before x) (fun a b h => hB.asymm a b h) (fun _ _ h => h) hB.negTrans i j hij
    rcases hB.total _ _ (fun e => hij.ne (sortedFrom_injective (before x) e)) with h' | h'
    · exact h'
    · rw [h'] at h; exact absurd h (by decide)
  have e : (Finset.univ.filter fun a => before x a (sortedFrom (before x) t) = true)
      = (Finset.Iio t).map ⟨sortedFrom (before x), sortedFrom_injective (before x)⟩ := by
    ext a
    obtain ⟨i, rfl⟩ := sortedFrom_surjective (before x) a
    simp only [Finset.mem_filter, Finset.mem_univ, true_and, Finset.mem_map, Finset.mem_Iio, Function.Embedding.coeFn_mk]
    constructor
    · intro h
      refine ⟨i, ?_, rfl⟩
      rcases lt_trichotomy i t with h' | h' | h'
      · exact h'
      · rw [h', hB.irrefl] at h; exact absurd h (by decide)
      · rw [hB.asymm _ _ (hlt t i h')] at h; exact absurd h (by decide)
    · rintro ⟨j, hj, e⟩
      rw [← e]
      exact hlt j t hj
  unfold rank
  rw [e, Finset.card_map, Fin.card_Iio]

/-- A block is one of the sort's first three exactly when fewer than three come before it. -/
theorem sorted_iff (x : Fin 16 → EReal) (n : Fin 16) :
    (sortedFrom (fun a b => decide (x b < x a)) 0 = n ∨ sortedFrom (fun a b => decide (x b < x a)) 1 = n
      ∨ sortedFrom (fun a b => decide (x b < x a)) 2 = n) ↔ rank x n < 3 := by
  rw [sortedFrom_before]
  constructor
  · rintro (h | h | h) <;> rw [← h, rank_sorted] <;> decide
  · intro h
    obtain ⟨t, rfl⟩ := sortedFrom_surjective (before x) n
    rw [rank_sorted] at h
    have ht : t = 0 ∨ t = 1 ∨ t = 2 := by
      rcases t with ⟨t, ht⟩
      simp only [Fin.ext_iff]
      show t = 0 ∨ t = 1 ∨ t = 2
      have : t < 3 := h
      omega
    rcases ht with h | h | h <;> subst h <;> simp

/-- The largest score, and the first block that has it. -/
structure First (x : Fin 16 → EReal) (M : EReal) (a : Fin 16) : Prop where
  eq : x a = M
  le : ∀ n, x n ≤ M
  first : ∀ n, x n = M → a ≤ n

/-- The scores with one block removed. -/
def drop (x : Fin 16 → EReal) (a : Fin 16) : Fin 16 → EReal := fun n => if n = a then ⊥ else x n

theorem drop_ne {x : Fin 16 → EReal} {a n : Fin 16} (h : n ≠ a) : drop x a n = x n := if_neg h
theorem drop_self (x : Fin 16 → EReal) (a : Fin 16) : drop x a a = ⊥ := if_pos rfl

/-- The first largest of some scores comes before every other block that has its score still. -/
theorem First.before {x y : Fin 16 → EReal} {M : EReal} {a n : Fin 16} (h : First y M a) (ha : y a = x a) (hn : y n = x n) (hne : n ≠ a) :
    Moba.before x a n = true := by
  unfold Moba.before
  rw [Bool.or_eq_true, Bool.and_eq_true, decide_eq_true_eq, decide_eq_true_eq, decide_eq_true_eq, ← ha, ← hn, h.eq]
  rcases (h.le n).lt_or_eq with hl | hl
  · exact Or.inl hl
  · exact Or.inr ⟨hl.symm, lt_of_le_of_ne (h.first n hl) hne.symm⟩

/-- Three rounds choose the blocks above `⊥` that fewer than three come before. -/
theorem rounds_iff {x : Fin 16 → EReal} {M₁ M₂ M₃ : EReal} {a₁ a₂ a₃ : Fin 16} (h₁ : First x M₁ a₁) (h₂ : First (drop x a₁) M₂ a₂)
    (h₃ : First (drop (drop x a₁) a₂) M₃ a₃) (n : Fin 16) :
    (n = a₁ ∧ ⊥ < M₁ ∨ n = a₂ ∧ ⊥ < M₂ ∨ n = a₃ ∧ ⊥ < M₃) ↔ (⊥ < x n ∧ rank x n < 3) := by
  have hB := before_order x
  constructor
  · rintro (⟨rfl, h⟩ | ⟨rfl, h⟩ | ⟨rfl, h⟩)
    · refine ⟨h₁.eq ▸ h, ?_⟩
      have : rank x n = 0 := Finset.card_eq_zero.mpr (Finset.filter_eq_empty_iff.mpr fun b _ hb => by
        by_cases e : b = n
        · rw [e, hB.irrefl] at hb; exact absurd hb (by decide)
        · rw [hB.asymm _ _ (h₁.before (x := x) rfl rfl e)] at hb; exact absurd hb (by decide))
      omega
    · have hn : n ≠ a₁ := fun e => by rw [← h₂.eq, e, drop_self] at h; exact lt_irrefl _ h
      refine ⟨by rw [← h₂.eq, drop_ne hn] at h; exact h, ?_⟩
      have hsub : (Finset.univ.filter fun a => Moba.before x a n = true) ⊆ {a₁} := fun b hb => by
        have hb := (Finset.mem_filter.mp hb).2
        by_contra hne
        have hne : b ≠ a₁ := by simpa using hne
        by_cases e : b = n
        · rw [e, hB.irrefl] at hb; exact absurd hb (by decide)
        · rw [hB.asymm _ _ (h₂.before (x := x) (drop_ne hn) (drop_ne hne) e)] at hb; exact absurd hb (by decide)
      have := Finset.card_le_card hsub
      simp only [Finset.card_singleton] at this
      unfold rank
      omega
    · have hn2 : n ≠ a₂ := fun e => by rw [← h₃.eq, e, drop_self] at h; exact lt_irrefl _ h
      have hn : n ≠ a₁ := fun e => by rw [← h₃.eq, drop_ne hn2, e, drop_self] at h; exact lt_irrefl _ h
      refine ⟨by rw [← h₃.eq, drop_ne hn2, drop_ne hn] at h; exact h, ?_⟩
      have hsub : (Finset.univ.filter fun a => Moba.before x a n = true) ⊆ {a₁, a₂} := fun b hb => by
        have hb := (Finset.mem_filter.mp hb).2
        by_contra hne
        simp only [Finset.mem_insert, Finset.mem_singleton, not_or] at hne
        by_cases e : b = n
        · rw [e, hB.irrefl] at hb; exact absurd hb (by decide)
        · rw [hB.asymm _ _ (h₃.before (x := x) ((drop_ne hn2).trans (drop_ne hn)) ((drop_ne hne.2).trans (drop_ne hne.1)) e)] at hb
          exact absurd hb (by decide)
      have := (Finset.card_le_card hsub).trans Finset.card_le_two
      unfold rank
      omega
  · rintro ⟨hx, hr⟩
    by_contra hc
    simp only [not_or, not_and] at hc
    obtain ⟨c₁, c₂, c₃⟩ := hc
    have n₁ : n ≠ a₁ := fun e => c₁ e (lt_of_lt_of_le hx (h₁.le n))
    have n₂ : n ≠ a₂ := fun e => c₂ e (lt_of_lt_of_le (by rw [drop_ne n₁]; exact hx) (h₂.le n))
    have M2 : ⊥ < M₂ := lt_of_lt_of_le (by rw [drop_ne n₁]; exact hx) (h₂.le n)
    have M3 : ⊥ < M₃ := lt_of_lt_of_le (by rw [drop_ne n₂, drop_ne n₁]; exact hx) (h₃.le n)
    have n₃ : n ≠ a₃ := fun e => c₃ e M3
    have a21 : a₂ ≠ a₁ := fun e => by rw [← h₂.eq, e, drop_self] at M2; exact lt_irrefl _ M2
    have a32 : a₃ ≠ a₂ := fun e => by rw [← h₃.eq, e, drop_self] at M3; exact lt_irrefl _ M3
    have a31 : a₃ ≠ a₁ := fun e => by rw [← h₃.eq, drop_ne a32, e, drop_self] at M3; exact lt_irrefl _ M3
    have hsub : {a₁, a₂, a₃} ⊆ (Finset.univ.filter fun a => Moba.before x a n = true) := fun b hb => by
      simp only [Finset.mem_insert, Finset.mem_singleton] at hb
      refine Finset.mem_filter.mpr ⟨Finset.mem_univ _, ?_⟩
      rcases hb with rfl | rfl | rfl
      · exact h₁.before (x := x) rfl rfl n₁
      · exact h₂.before (x := x) (drop_ne a21) (drop_ne n₁) n₂
      · exact h₃.before (x := x) ((drop_ne a32).trans (drop_ne a31)) ((drop_ne n₂).trans (drop_ne n₁)) n₃
    have h3 : ({a₁, a₂, a₃} : Finset (Fin 16)).card = 3 := Finset.card_eq_three.mpr ⟨a₁, a₂, a₃, a21.symm, a31.symm, a32.symm, rfl⟩
    have := Finset.card_le_card hsub
    rw [h3] at this
    unfold rank at hr
    omega

end Cert.Moba
-- ==== Proof.MobaRow.lean ====
/-
  One query of the block attention: which keys it sees, and its output. The loop over the blocks, which keeps a running
  maximum and two running sums, is shown to leave the sums over all the keys.
-/
module
public import proofs.«01_k».proof.Proof.MobaMath
public import Idealize.ShloMosaic.Lib.WordCmp
public import Idealize.ShloMosaic.Lib.Pointwise

@[expose] public section
noncomputable section
open Idealize.ShloMosaic
open scoped Classical
namespace Cert.Moba
open Cert.Merge

/-- The routing scores of a query whose own block is `own`: those of the blocks before it. -/
def routing (own : ℕ) (g : Fin 16 → EReal) (n : Fin 16) : EReal := if n.val < own then g n else ⊥

/-- A block is chosen: it comes before the query's own, and at most two such blocks are before it in the order of the scores. -/
def chosen (x : Fin 16 → EReal) (n : Fin 16) : Prop := ⊥ < x n ∧ rank x n < 3

/-- Row `r` of block `own` sees key `x`: the key's block is chosen, or is the row's own and the key is not after it. -/
def sees (own r : ℕ) (x : Fin 16 → EReal) (k : Fin 4096) : Prop :=
  chosen x ⟨k.val / 256, by omega⟩ ∨ k.val / 256 = own ∧ k.val % 256 ≤ r

/-- The scores of the keys which the row sees, the others low. -/
def score (own r : ℕ) (x : Fin 16 → EReal) (sc : Fin 4096 → EReal) (k : Fin 4096) : EReal := if sees own r x k then sc k else ⊥

/-- The row's output: the mean of the values, weighted by the scores' exponentials. -/
def row (own r : ℕ) (x : Fin 16 → EReal) (sc v : Fin 4096 → EReal) : EReal := quot (score own r x sc) v 0

/-- The scores block by block, as the loop meets them. -/
def blockScore (own r : ℕ) (x : Fin 16 → EReal) (sc : Fin 4096 → EReal) (n : ℕ) (j : Fin 256) : EReal :=
  if h : n < 16 then (if chosen x ⟨n, h⟩ ∨ n = own ∧ j.val ≤ r then sc ⟨256 * n + j.val, by omega⟩ else ⊥) else ⊥

def blockVal (v : Fin 4096 → EReal) (n : ℕ) (j : Fin 256) : EReal := if h : n < 16 then v ⟨256 * n + j.val, by omega⟩ else 0

section Loop
variable (own r : ℕ) (hown : own < 16) (hr : r < 256) (g : Fin 16 → EReal) (sc v : Fin 4096 → EReal) (hsc : ∀ k, Real' (sc k))
include hsc

theorem blockScore_lt_top (x : Fin 16 → EReal) (n : ℕ) (j : Fin 256) : blockScore own r x sc n j ≠ ⊤ := by
  unfold blockScore
  split_ifs
  · obtain ⟨t, e⟩ := hsc ⟨256 * n + j.val, by omega⟩
    rw [e]; exact EReal.coe_ne_top t
  · exact bot_ne_top
  · exact bot_ne_top

theorem score_lt_top (x : Fin 16 → EReal) (k : Fin 4096) : score own r x sc k ≠ ⊤ := by
  unfold score
  split_ifs
  · obtain ⟨t, e⟩ := hsc k
    rw [e]; exact EReal.coe_ne_top t
  · exact bot_ne_top

include hown hr in
/-- A row sees its own key. -/
theorem score_own (x : Fin 16 → EReal) : score own r x sc ⟨256 * own + r, by omega⟩ ≠ ⊥ := by
  unfold score
  rw [if_pos (show sees own r x ⟨256 * own + r, by omega⟩ from
    Or.inr ⟨by show (256 * own + r) / 256 = own; omega, by show (256 * own + r) % 256 ≤ r; omega⟩)]
  obtain ⟨t, e⟩ := hsc ⟨256 * own + r, by omega⟩
  rw [e]; exact EReal.coe_ne_bot t

include hown hr in
/-- The quotient of the sums, whatever number is taken from the scores. -/
theorem row_eq (x : Fin 16 → EReal) (M : ℝ) : quot (score own r x sc) v M = row own r x sc v := by
  have h := quot_shift (score own r x sc) v (score_lt_top own r sc hsc x) ⟨256 * own + r, by omega⟩ (score_own own r hown hr sc hsc x) 0 M
  rw [h]; rfl

include hown hr in
/-- What the loop leaves: the quotient of its two sums is the row's output. -/
theorem row_of_loop (M l a : ℕ → EReal)
    (hM0 : M 0 = Finset.univ.fold max ⊥ (blockScore own r (routing own g) sc own))
    (hl0 : l 0 = ∑ j, Ideal.exp (blockScore own r (routing own g) sc own j - M 0))
    (ha0 : a 0 = ∑ j, Ideal.exp (blockScore own r (routing own g) sc own j - M 0) * blockVal v own j)
    (hM : ∀ n, n < own → M (n + 1) = max (M n) (Finset.univ.fold max ⊥ (blockScore own r (routing own g) sc n)))
    (hl : ∀ n, n < own → l (n + 1) = Ideal.exp (M n - M (n + 1)) * l n + ∑ j, Ideal.exp (blockScore own r (routing own g) sc n j - M (n + 1)))
    (ha : ∀ n, n < own → a (n + 1) = Ideal.exp (M n - M (n + 1)) * a n
      + ∑ j, Ideal.exp (blockScore own r (routing own g) sc n j - M (n + 1)) * blockVal v n j) :
    Ideal.div (a own) (l own) = row own r (routing own g) sc v := by
  have hs := blockScore_lt_top own r sc hsc (routing own g)
  have key : ∀ n, n ≤ own → ∃ R : ℝ, M n = R ∧ l n = blocks (blockScore own r (routing own g) sc) (fun _ _ => 1) R (insert own (Finset.range n))
      ∧ a n = blocks (blockScore own r (routing own g) sc) (blockVal v) R (insert own (Finset.range n)) := by
    intro n
    induction n with
    | zero =>
      intro _
      obtain ⟨R, hR⟩ := real_fold (blockScore own r (routing own g) sc own) (hs own) ⟨r, hr⟩ (by
        unfold blockScore
        rw [dif_pos hown, if_pos (Or.inr ⟨rfl, le_rfl⟩)]
        obtain ⟨t, e⟩ := hsc ⟨256 * own + r, by omega⟩
        rw [e]; exact EReal.coe_ne_bot t)
      refine ⟨R, hM0.trans hR, ?_, ?_⟩
      · rw [hl0, hM0, hR]; simp [blocks]
      · rw [ha0, hM0, hR]; simp [blocks]
    | succ n ih =>
      intro hn
      obtain ⟨R, eM, el, ea⟩ := ih (Nat.le_of_succ_le hn)
      obtain ⟨R', hR'⟩ := real_running (M n) ⟨R, eM⟩ (blockScore own r (routing own g) sc n) (hs n)
      have hnot : n ∉ insert own (Finset.range n) := by
        simp only [Finset.mem_insert, Finset.mem_range, not_or]
        omega
      have hins : insert own (Finset.range (n + 1)) = insert n (insert own (Finset.range n)) := by
        rw [Finset.range_add_one, Finset.insert_comm]
      refine ⟨R', (hM n hn).trans hR', ?_, ?_⟩
      · rw [hl n hn, hM n hn, hR', eM, el, hins, ← blocks_step _ _ hs R R' _ n hnot]
        simp
      · rw [ha n hn, hM n hn, hR', eM, ea, hins, ← blocks_step _ _ hs R R' _ n hnot]
  obtain ⟨R, -, el, ea⟩ := key own le_rfl
  have hsame : ∀ (n : ℕ) (h : n < 16) (j : Fin 256), blockScore own r (routing own g) sc n j = score own r (routing own g) sc ⟨256 * n + j.val, by omega⟩ := by
    intro n h j
    unfold blockScore score sees
    rw [dif_pos h]
    have e1 : (256 * n + j.val) / 256 = n := by omega
    have e2 : (256 * n + j.val) % 256 = j.val := by omega
    simp only [e1, e2]
  have hlow : ∀ n j, own < n → blockScore own r (routing own g) sc n j = ⊥ := by
    intro n j h
    unfold blockScore
    split_ifs with h1 h2
    · rcases h2 with h2 | h2
      · have := h2.1
        unfold routing at this
        rw [if_neg (by show ¬n < own; omega)] at this
        exact absurd this (lt_irrefl _)
      · omega
    · rfl
    · rfl
  have hval : ∀ (n : ℕ) (h : n < 16) (j : Fin 256), blockVal v n j = v ⟨256 * n + j.val, by omega⟩ := fun n h j => dif_pos h
  rw [el, ea, blocks_row (score own r (routing own g) sc) v R own hown _ _ hsame hval hlow,
    blocks_row (score own r (routing own g) sc) (fun _ => 1) R own hown _ (fun _ _ => 1) hsame (fun _ _ _ => rfl) hlow]
  rw [← row_eq own r hown hr sc v hsc (routing own g) R]
  unfold quot
  simp
end Loop

/-! ## The kernel's choice of the blocks -/

theorem toInt_minsi (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.mp h)]

theorem toInt_small (a : ℕ) (h : a ≤ 16) : (BitVec.ofNat 32 a).toInt = (a : ℤ) := by
  interval_cases a <;> rfl

/-- The place of the largest score, as the smallest number of a block that has it. -/
theorem first_of (x : Fin 16 → EReal) (M : EReal) (hM : Finset.univ.fold max ⊥ x = M) :
    ∃ a : Fin 16, First x M a
      ∧ Finset.univ.fold IntOp.minsi (2147483647#32) (fun n : Fin 16 => if x n = M then BitVec.ofNat 32 n.val else 16#32) = BitVec.ofNat 32 a.val := by
  have hle : ∀ n, x n ≤ M := fun n => hM ▸ (Finset.le_fold_max _).mpr (Or.inr ⟨n, Finset.mem_univ _, le_rfl⟩)
  have hex : ∃ n, x n = M := by
    obtain ⟨n, -, hn⟩ := Finset.exists_max_image Finset.univ x Finset.univ_nonempty
    refine ⟨n, le_antisymm (hle n) ?_⟩
    rw [← hM]
    exact (Finset.fold_max_le _).mpr ⟨bot_le, fun b hb => hn b hb⟩
  have hne : (Finset.univ.filter fun n => x n = M).Nonempty := by
    obtain ⟨n, hn⟩ := hex
    exact ⟨n, Finset.mem_filter.mpr ⟨Finset.mem_univ _, hn⟩⟩
  set a := (Finset.univ.filter fun n => x n = M).min' hne with ha
  have hax : x a = M := (Finset.mem_filter.mp (Finset.min'_mem _ hne)).2
  have hfirst : ∀ n, x n = M → a ≤ n := fun n hn => Finset.min'_le (Finset.univ.filter fun n => x n = M) n (Finset.mem_filter.mpr ⟨Finset.mem_univ _, hn⟩)
  refine ⟨a, ⟨hax, hle, hfirst⟩, BitVec.eq_of_toInt_eq ?_⟩
  rw [← Finset.fold_hom (op := IntOp.minsi) (op' := min) (m := BitVec.toInt) toInt_minsi, toInt_small a.val (by omega)]
  refine le_antisymm ((Finset.fold_min_le _).mpr (Or.inr ⟨a, Finset.mem_univ _, ?_⟩)) ((Finset.le_fold_min _).mpr ⟨?_, fun n _ => ?_⟩)
  · rw [if_pos hax, toInt_small a.val (by omega)]
  · have : (2147483647#32).toInt = 2147483647 := by decide
    rw [this]; omega
  · split_ifs with h
    · rw [toInt_small n.val (by omega)]
      exact_mod_cast (hfirst n h : a.val ≤ n.val)
    · have : (16#32).toInt = 16 := by decide
      rw [this]; omega

end Cert.Moba
-- ==== Proof.MobaTile.lean ====
/-
  One grid point of the block attention at one element of its tile: the row's output, by the row's scores and values.
-/
module
public import proofs.«01_k».proof.Proof.MobaBlock
public import proofs.«01_k».proof.Proof.MobaRow
public import proofs.«01_k».proof.Proof.Finite

@[expose] public section
set_option maxRecDepth 16384
noncomputable section
open Idealize.ShloMosaic Idealize.ShloMosaic.TcCoe Idealize.SL.Sem
open scoped Classical
namespace Cert.MobaKernelIdeal.Tile
open Cert.MobaKernelIdeal Cert.MobaKernelIdeal.Gen Cert.MobaKernelIdeal.Block Cert.Moba
open Cert.Merge (word word_low Real')

theorem low : Ideal.ofBits .f32 4286578688#32 = (⊥ : EReal) := word_low

theorem select_eq {α : Type} (n a : Fin 16) (x y : α) :
    Scalar.select (IntOp.cmpi .eq (BitVec.ofNat 32 n.val) (BitVec.ofNat 32 a.val)) x y = if n = a then x else y := by
  rw [WordCmp.cmpi_eq_ofNat (by omega) (by omega), Scalar.select_decide]
  simp only [Fin.ext_iff]

theorem select_and {α : Type} (n a : Fin 16) (p : Prop) [Decidable p] (x y : α) :
    Scalar.select (IntOp.andi (IntOp.cmpi .eq (BitVec.ofNat 32 n.val) (BitVec.ofNat 32 a.val)) (BitVec.ofBool (decide p))) x y
      = if n = a ∧ p then x else y := by
  rw [WordCmp.cmpi_eq_ofNat (by omega) (by omega)]
  have e : IntOp.andi (BitVec.ofBool (decide (n.val = a.val))) (BitVec.ofBool (decide p)) = BitVec.ofBool (decide (n = a ∧ p)) := by
    by_cases h : n = a
    · subst h
      by_cases h' : p <;> simp [h', IntOp.andi]
    · have hv : n.val ≠ a.val := fun e => h (Fin.ext e)
      simp [h, hv, IntOp.andi]
  rw [e, Scalar.select_decide]

section Marks
variable (i : grid0.Coords) (x0 : Vec Ideal S1x256x128 .bf16) (x3 : Vec Ideal S1x16x128 .f32) (r : Fin 256)

/-- A row's routing scores. -/
theorem routing_at (n : Fin 16) :
    k0_pay17 i x0 x3 (ix2 r n) = routing (i 2).val (fun n => ∑ d : Fin 128, x0 (ix3 0 r d) * x3 (ix3 0 n d)) n := by
  have hi := own_lt i
  unfold k0_pay17 k0_pay16
  pointwise []
  rw [WordCmp.cmpi_slt_ofNat (by omega) (by omega), Scalar.select_decide, low]
  rfl

theorem max1_at : k0_pay18 i x0 x3 (ix2 r 0) = Finset.univ.fold max ⊥ (fun n => k0_pay17 i x0 x3 (ix2 r n)) := by
  unfold k0_pay18
  generalize k0_pay17 i x0 x3 = s
  pointwise []
  rw [low]

theorem first1_at (a : Fin 16) (ha : Finset.univ.fold IntOp.minsi (2147483647#32) (fun n : Fin 16 =>
      if k0_pay17 i x0 x3 (ix2 r n) = Finset.univ.fold max ⊥ (fun n => k0_pay17 i x0 x3 (ix2 r n)) then BitVec.ofNat 32 n.val else 16#32) = BitVec.ofNat 32 a.val) :
    k0_pay19 i x0 x3 (ix2 r 0) = BitVec.ofNat 32 a.val := by
  rw [← ha]
  unfold k0_pay19 k0_pay18
  generalize k0_pay17 i x0 x3 = s
  pointwise []
  rw [low]

theorem sel1_at (a : Fin 16) (ha : k0_pay19 i x0 x3 (ix2 r 0) = BitVec.ofNat 32 a.val) (n : Fin 16) :
    k0_pay20 i x0 x3 (ix2 r n) = if n = a ∧ ⊥ < k0_pay18 i x0 x3 (ix2 r 0) then 1 else 0 := by
  unfold k0_pay20
  pointwise []
  rw [ha, low, select_and]

theorem drop1_at (a : Fin 16) (ha : k0_pay19 i x0 x3 (ix2 r 0) = BitVec.ofNat 32 a.val) (n : Fin 16) :
    k0_pay21 i x0 x3 (ix2 r n) = drop (fun n => k0_pay17 i x0 x3 (ix2 r n)) a n := by
  unfold k0_pay21
  pointwise []
  rw [ha, low, select_eq]
  rfl

theorem max2_at : k0_pay22 i x0 x3 (ix2 r 0) = Finset.univ.fold max ⊥ (fun n => k0_pay21 i x0 x3 (ix2 r n)) := by
  unfold k0_pay22
  generalize k0_pay21 i x0 x3 = s
  pointwise []
  rw [low]

theorem first2_at (a : Fin 16) (ha : Finset.univ.fold IntOp.minsi (2147483647#32) (fun n : Fin 16 =>
      if k0_pay21 i x0 x3 (ix2 r n) = Finset.univ.fold max ⊥ (fun n => k0_pay21 i x0 x3 (ix2 r n)) then BitVec.ofNat 32 n.val else 16#32) = BitVec.ofNat 32 a.val) :
    k0_pay23 i x0 x3 (ix1 r) = BitVec.ofNat 32 a.val := by
  rw [← ha]
  unfold k0_pay23 k0_pay22
  generalize k0_pay21 i x0 x3 = s
  pointwise []
  rw [low]

theorem third_at (s20 s21 : FVec Ideal S256x16 .f32) (s22 : FVec Ideal S256x1 .f32) (s23 : IVec S256 32) (a b : Fin 16)
    (ha : s23 (ix1 r) = BitVec.ofNat 32 a.val)
    (hb : Finset.univ.fold IntOp.minsi (2147483647#32) (fun n : Fin 16 =>
      if drop (fun n => s21 (ix2 r n)) a n = Finset.univ.fold max ⊥ (drop (fun n => s21 (ix2 r n)) a) then BitVec.ofNat 32 n.val else 16#32) = BitVec.ofNat 32 b.val)
    (n : Fin 16) :
    k0_pay24 (iota .tc S256x16 32 [1] iota_S256x16_d1_w32) s20 s21 s22 s23 (ix2 r n)
      = if n = b ∧ ⊥ < Finset.univ.fold max ⊥ (drop (fun n => s21 (ix2 r n)) a) then 1
        else if n = a ∧ ⊥ < s22 (ix2 r 0) then 1 else s20 (ix2 r n) := by
  unfold k0_pay24
  pointwise []
  simp only [ha, low, select_eq]
  have hd : (fun n : Fin 16 => if n = a then (⊥ : EReal) else s21 (ix2 r n)) = drop (fun n => s21 (ix2 r n)) a := rfl
  have hd' : ∀ n : Fin 16, (if n = a then (⊥ : EReal) else s21 (ix2 r n)) = drop (fun n => s21 (ix2 r n)) a n := fun _ => rfl
  simp only [hd, hd', hb, select_and]

/-- The marks of the chosen blocks. -/
theorem marks_at (n : Fin 16) :
    marks i x0 x3 (ix2 r n)
      = if chosen (routing (i 2).val (fun n => ∑ d : Fin 128, x0 (ix3 0 r d) * x3 (ix3 0 n d))) n then 1 else 0 := by
  have hg : routing (i 2).val (fun n => ∑ d : Fin 128, x0 (ix3 0 r d) * x3 (ix3 0 n d)) = fun n => k0_pay17 i x0 x3 (ix2 r n) :=
    funext fun n => (routing_at i x0 x3 r n).symm
  rw [hg]
  obtain ⟨a₁, f₁, e₁⟩ := first_of (fun n => k0_pay17 i x0 x3 (ix2 r n)) _ rfl
  have h19 := first1_at i x0 x3 r a₁ e₁
  have h21 : (fun n => k0_pay21 i x0 x3 (ix2 r n)) = drop (fun n => k0_pay17 i x0 x3 (ix2 r n)) a₁ := funext (drop1_at i x0 x3 r a₁ h19)
  obtain ⟨a₂, f₂, e₂⟩ := first_of (fun n => k0_pay21 i x0 x3 (ix2 r n)) _ rfl
  have h23 := first2_at i x0 x3 r a₂ e₂
  obtain ⟨a₃, f₃, e₃⟩ := first_of (drop (fun n => k0_pay21 i x0 x3 (ix2 r n)) a₂) _ rfl
  unfold marks
  rw [third_at r _ _ _ _ a₂ a₃ h23 e₃ n, sel1_at i x0 x3 r a₁ h19 n, max1_at, max2_at]
  rw [h21] at f₂ f₃
  have h := rounds_iff f₁ f₂ f₃ n
  rw [h21]
  unfold chosen
  by_cases hc : ⊥ < k0_pay17 i x0 x3 (ix2 r n) ∧ rank (fun n => k0_pay17 i x0 x3 (ix2 r n)) n < 3
  · rw [if_pos hc]
    rcases h.mpr hc with h | h | h <;> split_ifs <;> first | rfl | contradiction
  · rw [if_neg hc]
    have h' := mt h.mp hc
    simp only [not_or] at h'
    rw [if_neg h'.2.2, if_neg h'.2.1, if_neg h'.1]

end Marks

/-! ## The loop at one element -/

theorem piece_at (x : Vec Ideal S1x4096x128 .bf16) (n : Nat) (hn : n < 16) (j : Fin 256) (d : Fin 128) :
    piece x n hn (ix3 0 j d) = x (ix3 0 ⟨256 * n + j.val, by omega⟩ d) := by
  unfold Block.piece
  refine congrArg x (funext fun a => Fin.ext ?_)
  match a with
  | ⟨0, _⟩ => show 0 + 1 * 0 = 0; omega
  | ⟨1, _⟩ => show 256 * n + 1 * j.val = 256 * n + j.val; omega
  | ⟨2, _⟩ => show 0 + 1 * d.val = d.val; omega

theorem own_at (x0 y : Vec Ideal S1x256x128 .bf16) (r j : Fin 256) :
    k0_pay25 (k0_pay16 x0) y (ix2 r j) = if j.val ≤ r.val then ∑ d : Fin 128, x0 (ix3 0 r d) * y (ix3 0 j d) else ⊥ := by
  unfold k0_pay25 k0_pay16
  pointwise []
  rw [WordCmp.cmpi_sle_ofNat (by omega) (by omega), Scalar.select_decide, low]

theorem max0_at (v1 : FVec Ideal S256x128 .bf16) (y : Vec Ideal S1x256x128 .bf16) (r : Fin 256) :
    k0_pay26 v1 y (ix2 r 0) = Finset.univ.fold max ⊥ (fun j => k0_pay25 v1 y (ix2 r j)) := by
  unfold k0_pay26
  generalize k0_pay25 v1 y = s
  pointwise []
  rw [low]

theorem exp0_at (v1 : FVec Ideal S256x128 .bf16) (y : Vec Ideal S1x256x128 .bf16) (r j : Fin 256) :
    k0_pay27 v1 y (ix2 r j) = Ideal.exp (k0_pay25 v1 y (ix2 r j) - k0_pay26 v1 y (ix2 r 0)) := by
  unfold k0_pay27
  pointwise []

theorem sum0_at (p : FVec Ideal S256x256 .f32) (r : Fin 256) : k0_pay1 p (ix2 r 0) = (∑ j : Fin 256, p (ix2 r j) : EReal) := by
  unfold k0_pay1
  pointwise []

theorem acc0_at (p : FVec Ideal S256x256 .f32) (y : Vec Ideal S1x256x128 .bf16) (r : Fin 256) (e : Fin 128) :
    k0_pay2 p y (ix2 r e) = (∑ j : Fin 256, p (ix2 r j) * y (ix3 0 j e) : EReal) := by
  unfold k0_pay2
  pointwise []

section Trip
variable (i : grid0.Coords) (v1 : FVec Ideal S256x128 .bf16) (v6 : IVec S256x16 32) (v67 : FVec Ideal S256x16 .f32)
  (k : Fin (k0_t1_loop i).trips) (m l : FVec Ideal S256x1 .f32) (acc : FVec Ideal S256x128 .f32) (y y' : Vec Ideal S1x256x128 .bf16) (r : Fin 256)

theorem maxK_at : k0_pay4 i v1 v6 v67 k m y (ix2 r 0) = max (m (ix2 r 0)) (Finset.univ.fold max ⊥ (fun j => k0_pay3 i v1 v6 v67 k y (ix2 r j))) := by
  unfold k0_pay4
  generalize k0_pay3 i v1 v6 v67 k y = s
  pointwise []
  rw [low]

theorem sumK_at : k0_pay7 i v1 v6 v67 k m l y (ix2 r 0)
    = Ideal.exp (m (ix2 r 0) - k0_pay4 i v1 v6 v67 k m y (ix2 r 0)) * l (ix2 r 0)
      + ∑ j : Fin 256, Ideal.exp (k0_pay3 i v1 v6 v67 k y (ix2 r j) - k0_pay4 i v1 v6 v67 k m y (ix2 r 0)) := by
  unfold k0_pay7 k0_pay5 k0_pay6
  generalize k0_pay4 i v1 v6 v67 k m y = s4
  generalize k0_pay3 i v1 v6 v67 k y = s
  pointwise []

theorem accK_at (e : Fin 128) : k0_pay8 i v1 v6 v67 k m acc y y' (ix2 r e)
    = Ideal.exp (m (ix2 r 0) - k0_pay4 i v1 v6 v67 k m y (ix2 r 0)) * acc (ix2 r e)
      + ∑ j : Fin 256, Ideal.exp (k0_pay3 i v1 v6 v67 k y (ix2 r j) - k0_pay4 i v1 v6 v67 k m y (ix2 r 0)) * y' (ix3 0 j e) := by
  unfold k0_pay8 k0_pay5 k0_pay6
  generalize k0_pay4 i v1 v6 v67 k m y = s4
  generalize k0_pay3 i v1 v6 v67 k y = s
  pointwise []

theorem iv_eq (n : ℕ) : Scf.iv (0#32) 1#32 n = BitVec.ofNat 32 n := by
  unfold Scf.iv
  simp

/-- A trip's scores: those of its block, low unless the block is marked. -/
theorem scoreK_at (x0 : Vec Ideal S1x256x128 .bf16) (c : Prop) (hk : k.val < 16)
    (hc : v67 (ix2 r ⟨k.val, hk⟩) = if c then (1 : EReal) else 0) (j : Fin 256) :
    k0_pay3 i (k0_pay16 x0) (iota .tc S256x16 32 [1] iota_S256x16_d1_w32) v67 k y (ix2 r j)
      = if c then ∑ d : Fin 128, x0 (ix3 0 r d) * y (ix3 0 j d) else ⊥ := by
  unfold k0_pay3 k0_pay16
  pointwise []
  rw [iv_eq, low]
  have e : (∑ x : Fin 16, Scalar.select (IntOp.cmpi .eq (BitVec.ofNat 32 x.val) (BitVec.ofNat 32 k.val)) (v67 (ix2 r x)) (0 : EReal))
      = if c then 1 else 0 := by
    have h : ∀ x : Fin 16, Scalar.select (IntOp.cmpi .eq (BitVec.ofNat 32 x.val) (BitVec.ofNat 32 k.val)) (v67 (ix2 r x)) (0 : EReal)
        = if x = ⟨k.val, hk⟩ then v67 (ix2 r x) else 0 := fun x => select_eq x ⟨k.val, hk⟩ _ _
    simp only [h, Finset.sum_ite_eq', Finset.mem_univ, if_true, hc]
  rw [e]
  by_cases h : c
  · rw [if_pos h, if_pos h, if_pos (by exact zero_lt_one)]
  · rw [if_neg h, if_neg h, if_neg (lt_irrefl _)]

end Trip

theorem quot_at (l : FVec Ideal S256x1 .f32) (acc : FVec Ideal S256x128 .f32) (r : Fin 256) (e : Fin 128) :
    k0_pay15 l acc (ix3 0 r e) = Ideal.div (acc (ix2 r e)) (l (ix2 r 0)) := by
  unfold k0_pay15
  pointwise []

section Point
variable (i : grid0.Coords) (x0 : Vec Ideal S1x256x128 .bf16) (x1 x2 : Vec Ideal S1x4096x128 .bf16) (x3 : Vec Ideal S1x16x128 .f32) (r : Fin 256) (e : Fin 128)
  (sc v : Fin 4096 → EReal) (g : Fin 16 → EReal)
  (hsc : ∀ k, ∑ d : Fin 128, x0 (ix3 0 r d) * x1 (ix3 0 k d) = sc k) (hv : ∀ k, x2 (ix3 0 k e) = v k)
  (hg : ∀ n, ∑ d : Fin 128, x0 (ix3 0 r d) * x3 (ix3 0 n d) = g n)

include hsc in
theorem first_score (j : Fin 256) :
    k0_pay25 (k0_pay16 x0) (piece x1 (i 2).val (own_lt i)) (ix2 r j) = blockScore (i 2).val r.val (routing (i 2).val g) sc (i 2).val j := by
  rw [own_at]
  simp only [piece_at, hsc]
  unfold blockScore
  rw [dif_pos (own_lt i)]
  have hno : ¬chosen (routing (i 2).val g) ⟨(i 2).val, own_lt i⟩ := fun h => by
    have := h.1
    unfold routing at this
    rw [if_neg (lt_irrefl _)] at this
    exact lt_irrefl _ this
  by_cases h : j.val ≤ r.val
  · rw [if_pos h, if_pos (Or.inr ⟨rfl, h⟩)]
  · rw [if_neg h, if_neg (by rintro (h' | h'); exacts [hno h', h h'.2])]

include hsc hg in
theorem trip_score (n : ℕ) (hn : n < (k0_t1_loop i).trips) (h16 : n < 16) (j : Fin 256) :
    k0_pay3 i (k0_pay16 x0) (iota .tc S256x16 32 [1] iota_S256x16_d1_w32) (marks i x0 x3) ⟨n, hn⟩ (piece x1 n h16) (ix2 r j)
      = blockScore (i 2).val r.val (routing (i 2).val g) sc n j := by
  have hg' : (fun n => ∑ d : Fin 128, x0 (ix3 0 r d) * x3 (ix3 0 n d)) = g := funext hg
  rw [scoreK_at i _ _ _ r x0 (chosen (routing (i 2).val g) ⟨n, h16⟩) h16 (by rw [marks_at, hg'])]
  simp only [piece_at, hsc]
  unfold blockScore
  rw [dif_pos h16]
  have hne : ¬n = (i 2).val := by rw [trips1] at hn; omega
  by_cases h : chosen (routing (i 2).val g) ⟨n, h16⟩
  · rw [if_pos h, if_pos (Or.inl h)]
  · rw [if_neg h, if_neg (by rintro (h' | h'); exacts [h h', hne h'.1])]

include hv in
theorem val_at (n : ℕ) (h16 : n < 16) (j : Fin 256) : piece x2 n h16 (ix3 0 j e) = blockVal v n j := by
  rw [piece_at, hv]
  unfold blockVal
  rw [dif_pos h16]

include hsc hv hg in
/-- What the point stores at one element. -/
theorem out_at (hreal : ∀ k, Real' (sc k)) :
    k0_pay15 (loopV i x0 x1 x2 x3 (i 2).val).2.1 (loopV i x0 x1 x2 x3 (i 2).val).2.2 (ix3 0 r e)
      = row (i 2).val r.val (routing (i 2).val g) sc v := by
  have ho := own_lt i
  rw [quot_at]
  have z1 : (loopV i x0 x1 x2 x3 0).1 = k0_pay26 (k0_pay16 x0) (piece x1 (i 2).val ho) := by rw [loopV_zero, firstV]
  have z2 : (loopV i x0 x1 x2 x3 0).2.1 = k0_pay1 (k0_pay27 (k0_pay16 x0) (piece x1 (i 2).val ho)) := by rw [loopV_zero, firstV]
  have z3 : (loopV i x0 x1 x2 x3 0).2.2 = k0_pay2 (k0_pay27 (k0_pay16 x0) (piece x1 (i 2).val ho)) (piece x2 (i 2).val ho) := by rw [loopV_zero, firstV]
  refine row_of_loop (i 2).val r.val ho r.isLt g sc v hreal (fun n => (loopV i x0 x1 x2 x3 n).1 (ix2 r 0))
    (fun n => (loopV i x0 x1 x2 x3 n).2.1 (ix2 r 0)) (fun n => (loopV i x0 x1 x2 x3 n).2.2 (ix2 r e)) ?_ ?_ ?_ ?_ ?_ ?_
  · dsimp only
    rw [z1, max0_at]
    simp only [first_score i x0 x1 r sc g hsc]
  · dsimp only
    rw [z1, z2, sum0_at]
    simp only [exp0_at, first_score i x0 x1 r sc g hsc]
  · dsimp only
    rw [z1, z3, acc0_at]
    simp only [exp0_at, first_score i x0 x1 r sc g hsc, val_at x2 e v hv]
  · intro n hn
    have ht : n < (k0_t1_loop i).trips := lt_of_lt_of_eq hn (trips1 i).symm
    show (loopV i x0 x1 x2 x3 (n + 1)).1 (ix2 r 0) = _
    rw [loopV_succ i x0 x1 x2 x3 n ht]
    show k0_pay4 i _ _ _ ⟨n, ht⟩ _ (piece x1 n (lt_trans hn ho)) (ix2 r 0) = _
    rw [maxK_at]
    simp only [trip_score i x0 x1 x3 r sc g hsc hg]
  · intro n hn
    have ht : n < (k0_t1_loop i).trips := lt_of_lt_of_eq hn (trips1 i).symm
    show (loopV i x0 x1 x2 x3 (n + 1)).2.1 (ix2 r 0) = Ideal.exp (_ - (loopV i x0 x1 x2 x3 (n + 1)).1 (ix2 r 0)) * _
      + ∑ j, Ideal.exp (_ - (loopV i x0 x1 x2 x3 (n + 1)).1 (ix2 r 0))
    rw [loopV_succ i x0 x1 x2 x3 n ht]
    show k0_pay7 i _ _ _ ⟨n, ht⟩ _ _ (piece x1 n (lt_trans hn ho)) (ix2 r 0) = Ideal.exp (_ - k0_pay4 i _ _ _ ⟨n, ht⟩ _ (piece x1 n (lt_trans hn ho)) (ix2 r 0)) * _
      + ∑ j, Ideal.exp (_ - k0_pay4 i _ _ _ ⟨n, ht⟩ _ (piece x1 n (lt_trans hn ho)) (ix2 r 0))
    rw [sumK_at]
    simp only [trip_score i x0 x1 x3 r sc g hsc hg]
  · intro n hn
    have ht : n < (k0_t1_loop i).trips := lt_of_lt_of_eq hn (trips1 i).symm
    show (loopV i x0 x1 x2 x3 (n + 1)).2.2 (ix2 r e) = Ideal.exp (_ - (loopV i x0 x1 x2 x3 (n + 1)).1 (ix2 r 0)) * _
      + ∑ j, Ideal.exp (_ - (loopV i x0 x1 x2 x3 (n + 1)).1 (ix2 r 0)) * _
    rw [loopV_succ i x0 x1 x2 x3 n ht]
    show k0_pay8 i _ _ _ ⟨n, ht⟩ _ _ (piece x1 n (lt_trans hn ho)) (piece x2 n (lt_trans hn ho)) (ix2 r e)
      = Ideal.exp (_ - k0_pay4 i _ _ _ ⟨n, ht⟩ _ (piece x1 n (lt_trans hn ho)) (ix2 r 0)) * _
      + ∑ j, Ideal.exp (_ - k0_pay4 i _ _ _ ⟨n, ht⟩ _ (piece x1 n (lt_trans hn ho)) (ix2 r 0)) * _
    rw [accK_at]
    simp only [trip_score i x0 x1 x3 r sc g hsc hg, val_at x2 e v hv]

end Point

end Cert.MobaKernelIdeal.Tile
-- ==== Proof.MobaSpec.lean ====
/-
  The block attention of the whole layer at one element, by the rows of its heads.
-/
module
public import proofs.«01_k».proof.Proof.MobaRow
public import Idealize.ShloMosaic.Lib.ValueIdx

@[expose] public section
noncomputable section
open Idealize.ShloMosaic
namespace Cert.Moba

/-- A column of a head. -/
def col (h : Fin 4) (d : Fin 128) : Fin 512 := ⟨128 * h.val + d.val, by omega⟩

/-- The attention of one query of one head, at one of the head's columns. -/
def attend (q k v : Fin 8 → Fin 4096 → Fin 512 → EReal) (km : Fin 8 → Fin 16 → Fin 512 → EReal)
    (b : Fin 8) (h : Fin 4) (own : Fin 16) (r : Fin 256) (e : Fin 128) : EReal :=
  row own.val r.val
    (routing own.val fun n => ∑ d : Fin 128, q b ⟨256 * own.val + r.val, by omega⟩ (col h d) * km b n (col h d))
    (fun j => ∑ d : Fin 128, q b ⟨256 * own.val + r.val, by omega⟩ (col h d) * k b j (col h d))
    (fun j => v b j (col h e))

end Cert.Moba
end
-- ==== Proof.MobaArray.lean ====
/-
  The block attention's result array at one element. A grid point holds one block of queries of one head of one batch entry.
-/
module
public import proofs.«01_k».proof.Proof.Gen.MobaKernelIdeal.Value
public import proofs.«01_k».proof.Proof.MobaTile
public import proofs.«01_k».proof.Proof.MobaSpec
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
namespace Cert.MobaKernelIdeal.Array
open Cert.MobaKernelIdeal Cert.MobaKernelIdeal.Gen Cert.MobaKernelIdeal.Block Cert.Moba
open Cert.Merge (Real' real_mul real_sum)
open Idealize.ShloMosaic.Pipeline (Dat)

variable (m : (ℓ : Loc nD τ sig) → Buf (Elt Ideal) ℓ) (c : Dev nD)

theorem index_facts : ∀ t : Fin cfg0.N,
    (win0_0.index t = ![t.val / 64, t.val % 16, t.val / 16 % 4] ∧ win0_1.index t = ![t.val / 64, 0, t.val / 16 % 4])
    ∧ (win0_2.index t = ![t.val / 64, 0, t.val / 16 % 4] ∧ win0_3.index t = ![t.val / 64, 0, t.val / 16 % 4])
    ∧ win0_4.index t = ![t.val / 64, t.val % 16, t.val / 16 % 4] ∧ (grid0.coords t 2).val = t.val % 16 ∧ win0_4.flush t = true :=
  (by decide +kernel : ∀ t : Fin grid0.N, _)

theorem pt_lt (t : Fin cfg0.N) : t.val < 512 := lt_of_lt_of_eq t.isLt N_0

def bat (t : Fin cfg0.N) : Fin 8 := ⟨t.val / 64, by have := pt_lt t; omega⟩
def tok (t : Fin cfg0.N) (r : Fin 256) : Fin 4096 := ⟨256 * (t.val % 16) + r.val, by omega⟩
def hd (t : Fin cfg0.N) : Fin 4 := ⟨t.val / 16 % 4, by omega⟩

theorem blk0 (t : Fin cfg0.N) (r : Fin 256) (d : Fin 128) :
    iblk m c 0 t (ix3 0 r d) = m ((c : Thread nD τ).loc main_arg0) (ix3 (bat t) (tok t r) (col (hd t) d)) := by
  obtain ⟨⟨e, -⟩, -⟩ := index_facts t
  blk_simp [iblk]
  rw [V_main_arg0]
  refine congrArg _ (funext fun a => Fin.ext ?_)
  match a with
  | ⟨0, _⟩ => blk_simp [e]; exact Nat.add_zero _
  | ⟨1, _⟩ => blk_simp [e]; show t.val % 16 * 256 + r.val = 256 * (t.val % 16) + r.val; omega
  | ⟨2, _⟩ => blk_simp [e]; show t.val / 16 % 4 * 128 + d.val = 128 * (t.val / 16 % 4) + d.val; omega

theorem blk1 (t : Fin cfg0.N) (k : Fin 4096) (d : Fin 128) :
    iblk m c 1 t (ix3 0 k d) = m ((c : Thread nD τ).loc main_arg1) (ix3 (bat t) k (col (hd t) d)) := by
  obtain ⟨⟨-, e⟩, -⟩ := index_facts t
  blk_simp [iblk]
  rw [V_main_arg1]
  refine congrArg _ (funext fun a => Fin.ext ?_)
  match a with
  | ⟨0, _⟩ => blk_simp [e]; exact Nat.add_zero _
  | ⟨1, _⟩ => blk_simp [e]
  | ⟨2, _⟩ => blk_simp [e]; show t.val / 16 % 4 * 128 + d.val = 128 * (t.val / 16 % 4) + d.val; omega

theorem blk2 (t : Fin cfg0.N) (k : Fin 4096) (d : Fin 128) :
    iblk m c 2 t (ix3 0 k d) = m ((c : Thread nD τ).loc main_arg2) (ix3 (bat t) k (col (hd t) d)) := by
  obtain ⟨-, ⟨e, -⟩, -⟩ := index_facts t
  blk_simp [iblk]
  rw [V_main_arg2]
  refine congrArg _ (funext fun a => Fin.ext ?_)
  match a with
  | ⟨0, _⟩ => blk_simp [e]; exact Nat.add_zero _
  | ⟨1, _⟩ => blk_simp [e]
  | ⟨2, _⟩ => blk_simp [e]; show t.val / 16 % 4 * 128 + d.val = 128 * (t.val / 16 % 4) + d.val; omega

theorem blk3 (t : Fin cfg0.N) (n : Fin 16) (d : Fin 128) :
    iblk m c 3 t (ix3 0 n d) = m ((c : Thread nD τ).loc main_arg3) (ix3 (bat t) n (col (hd t) d)) := by
  obtain ⟨-, ⟨-, e⟩, -⟩ := index_facts t
  blk_simp [iblk]
  rw [V_main_arg3]
  refine congrArg _ (funext fun a => Fin.ext ?_)
  match a with
  | ⟨0, _⟩ => blk_simp [e]; exact Nat.add_zero _
  | ⟨1, _⟩ => blk_simp [e]
  | ⟨2, _⟩ => blk_simp [e]; show t.val / 16 % 4 * 128 + d.val = 128 * (t.val / 16 % 4) + d.val; omega

/-- The attention of the launch's arguments. -/
def resAt (b : Fin 8) (h : Fin 4) (own : Fin 16) (r : Fin 256) (e : Fin 128) : EReal :=
  attend (fun b s j => m ((c : Thread nD τ).loc main_arg0) (ix3 b s j)) (fun b s j => m ((c : Thread nD τ).loc main_arg1) (ix3 b s j))
    (fun b s j => m ((c : Thread nD τ).loc main_arg2) (ix3 b s j)) (fun b n j => m ((c : Thread nD τ).loc main_arg3) (ix3 b n j)) b h own r e

section Real
variable (hq : ∀ b s j, Real' (m ((c : Thread nD τ).loc main_arg0) (ix3 b s j))) (hk : ∀ b s j, Real' (m ((c : Thread nD τ).loc main_arg1) (ix3 b s j)))

include hq hk in
/-- What a point stores at one element of its tile. -/
theorem tile_at (t : Fin cfg0.N) (r : Fin 256) (e : Fin 128) (own : Fin 16) (ho : (grid0.coords t 2).val = own.val) (hown : t.val % 16 = own.val) :
    out0_A_4 c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) (ix3 0 r e)
      = resAt m c (bat t) (hd t) own r e := by
  have et : tok t r = ⟨256 * own.val + r.val, by omega⟩ := Fin.ext (by show 256 * (t.val % 16) + r.val = _; rw [hown])
  rw [out_eq]
  refine (Tile.out_at (grid0.coords t) _ _ _ _ r e _ _ _ (fun k => rfl) (fun k => rfl) (fun n => rfl) ?_).trans ?_
  · intro k
    refine real_sum _ _ fun d => ?_
    rw [blk0, blk1]
    exact real_mul (hq _ _ _) (hk _ _ _)
  · rw [ho]
    simp only [blk0, blk1, blk2, blk3, et]
    rfl

theorem mem_blk4 (t : Fin cfg0.N) (i : S8x4096x512.Idx) :
    i ∈ ((cfg0.win 4).blk t).view.set ↔ ∀ a : Fin 3, win0_4.index t a * S1x256x128.size a ≤ (i a).val ∧ (i a).val < win0_4.index t a * S1x256x128.size a + S1x256x128.size a := by
  show i ∈ ((View.whole main_v0).slice (win0_4.rect t)).set ↔ _
  rw [View.set_slice_whole, Rect.mem_set_unit]
  exact Iff.rfl

/-- The attention at an index of the result. -/
def whole (i : S8x4096x512.Idx) : EReal :=
  resAt m c (i 0) ⟨(i 2).val / 128, Nat.div_lt_of_lt_mul (i 2).isLt⟩ ⟨(i 1).val / 256, Nat.div_lt_of_lt_mul (i 1).isLt⟩
    ⟨(i 1).val % 256, Nat.mod_lt _ (by decide)⟩ ⟨(i 2).val % 128, Nat.mod_lt _ (by decide)⟩

include hq hk in
/-- The result array. -/
theorem result_eq : (dats m 0 c).arrAt 4 cfg0.N = whole m c := by
  refine (dats m 0 c).arrAt_eq_of_cover 4 _ (fun t _ => ?_) (fun i => ?_)
  · rw [Cert.MobaKernelIdeal.Value.flushed4_A]
    obtain ⟨-, -, e, e2, -⟩ := index_facts t
    funext y
    have hy0 : (y 0).val < 1 := (y 0).isLt
    have hy1 : (y 1).val < 256 := (y 1).isLt
    have hy2 : (y 2).val < 128 := (y 2).isLt
    have hb0 : (((cfg0.win 4).blk t).view.emb y 0).val = win0_4.index t (0 : Fin 3) * 1 + 1 * (y 0).val := rfl
    have hb1 : (((cfg0.win 4).blk t).view.emb y 1).val = win0_4.index t (1 : Fin 3) * 256 + 1 * (y 1).val := rfl
    have hb2 : (((cfg0.win 4).blk t).view.emb y 2).val = win0_4.index t (2 : Fin 3) * 128 + 1 * (y 2).val := rfl
    have q0 : win0_4.index t (0 : Fin 3) = t.val / 64 := congrFun e 0
    have q1 : win0_4.index t (1 : Fin 3) = t.val % 16 := congrFun e 1
    have q2 : win0_4.index t (2 : Fin 3) = t.val / 16 % 4 := congrFun e 2
    have hy : (cfg0.win 4).xinj (grid0.coords t) y = ix3 0 (⟨(y 1).val, hy1⟩ : Fin 256) (⟨(y 2).val, hy2⟩ : Fin 128) := by
      funext a
      match a with
      | ⟨0, _⟩ => exact Subsingleton.elim (α := Fin 1) _ _
      | ⟨1, _⟩ => rfl
      | ⟨2, _⟩ => rfl
    show out0_A_4 c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) ((cfg0.win 4).xinj (grid0.coords t) y) = whole m c (((cfg0.win 4).blk t).view.emb y)
    rw [hy, tile_at m c hq hk t _ _ ⟨t.val % 16, by omega⟩ e2 rfl]
    unfold whole
    congr 1
    · exact Fin.ext (by rw [hb0, q0]; show t.val / 64 = _; omega)
    · exact Fin.ext (by show t.val / 16 % 4 = (((cfg0.win 4).blk t).view.emb y 2).val / 128; rw [hb2, q2]; omega)
    · exact Fin.ext (by show t.val % 16 = (((cfg0.win 4).blk t).view.emb y 1).val / 256; rw [hb1, q1]; omega)
    · exact Fin.ext (by show (y 1).val = (((cfg0.win 4).blk t).view.emb y 1).val % 256; rw [hb1, q1]; omega)
    · exact Fin.ext (by show (y 2).val = (((cfg0.win 4).blk t).view.emb y 2).val % 128; rw [hb2, q2]; omega)
  · have hi0 : (i 0).val < 8 := (i 0).isLt
    have hi1 : (i 1).val < 4096 := (i 1).isLt
    have hi2 : (i 2).val < 512 := (i 2).isLt
    have hlt : 64 * (i 0).val + 16 * ((i 2).val / 128) + (i 1).val / 256 < cfg0.N := lt_of_lt_of_eq (by omega) N_0.symm
    obtain ⟨-, -, e, -, hf⟩ := index_facts ⟨64 * (i 0).val + 16 * ((i 2).val / 128) + (i 1).val / 256, hlt⟩
    refine ⟨⟨64 * (i 0).val + 16 * ((i 2).val / 128) + (i 1).val / 256, hlt⟩, hf, ?_⟩
    rw [mem_blk4, e]
    dsimp only
    intro a
    match a with
    | ⟨0, _⟩ => show (64 * (i 0).val + 16 * ((i 2).val / 128) + (i 1).val / 256) / 64 * 1 ≤ (i 0).val ∧ (i 0).val < (64 * (i 0).val + 16 * ((i 2).val / 128) + (i 1).val / 256) / 64 * 1 + 1; omega
    | ⟨1, _⟩ => show (64 * (i 0).val + 16 * ((i 2).val / 128) + (i 1).val / 256) % 16 * 256 ≤ (i 1).val ∧ (i 1).val < (64 * (i 0).val + 16 * ((i 2).val / 128) + (i 1).val / 256) % 16 * 256 + 256; omega
    | ⟨2, _⟩ => show (64 * (i 0).val + 16 * ((i 2).val / 128) + (i 1).val / 256) / 16 % 4 * 128 ≤ (i 2).val ∧ (i 2).val < (64 * (i 0).val + 16 * ((i 2).val / 128) + (i 1).val / 256) / 16 % 4 * 128 + 128; omega

end Real

end Cert.MobaKernelIdeal.Array
-- ==== Proof.MobaRef.lean ====
/-
  The block attention reference at one element, by its generated reading lemmas.
-/
module
public import proofs.«01_k».proof.Proof.Gen.MobaReferenceIdeal.Read
public import proofs.«01_k».proof.Proof.MobaSpec
public import proofs.«01_k».proof.Proof.Finite
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
open scoped Classical
namespace Cert.MobaReferenceIdeal.Rows
open Cert.MobaReferenceIdeal Cert.MobaReferenceIdeal.Read Cert.Moba
open Cert.Merge (word word_low Real' real_mul real_sum)

theorem low : Ideal.ofBits .f32 4286578688#32 = (⊥ : EReal) := word_low

theorem low' (i : S_.Idx) : constant (F := Ideal) S_ .f32 4286578688#32 i = (⊥ : EReal) := word_low

theorem col_eq (h : Fin 4) (d : Fin 128) (hp : h.val * 128 + d.val < 512) : (⟨h.val * 128 + d.val, hp⟩ : Fin 512) = col h d :=
  Fin.ext (by show h.val * 128 + d.val = 128 * h.val + d.val; omega)

/-- A query's block. -/
theorem block_of (s : Fin 4096) : IntOp.divsi .host (BitVec.ofNat 32 s.val) 256#32 = BitVec.ofNat 32 (s.val / 256) := by
  revert s
  decide +kernel

theorem own_at (s : Fin 4096) : val_main_v13 (F := Ideal) (ix1 s) = BitVec.ofNat 32 (s.val / 256) := by
  unfold val_main_v13 val_main_v12 val_main_v11 val_main_c
  pointwise []
  exact block_of s

theorem past_at (s : Fin 4096) (n : Fin 16) : val_main_v19 (F := Ideal) (ix2 s n) = BitVec.ofBool (decide (n.val < s.val / 256)) := by
  have h := own_at s
  unfold val_main_v19 val_main_v18 val_main_v17 val_main_v16 val_main_v15 val_main_v14
  generalize val_main_v13 (F := Ideal) = y at h ⊢
  pointwise []
  rw [h, WordCmp.cmpi_slt_ofNat (by omega) (by omega)]

variable (x0 x1 x2 : (⟨S8x4096x512, .bf16⟩ : BufTy).Contents (Elt Ideal)) (x3 : (⟨S8x16x512, .f32⟩ : BufTy).Contents (Elt Ideal))
variable (b : Fin 8) (h : Fin 4) (s : Fin 4096)

theorem q_at (d : Fin 128) : val_main_v2 x0 (ix4 b h s d) = x0 (ix3 b s (col h d)) := by
  unfold val_main_v2 val_main_v1 val_main_v0
  pointwise []
  rw [col_eq]

theorem k_at (d : Fin 128) : val_main_v5 x1 (ix4 b h s d) = x1 (ix3 b s (col h d)) := by
  unfold val_main_v5 val_main_v4 val_main_v3
  pointwise []
  rw [col_eq]

theorem v_at (d : Fin 128) : val_main_v8 x2 (ix4 b h s d) = x2 (ix3 b s (col h d)) := by
  unfold val_main_v8 val_main_v7 val_main_v6
  pointwise []
  rw [col_eq]

theorem mean_at (n : Fin 16) (d : Fin 128) : val_main_v10 x3 (ix4 b h n d) = x3 (ix3 b n (col h d)) := by
  unfold val_main_v10 val_main_v9
  pointwise []
  rw [col_eq]

theorem gate_at (n : Fin 16) : val_main_v20 x0 x3 (ix4 b h s n) = ∑ d : Fin 128, x0 (ix3 b s (col h d)) * x3 (ix3 b n (col h d)) := by
  have e := fun d => q_at x0 b h s d
  have e' := fun d => mean_at x3 b h n d
  unfold val_main_v20
  generalize val_main_v2 x0 = y at e ⊢
  generalize val_main_v10 x3 = z at e' ⊢
  pointwise []
  simp only [e, e']

theorem dot_at (k : Fin 4096) : val_main_v59 x0 x1 (ix4 b h s k) = ∑ d : Fin 128, x0 (ix3 b s (col h d)) * x1 (ix3 b k (col h d)) := by
  have e := fun d => q_at x0 b h s d
  have e' := fun d => k_at x1 b h k d
  unfold val_main_v59
  generalize val_main_v2 x0 = y at e ⊢
  generalize val_main_v5 x1 = z at e' ⊢
  pointwise []
  simp only [e, e']

theorem routing_at (n : Fin 16) : val_main_v21 x0 x3 (ix4 b h s n)
    = routing (s.val / 256) (fun n => ∑ d : Fin 128, x0 (ix3 b s (col h d)) * x3 (ix3 b n (col h d))) n := by
  have e := gate_at x0 x3 b h s n
  have e' := past_at s n
  unfold val_main_v21 val_main_call0_v2 val_main_call0_v1 val_main_call0_v0 val_main_cst
  generalize val_main_v20 x0 x3 = y at e ⊢
  generalize val_main_v19 (F := Ideal) = z at e' ⊢
  pointwise []
  rw [e, e', id, low', Scalar.select_decide]
  rfl

/-- The routing scores of a query's head. -/
def gates : Fin 16 → EReal := routing (s.val / 256) (fun n => ∑ d : Fin 128, x0 (ix3 b s (col h d)) * x3 (ix3 b n (col h d)))

theorem greater (a c : EReal) : (Ideal.cmp .ogt a c == 1#1) = decide (c < a) := by
  by_cases hlt : c < a <;> simp [Ideal.cmp, hlt]

/-- The sort's places: what stands `t`-th when the routing scores are sorted. -/
theorem place_at (t : Fin 3) : val_main_indices x0 x3 (ix4 b h s t)
    = BitVec.ofNat 32 (sortedFrom (fun a c => decide (gates x0 x3 b h s c < gates x0 x3 b h s a)) ⟨t.val, by omega⟩).val := by
  have e : ∀ n, val_main_v21 x0 x3 (ix4 b h s n) = gates x0 x3 b h s n := routing_at x0 x3 b h s
  unfold val_main_indices
  generalize val_main_v21 x0 x3 = y at e ⊢
  generalize gates x0 x3 b h s = g at e ⊢
  have ha : ∀ k : Fin 16, y (Shape.Idx.along (s := S8x4x4096x16) (ix4 b h s (⟨t.val, by omega⟩ : Fin 16)) (3 : Fin 4) k) = g k := fun k => by
    rw [← e k]
    refine congrArg y (funext fun a => ?_)
    match a with
    | ⟨0, _⟩ => rfl
    | ⟨1, _⟩ => rfl
    | ⟨2, _⟩ => rfl
    | ⟨3, _⟩ => rfl
  have hf : (fun k k' : Fin 16 => FloatOps.cmpfTotal (F := Ideal) (φ := .f32) CmpDirection.gt (y (Shape.Idx.along (s := S8x4x4096x16) (ix4 b h s (⟨t.val, by omega⟩ : Fin 16)) (3 : Fin 4) k))
      (y (Shape.Idx.along (s := S8x4x4096x16) (ix4 b h s (⟨t.val, by omega⟩ : Fin 16)) (3 : Fin 4) k')) == 1#1)
      = fun a c => decide (g c < g a) := by
    funext a c
    rw [ha, ha]
    exact greater _ _
  have key : ∀ p : Fin 16, BitVec.ofNat 32 ((Shape.Idx.along (s := S8x4x4096x16) (ix4 b h s (⟨t.val, by omega⟩ : Fin 16)) (3 : Fin 4) p) (3 : Fin 4)).val
      = BitVec.ofNat 32 p.val := fun p => rfl
  unfold Host.topK Host.sort2
  pointwise []
  exact (key _).trans (congrArg (fun f : Fin 16 → Fin 16 → Bool => BitVec.ofNat 32 (sortedFrom f ⟨t.val, by omega⟩).val) hf)

theorem equal_at (t : Fin 3) (n : Fin 16) : IntOp.cmpi .eq (val_main_indices x0 x3 (ix4 b h s t)) (BitVec.ofNat 32 n.val)
    = BitVec.ofBool (decide (sortedFrom (fun a c => decide (gates x0 x3 b h s c < gates x0 x3 b h s a)) ⟨t.val, by omega⟩ = n)) := by
  rw [place_at, WordCmp.cmpi_eq_ofNat (by omega) (by omega)]
  simp only [Fin.ext_iff]

theorem or_bool (p q : Prop) [Decidable p] [Decidable q] [Decidable (p ∨ q)] :
    IntOp.ori (BitVec.ofBool (decide p)) (BitVec.ofBool (decide q)) = BitVec.ofBool (decide (p ∨ q)) := by
  by_cases hp : p <;> by_cases hq : q <;> simp [hp, hq, IntOp.ori]

theorem and_bool (p q : Prop) [Decidable p] [Decidable q] [Decidable (p ∧ q)] :
    IntOp.andi (BitVec.ofBool (decide p)) (BitVec.ofBool (decide q)) = BitVec.ofBool (decide (p ∧ q)) := by
  by_cases hp : p <;> by_cases hq : q <;> simp [hp, hq, IntOp.andi]

theorem bool_congr {p q : Prop} [Decidable p] [Decidable q] (e : p ↔ q) : BitVec.ofBool (decide p) = BitVec.ofBool (decide q) := by
  rw [decide_eq_decide.mpr e]

theorem chosen_at (n : Fin 16) (hg : ∑ d : Fin 128, x0 (ix3 b s (col h d)) * x3 (ix3 b n (col h d)) ≠ (⊥ : EReal)) :
    val_main_v41 x0 x3 (ix4 b h s n) = BitVec.ofBool (decide (chosen (gates x0 x3 b h s) n)) := by
  have e := fun t => equal_at x0 x3 b h s t n
  have e' := past_at s n
  unfold val_main_v41 val_main_v40 val_main_v39 val_main_v38 val_main_v37 val_main_v36 val_main_v35 val_main_v34 val_main_v33 val_main_v32 val_main_v31
    val_main_v30 val_main_v29 val_main_v28 val_main_v27 val_main_v26 val_main_v25 val_main_v24 val_main_v23 val_main_v22 val_main_v14
  generalize val_main_indices x0 x3 = y at e ⊢
  generalize val_main_v19 (F := Ideal) = z at e' ⊢
  pointwise []
  rw [e, e, e, e', or_bool, or_bool, and_bool]
  refine bool_congr ?_
  have hs := sorted_iff (gates x0 x3 b h s) n
  have hx : ⊥ < gates x0 x3 b h s n ↔ n.val < s.val / 256 := by
    unfold gates routing
    split_ifs with hn
    · exact ⟨fun _ => hn, fun _ => bot_lt_iff_ne_bot.mpr hg⟩
    · exact ⟨fun hb => absurd hb (lt_irrefl _), fun hn' => absurd hn' hn⟩
  unfold chosen
  rw [hx, and_comm, ← hs, or_assoc]
  rfl

/-- Which keys a query's own block shows it. -/
theorem near_at (k : Fin 4096) : val_main_v52 (F := Ideal) (ix2 s k) = BitVec.ofBool (decide (k.val / 256 = s.val / 256 ∧ k.val ≤ s.val)) := by
  have e := own_at
  unfold val_main_v52 val_main_v51 val_main_v50 val_main_v49 val_main_v48 val_main_v47 val_main_v46 val_main_v45 val_main_v44 val_main_v43 val_main_v42 val_main_v11
  generalize val_main_v13 (F := Ideal) = y at e ⊢
  pointwise []
  rw [e, e, WordCmp.cmpi_eq_ofNat (by omega) (by omega), WordCmp.cmpi_sle_ofNat (by omega) (by omega), and_bool]

section Gate
variable (hg : ∀ n, ∑ d : Fin 128, x0 (ix3 b s (col h d)) * x3 (ix3 b n (col h d)) ≠ (⊥ : EReal))

include hg in
theorem seen_at (k : Fin 4096) : val_main_v58 x0 x3 (ix4 b h s k)
    = BitVec.ofBool (decide (sees (s.val / 256) (s.val % 256) (gates x0 x3 b h s) k)) := by
  have e := chosen_at x0 x3 b h s ⟨k.val / 256, by omega⟩ (hg _)
  have e' := near_at s k
  unfold val_main_v58 val_main_v57 val_main_v56 val_main_v55 val_main_v54 val_main_v53
  generalize val_main_v41 x0 x3 = y at e ⊢
  generalize val_main_v52 (F := Ideal) = z at e' ⊢
  pointwise []
  rw [e, e', or_bool]
  refine bool_congr (or_congr Iff.rfl ⟨fun hk => ⟨hk.1, ?_⟩, fun hk => ⟨hk.1, ?_⟩⟩)
  · have := hk.1; have := hk.2; omega
  · have := hk.1; have := hk.2; omega

include hg in
theorem score_at (k : Fin 4096) : val_main_v60 x0 x1 x3 (ix4 b h s k)
    = score (s.val / 256) (s.val % 256) (gates x0 x3 b h s) (fun k => ∑ d : Fin 128, x0 (ix3 b s (col h d)) * x1 (ix3 b k (col h d))) k := by
  have e := seen_at x0 x3 b h s hg k
  have e' := dot_at x0 x1 b h s k
  unfold val_main_v60 val_main_call1_v1 val_main_call1_v0 val_main_cst_0
  generalize val_main_v58 x0 x3 = y at e ⊢
  generalize val_main_v59 x0 x1 = z at e' ⊢
  pointwise []
  rw [e, e', id, low', Scalar.select_decide]
  rfl

end Gate

end Cert.MobaReferenceIdeal.Rows
end
-- ==== Proof.MobaSoft.lean ====
/-
  The block attention reference's softmax at one element, and its result.
-/
module
public import proofs.«01_k».proof.Proof.Gen.MobaReferenceIdeal.Read
public import proofs.«01_k».proof.Proof.MobaRef
public import proofs.«01_k».proof.Proof.Finite
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
open scoped Classical
namespace Cert.MobaReferenceIdeal.Rows
open Cert.MobaReferenceIdeal Cert.MobaReferenceIdeal.Gen Cert.MobaReferenceIdeal.Read Cert.Moba
open Cert.Merge (word word_low Real' real_mul real_sum)

/-- A fold over an axis, the axis's size respelled. -/
theorem fold_size {n l : ℕ} (e : n = l) (f : Fin n → EReal) (g : Fin l → EReal) (hfg : ∀ k : Fin l, f (Fin.cast e.symm k) = g k) :
    Finset.univ.fold max ⊥ f = Finset.univ.fold max ⊥ g := by
  subst e
  exact Finset.fold_congr fun k _ => hfg k

variable (x0 x1 x2 : (⟨S8x4096x512, .bf16⟩ : BufTy).Contents (Elt Ideal)) (x3 : (⟨S8x16x512, .f32⟩ : BufTy).Contents (Elt Ideal))
variable (b : Fin 8) (h : Fin 4) (s : Fin 4096)

theorem fold_at : val_main_v61 x0 x1 x3 (ix3 b h s) = Finset.univ.fold max ⊥ fun k => val_main_v60 x0 x1 x3 (ix4 b h s k) := by
  unfold val_main_v61
  have e0 : val_main_cst_1 (F := Ideal) (Shape.Idx.first h_S_) = (⊥ : EReal) := word_low
  generalize val_main_v60 x0 x1 x3 = y
  generalize val_main_cst_1 (F := Ideal) = z at e0 ⊢
  have hf : (FloatOps.maximumf (F := Ideal) (φ := .f32)) = (max : EReal → EReal → EReal) := rfl
  rw [hf]
  have hr : S8x4x4096x4096.Reduces [3] S8x4x4096 := by decide
  rw [Host.reduce_eq_fold_single (max : EReal → EReal → EReal) y z reducesTo_S8x4x4096x4096_S8x4x4096_d3 hr h_S_ (ix3 b h s), e0]
  have hl : ∀ k : Fin 4096, hr.lift (ix3 b h s) (Fin.cast (by rfl) k) = ix4 b h s k := fun k =>
    funext fun a => Fin.ext (by match a with | ⟨0, _⟩ => rfl | ⟨1, _⟩ => rfl | ⟨2, _⟩ => rfl | ⟨3, _⟩ => rfl)
  refine fold_size (by rfl) _ _ fun k => ?_
  rw [Function.comp_apply, hl]

theorem most_at : val_main_v63 x0 x1 x3 (ix3 b h s) = Finset.univ.fold max ⊥ fun k => val_main_v60 x0 x1 x3 (ix4 b h s k) := by
  have e := fold_at x0 x1 x3 b h s
  have e0 : val_main_v62 (F := Ideal) (ix3 b h s) = (⊥ : EReal) := by
    rw [val_main_v62_apply]
    exact word_low
  rw [val_main_v63_apply, e0, ← e]
  generalize val_main_v61 x0 x1 x3 (ix3 b h s) = y
  exact max_eq_right bot_le

theorem weight_at (k : Fin 4096) : val_main_v67 x0 x1 x3 (ix4 b h s k)
    = Ideal.exp (val_main_v60 x0 x1 x3 (ix4 b h s k) - val_main_v63 x0 x1 x3 (ix3 b h s)) := by
  rw [val_main_v67_apply, val_main_v66_apply, val_main_v65_apply, val_main_v64_apply]
  have i1 : idx_main_v64 (idx_main_v65 (ix4 b h s k)) = ix3 b h s :=
    funext fun a => Fin.ext (by match a with | ⟨0, _⟩ => rfl | ⟨1, _⟩ => rfl | ⟨2, _⟩ => rfl)
  rw [i1]
  generalize val_main_v60 x0 x1 x3 (ix4 b h s k) = y
  generalize val_main_v63 x0 x1 x3 (ix3 b h s) = z
  rfl

theorem total_at : val_main_v68 x0 x1 x3 (ix3 b h s) = ∑ k : Fin 4096, val_main_v67 x0 x1 x3 (ix4 b h s k) := by
  rw [val_main_v68_apply]
  have e0 : val_main_cst_3 (F := Ideal) (Shape.Idx.first h_S_) = (0 : EReal) := Ideal.ofBits_zero_f32
  rw [e0, zero_add]
  refine Finset.sum_congr rfl fun k _ => ?_
  exact congrArg (val_main_v67 x0 x1 x3) (funext fun a => Fin.ext (by match a with | ⟨0, _⟩ => rfl | ⟨1, _⟩ => rfl | ⟨2, _⟩ => rfl | ⟨3, _⟩ => rfl))

theorem share_at (k : Fin 4096) : val_main_v71 x0 x1 x3 (ix4 b h s k)
    = Ideal.div (val_main_v67 x0 x1 x3 (ix4 b h s k)) (val_main_v68 x0 x1 x3 (ix3 b h s)) := by
  unfold val_main_v71 val_main_v70 val_main_v69
  generalize val_main_v67 x0 x1 x3 = y
  generalize val_main_v68 x0 x1 x3 = z
  pointwise []

theorem soft_at (e : Fin 128) : val_main_v72 x0 x1 x2 x3 (ix4 b h s e)
    = ∑ k : Fin 4096, val_main_v71 x0 x1 x3 (ix4 b h s k) * x2 (ix3 b k (col h e)) := by
  rw [val_main_v72_apply]
  refine Finset.sum_congr rfl fun k _ => ?_
  rw [← v_at x2 b h k e]
  refine congrArg₂ (· * ·) (congrArg (val_main_v71 x0 x1 x3) ?_) (congrArg (val_main_v8 x2) ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

theorem out_at (e : Fin 128) : val_main_v75 x0 x1 x2 x3 (ix3 b s (col h e)) = val_main_v72 x0 x1 x2 x3 (ix4 b h s e) := by
  unfold val_main_v75 val_main_v74 val_main_v73
  generalize val_main_v72 x0 x1 x2 x3 = y
  pointwise []
  refine congrArg y (funext fun a => Fin.ext ?_)
  match a with
  | ⟨0, _⟩ => rfl
  | ⟨1, _⟩ => show (128 * h.val + e.val) / 128 = h.val; omega
  | ⟨2, _⟩ => rfl
  | ⟨3, _⟩ => show (128 * h.val + e.val) % 128 = e.val; omega

section Gate
variable (hg : ∀ n, ∑ d : Fin 128, x0 (ix3 b s (col h d)) * x3 (ix3 b n (col h d)) ≠ (⊥ : EReal))

include hg in
/-- The reference's result at one element. -/
theorem result_at (hsc : ∀ k : Fin 4096, Real' (∑ d : Fin 128, x0 (ix3 b s (col h d)) * x1 (ix3 b k (col h d)))) (e : Fin 128) :
    val_main_v75 x0 x1 x2 x3 (ix3 b s (col h e))
      = row (s.val / 256) (s.val % 256) (gates x0 x3 b h s) (fun k => ∑ d : Fin 128, x0 (ix3 b s (col h d)) * x1 (ix3 b k (col h d)))
          (fun k => x2 (ix3 b k (col h e))) := by
  have hown : s.val / 256 < 16 := by omega
  have hr : s.val % 256 < 256 := by omega
  have h0 := score_own _ _ hown hr _ hsc (gates x0 x3 b h s)
  have ht := score_lt_top (s.val / 256) (s.val % 256) _ hsc (gates x0 x3 b h s)
  obtain ⟨M, hM⟩ := real_fold _ ht _ h0
  rw [out_at, soft_at]
  simp only [share_at, total_at, weight_at, most_at, score_at x0 x1 x3 b h s hg]
  rw [hM, quot_of_softmax _ _ ht _ h0 M]
  exact row_eq _ _ hown hr _ _ hsc _ M

end Gate

end Cert.MobaReferenceIdeal.Rows
end
-- ==== Proof.MobaFinite.lean ====
/-
  What the block attention's precondition says: every entry of the queries, of the keys and of the means is a real number.
-/
module
public import proofs.«01_k».proof.Pre_finite_keys
public import proofs.«01_k».proof.Proof.Finite

@[expose] public section
noncomputable section
open Idealize.ShloMosaic
namespace Cert.Moba
open Cert.Pre_finite_keys
open Cert.Merge (Real' real_of_below)

variable [Facts] (x0 x1 x2 : FVec Ideal S8x4096x512 .bf16) (x3 : FVec Ideal S8x16x512 .f32)

theorem queries_real (h : (fn x0 x1 x2 x3).1 = fun _ => 1#1) (b : Fin 8) (s : Fin 4096) (j : Fin 512) : Real' (x0 (ix3 b s j)) := by
  refine real_of_below ?_
  rw [← congrFun h (ix3 b s j)]
  unfold fn
  dsimp only
  pointwise []
  rfl

theorem keys_real (h : (fn x0 x1 x2 x3).2.1 = fun _ => 1#1) (b : Fin 8) (s : Fin 4096) (j : Fin 512) : Real' (x1 (ix3 b s j)) := by
  refine real_of_below ?_
  rw [← congrFun h (ix3 b s j)]
  unfold fn
  dsimp only
  pointwise []
  rfl

theorem means_real (h : (fn x0 x1 x2 x3).2.2 = fun _ => 1#1) (b : Fin 8) (n : Fin 16) (j : Fin 512) : Real' (x3 (ix3 b n j)) := by
  refine real_of_below ?_
  rw [← congrFun h (ix3 b n j)]
  unfold fn
  dsimp only
  pointwise []
  rfl

end Cert.Moba
end
-- ==== Proof.MobaClaim.lean ====
/-
  The block attention's claim: where the queries, the keys and the means are real, the kernel's array and the reference's
  result are the attention of the arguments, row by row of each head.
-/
module
public import proofs.«01_k».proof.Defs
public import proofs.«01_k».proof.Proof.Gen.MobaReferenceIdeal.Run
public import proofs.«01_k».proof.Proof.Gen.Pre_finite_keys
public import proofs.«01_k».proof.Proof.MobaArray
public import proofs.«01_k».proof.Proof.MobaSoft
public import proofs.«01_k».proof.Proof.MobaFinite
public import Idealize.ShloMosaic.Adequacy
public import Idealize.ShloMosaic.Init
public import Idealize.ShloMosaic.Lib.Quiescent

@[expose] public section
noncomputable section
namespace Cert.Proof
open Idealize.ShloMosaic Idealize.SL.Sem Cert.Merge

/-- The block attention reference's frame. -/
theorem frame_moba_reference : quiescent_MobaReferenceIdeal := fun m ρ _ =>
  (θ_run Cert.MobaReferenceIdeal.defs _ _).mono (fun r h => ⟨fun c => (h c).2, sem_eq_zero_of_no_sems (by decide) r.2⟩)
    (Cert.MobaReferenceIdeal.Value.run (F := Ideal) m ρ)

theorem real_ne_bot {x : EReal} (h : Real' x) : x ≠ ⊥ := by
  obtain ⟨r, rfl⟩ := h
  exact EReal.coe_ne_bot r

/-- The attention of a row, by the row's place in the sequence. -/
theorem attend_at (q k v : Fin 8 → Fin 4096 → Fin 512 → EReal) (km : Fin 8 → Fin 16 → Fin 512 → EReal) (b : Fin 8) (h : Fin 4)
    (own : Fin 16) (r : Fin 256) (e : Fin 128) (s : Fin 4096) (hs : s.val = 256 * own.val + r.val) :
    Cert.Moba.attend q k v km b h own r e
      = Cert.Moba.row own.val r.val (Cert.Moba.routing own.val fun n => ∑ d : Fin 128, q b s (Cert.Moba.col h d) * km b n (Cert.Moba.col h d))
          (fun j => ∑ d : Fin 128, q b s (Cert.Moba.col h d) * k b j (Cert.Moba.col h d)) (fun j => v b j (Cert.Moba.col h e)) := by
  rw [show s = ⟨256 * own.val + r.val, by omega⟩ from Fin.ext hs]
  rfl

theorem whole_at (m : (ℓ : Loc Cert.MobaKernelIdeal.nD Cert.MobaKernelIdeal.τ Cert.MobaKernelIdeal.sig) → Buf (Elt Ideal) ℓ)
    (c : Dev Cert.MobaKernelIdeal.nD) (b : Fin 8) (h : Fin 4) (s : Fin 4096) (e : Fin 128) :
    Cert.MobaKernelIdeal.Array.whole m c (ix3 b s (Cert.Moba.col h e))
      = Cert.MobaKernelIdeal.Array.resAt m c b h ⟨s.val / 256, by omega⟩ ⟨s.val % 256, by omega⟩ e := by
  have eh : (⟨(Cert.Moba.col h e).val / 128, by omega⟩ : Fin 4) = h := Fin.ext (by show (128 * h.val + e.val) / 128 = h.val; omega)
  have ee : (⟨(Cert.Moba.col h e).val % 128, by omega⟩ : Fin 128) = e := Fin.ext (by show (128 * h.val + e.val) % 128 = e.val; omega)
  show Cert.MobaKernelIdeal.Array.resAt m c b ⟨(Cert.Moba.col h e).val / 128, _⟩ ⟨s.val / 256, _⟩ ⟨s.val % 256, _⟩ ⟨(Cert.Moba.col h e).val % 128, _⟩ = _
  rw [eh, ee]

theorem algebraic_moba : algebraic_MobaKernelIdeal_MobaReferenceIdeal_pre_finite_keys := by
  intro m ρ m' ρ' hpre hagree
  refine ⟨_, Cert.MobaKernelIdeal.Value.run_blocks (F := Ideal) m ρ, ?_⟩
  refine (θ_run Cert.MobaReferenceIdeal.defs _ _).mono (fun _ h c => ⟨?_, (h c).2⟩) (Cert.MobaReferenceIdeal.Value.run (F := Ideal) m' ρ')
  obtain ⟨hq, hk, hn⟩ := hpre c
  refine ((h c).1.trans (Cert.MobaReferenceIdeal.Read.val_main_v75_eq m' c)).trans ?_
  obtain ⟨e0, e1, e2, e3⟩ := hagree c
  rw [e0, e1, e2, e3, Cert.MobaKernelIdeal.Array.result_eq m c (Cert.Moba.queries_real _ _ _ _ hq) (Cert.Moba.keys_real _ _ _ _ hk)]
  funext i
  obtain ⟨b, s, j, rfl⟩ : ∃ (b : Fin 8) (s : Fin 4096) (j : Fin 512), i = ix3 b s j :=
    ⟨i 0, i 1, i 2, funext fun a => by fin_cases a <;> rfl⟩
  obtain ⟨h', e, rfl⟩ : ∃ (h' : Fin 4) (e : Fin 128), j = Cert.Moba.col h' e :=
    ⟨⟨j.val / 128, by omega⟩, ⟨j.val % 128, by omega⟩, Fin.ext (by show j.val = 128 * (j.val / 128) + j.val % 128; omega)⟩
  refine (Cert.MobaReferenceIdeal.Rows.result_at _ _ _ _ b h' s
    (fun n => real_ne_bot (real_sum _ _ fun d => real_mul (Cert.Moba.queries_real _ _ _ _ hq _ _ _) (Cert.Moba.means_real _ _ _ _ hn _ _ _)))
    (fun k => real_sum _ _ fun d => real_mul (Cert.Moba.queries_real _ _ _ _ hq _ _ _) (Cert.Moba.keys_real _ _ _ _ hk _ _ _)) e).trans ?_
  exact ((whole_at m c b h' s e).trans (attend_at _ _ _ _ b h' _ _ e s (by show s.val = 256 * (s.val / 256) + s.val % 256; omega))).symm

end Cert.Proof
end
-- ==== Proof.lean ====
/-
  The certificate's claim. The frames are the launches' own; the value claim puts the kernel's array (`Array.result_at`)
  and the reference's result (`Rows.out_at`) side by side: both are the merge `mergeAt` of the arguments, the reference's
  where the precondition makes the attention's scores real. The claims of the two projections and of the gated linear
  attention are in their own modules.
-/
module

public import proofs.«01_k».proof.Defs
public import proofs.«01_k».proof.Proof.Gen.Kernel.Frame
public import proofs.«01_k».proof.Proof.Gen.KernelIdeal.Value
public import proofs.«01_k».proof.Proof.Gen.Pre_finite_scores
public import proofs.«01_k».proof.Proof.Gen.ReferenceIdeal.Run
public import proofs.«01_k».proof.Proof.Gen.ReferenceIdeal.Read
public import proofs.«01_k».proof.Proof.Gen.MemKernel.Frame
public import proofs.«01_k».proof.Proof.Gen.MemKernelIdeal.Value
public import proofs.«01_k».proof.Proof.Gen.MemReferenceIdeal.Run
public import proofs.«01_k».proof.Proof.Gen.MemReferenceIdeal.Read
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.GlaKernel.Frame
public import proofs.«01_k».proof.Proof.Gen.GlaKernelIdeal.Value
public import proofs.«01_k».proof.Proof.Gen.GlaReferenceIdeal.Run
public import proofs.«01_k».proof.Proof.Gen.GlaReferenceIdeal.Step
public import proofs.«01_k».proof.Proof.Gen.MobaKernel.Frame
public import proofs.«01_k».proof.Proof.Gen.MobaKernelIdeal.Value
public import proofs.«01_k».proof.Proof.Gen.MobaReferenceIdeal.Run
public import proofs.«01_k».proof.Proof.Gen.MobaReferenceIdeal.Read
public import proofs.«01_k».proof.Proof.Gen.Pre_finite_keys
public import proofs.«01_k».proof.Proof.Array
public import proofs.«01_k».proof.Proof.RefMerge
public import proofs.«01_k».proof.Proof.Finite
public import proofs.«01_k».proof.Proof.MemClaim
public import proofs.«01_k».proof.Proof.ProjClaim
public import proofs.«01_k».proof.Proof.GlaClaim
public import proofs.«01_k».proof.Proof.MobaClaim
public import Idealize.ShloMosaic.Adequacy
public import Idealize.ShloMosaic.Init
public import Idealize.ShloMosaic.Lib.Quiescent

@[expose] public section

noncomputable section

namespace Cert.Proof

open Idealize.ShloMosaic Idealize.SL.Sem Cert.Merge

/-- The reference's frame: its arguments are left as they were, and it declares no semaphore. -/
theorem frame_reference_all : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the memory attention's scores are made of reals, the kernel's array is the reference's result. -/
theorem algebraic_merge : algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hg, hw, hk⟩ := hpre c
  refine ((h c).1.trans (Cert.ReferenceIdeal.Read.val_main_v345_eq (StableHlo.launchContents m' c))).trans ?_
  repeat rw [StableHlo.launchContents_devRef]
  obtain ⟨e0, e1, e2, e3, e4, e5, e6, e7, e8, e9, e10, e11, e12, e13⟩ := hagree c
  rw [e0, e1, e2, e3, e4, e5, e6, e7, e8, e9, e10, e11, e12, e13]
  funext i
  obtain ⟨b, s, d, rfl⟩ : ∃ (b : Fin 8) (s : Fin 4096) (d : Fin 1024), i = ix3 b s d :=
    ⟨i 0, i 1, i 2, funext fun a => by fin_cases a <;> rfl⟩
  refine (Cert.ReferenceIdeal.Rows.out_at _ _ _ _ _ _ _ _ _ _ _ _ _ _ (fun k => gain_real _ _ _ _ _ _ _ _ _ _ _ _ _ _ hg k)
    (fun k q => ?_) (fun b j q => keys_real _ _ _ _ _ _ _ _ _ _ _ _ _ _ hk b j q) b s d).trans (Cert.KernelIdeal.Array.result_at m c b s d).symm
  have hq := query_real _ _ _ _ _ _ _ _ _ _ _ _ _ _ hw k q
  rw [← Cert.ReferenceIdeal.Rows.wcol_at 512 q.val (by omega)] at hq
  exact hq

theorem claim : Cert.Claim := ⟨Cert.Kernel.Gen.facts, Cert.KernelIdeal.Gen.facts, Cert.ReferenceIdeal.Gen.facts, Cert.MemKernel.Gen.facts,
  Cert.MemKernelIdeal.Gen.facts, Cert.MemReferenceIdeal.Gen.facts, Cert.ProjKernel.Gen.facts, Cert.ProjKernelIdeal.Gen.facts,
  Cert.ProjReferenceIdeal.Gen.facts, Cert.GlaKernel.Gen.facts, Cert.GlaKernelIdeal.Gen.facts, Cert.GlaReferenceIdeal.Gen.facts,
  Cert.MobaKernel.Gen.facts, Cert.MobaKernelIdeal.Gen.facts, Cert.MobaReferenceIdeal.Gen.facts,
  Cert.Pre_finite_scores.Gen.facts, Cert.Pre_finite_keys.Gen.facts,
  fun m ρ _ => Cert.Kernel.Gen.frame m ρ, fun m ρ _ => Cert.KernelIdeal.Gen.frame m ρ, fun m ρ _ => Cert.KernelIdeal.Gen.frame m ρ,
  frame_reference_all, fun m ρ _ => frame_reference_all m ρ trivial,
  fun m ρ _ => Cert.MemKernel.Gen.frame m ρ, fun m ρ _ => Cert.MemKernelIdeal.Gen.frame m ρ, frame_mem_reference,
  fun m ρ _ => Cert.ProjKernel.Gen.frame m ρ, fun m ρ _ => Cert.ProjKernelIdeal.Gen.frame m ρ, frame_proj_reference,
  fun m ρ _ => Cert.GlaKernel.Gen.frame m ρ, fun m ρ _ => Cert.GlaKernelIdeal.Gen.frame m ρ, frame_gla_reference,
  fun m ρ _ => Cert.MobaKernel.Gen.frame m ρ, fun m ρ _ => Cert.MobaKernelIdeal.Gen.frame m ρ, fun m ρ _ => Cert.MobaKernelIdeal.Gen.frame m ρ,
  frame_moba_reference, fun m ρ _ => frame_moba_reference m ρ trivial,
  (trivial : preserves_Kernel_KernelIdeal), algebraic_merge,
  (trivial : preserves_MemKernel_MemKernelIdeal), algebraic_mem,
  (trivial : preserves_ProjKernel_ProjKernelIdeal), algebraic_proj,
  (trivial : preserves_GlaKernel_GlaKernelIdeal), algebraic_gla,
  (trivial : preserves_MobaKernel_MobaKernelIdeal), algebraic_moba⟩

end Cert.Proof

end
